-- ==== Defs.lean ====
def Pre_Kernel [hPre_colours : Cert.Pre_colours.Facts] (m : (ℓ : Loc Cert.Kernel.nD Cert.Kernel.τ Cert.Kernel.sig) → Buf (Elt Bits) ℓ) : Prop :=
  ∀ c : Dev Cert.Kernel.nD,
    (Cert.Pre_colours.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_colours : Cert.Pre_colours.Facts] (m : (ℓ : Loc Cert.KernelIdeal.nD Cert.KernelIdeal.τ Cert.KernelIdeal.sig) → Buf (Elt Ideal) ℓ) : Prop :=
  ∀ c : Dev Cert.KernelIdeal.nD,
    (Cert.Pre_colours.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_colours [hPre_colours : Cert.Pre_colours.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_colours.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_colours : Cert.Pre_colours.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_colours : Cert.Pre_colours.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_colours [hReferenceIdeal : Cert.ReferenceIdeal.Facts] [hPre_colours : Cert.Pre_colours.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_colours m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_colours : Cert.Pre_colours.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_colours : Cert.Pre_colours.Facts),
    quiescent_Kernel (hKernel := hKernel) (hPre_colours := hPre_colours)
    ∧ quiescent_KernelIdeal (hKernelIdeal := hKernelIdeal) (hPre_colours := hPre_colours)
    ∧ quiescent_ReferenceIdeal (hReferenceIdeal := hReferenceIdeal)
    ∧ quiescent_ReferenceIdeal_pre_colours (hReferenceIdeal := hReferenceIdeal) (hPre_colours := hPre_colours)
    ∧ preserves_Kernel_KernelIdeal
    ∧ algebraic_KernelIdeal_ReferenceIdeal (hKernelIdeal := hKernelIdeal) (hReferenceIdeal := hReferenceIdeal) (hPre_colours := hPre_colours)
-- ==== Pre_colours.lean ====
abbrev S16x3x100x27x48 : Shape := ⟨5, ![16, 3, 100, 27, 48]⟩
abbrev S128x101 : Shape := ⟨2, ![128, 101]⟩
abbrev S128 : Shape := ⟨1, ![128]⟩
abbrev S_ : Shape := ⟨0, ![]⟩

class Facts : Prop where
  bcast_S_S16x3x100x27x48 : S_.BroadcastsInDim S16x3x100x27x48 (![] : Fin 0 → Fin S16x3x100x27x48.rank)

variable [Facts]

def fn {F : FTy → Type} [FloatOps F] (main_arg0 : IVec S16x3x100x27x48 32) (main_arg1 : FVec F S128x101 .f32) (main_arg2 : FVec F S128 .f32) : IVec S16x3x100x27x48 1 :=
  let main_c : IVec S_ 32 := constantI S_ 32 0#32
  let main_v0 : IVec S16x3x100x27x48 32 := broadcastInDim S16x3x100x27x48 ![] bcast_S_S16x3x100x27x48 main_c
  let main_v1 : IVec S16x3x100x27x48 1 := cmpi .sge main_arg0 main_v0
  let main_c_0 : IVec S_ 32 := constantI S_ 32 255#32
  let main_v2 : IVec S16x3x100x27x48 32 := broadcastInDim S16x3x100x27x48 ![] bcast_S_S16x3x100x27x48 main_c_0
  let main_v3 : IVec S16x3x100x27x48 1 := cmpi .sle main_arg0 main_v2
  let main_v4 : IVec S16x3x100x27x48 1 := andi main_v1 main_v3
  main_v4
-- ==== Kernel.lean ====
abbrev S16x3x100x27x48 : Shape := ⟨5, ![16, 3, 100, 27, 48]⟩
abbrev S128x101 : Shape := ⟨2, ![128, 101]⟩
abbrev S128 : Shape := ⟨1, ![128]⟩
abbrev S16x3x129600 : Shape := ⟨3, ![16, 3, 129600]⟩
abbrev S16x100x2048 : Shape := ⟨3, ![16, 100, 2048]⟩
abbrev S31104 : Shape := ⟨1, ![31104]⟩
abbrev S16384 : Shape := ⟨1, ![16384]⟩
abbrev S_ : Shape := ⟨0, ![]⟩
abbrev S16 : Shape := ⟨1, ![16]⟩
abbrev S5184 : Shape := ⟨1, ![5184]⟩
abbrev S1x1x5184 : Shape := ⟨3, ![1, 1, 5184]⟩
abbrev S2048 : Shape := ⟨1, ![2048]⟩
abbrev S1x1x2048 : Shape := ⟨3, ![1, 1, 2048]⟩
abbrev S128x128 : Shape := ⟨2, ![128, 128]⟩
abbrev S1 : Shape := ⟨1, ![1]⟩
abbrev S1x128 : Shape := ⟨2, ![1, 128]⟩
abbrev S16x100x128 : Shape := ⟨3, ![16, 100, 128]⟩
abbrev S1x100x2048 : Shape := ⟨3, ![1, 100, 2048]⟩
abbrev S1x100x128 : Shape := ⟨3, ![1, 100, 128]⟩
abbrev S100x2048 : Shape := ⟨2, ![100, 2048]⟩
abbrev S100x512 : Shape := ⟨2, ![100, 512]⟩
abbrev S100 : Shape := ⟨1, ![100]⟩
abbrev S100x1 : Shape := ⟨2, ![100, 1]⟩
abbrev S100x100 : Shape := ⟨2, ![100, 100]⟩
abbrev S100x50 : Shape := ⟨2, ![100, 50]⟩
abbrev S100x106 : Shape := ⟨2, ![100, 106]⟩
abbrev S100x256 : Shape := ⟨2, ![100, 256]⟩
abbrev S100x255 : Shape := ⟨2, ![100, 255]⟩
abbrev S100x254 : Shape := ⟨2, ![100, 254]⟩
abbrev S100x2 : Shape := ⟨2, ![100, 2]⟩
abbrev S100x252 : Shape := ⟨2, ![100, 252]⟩
abbrev S100x4 : Shape := ⟨2, ![100, 4]⟩
abbrev S100x248 : Shape := ⟨2, ![100, 248]⟩
abbrev S100x8 : Shape := ⟨2, ![100, 8]⟩
abbrev S100x240 : Shape := ⟨2, ![100, 240]⟩
abbrev S100x16 : Shape := ⟨2, ![100, 16]⟩
abbrev S100x224 : Shape := ⟨2, ![100, 224]⟩
abbrev S100x32 : Shape := ⟨2, ![100, 32]⟩
abbrev S100x192 : Shape := ⟨2, ![100, 192]⟩
abbrev S100x64 : Shape := ⟨2, ![100, 64]⟩
abbrev S100x128 : Shape := ⟨2, ![100, 128]⟩

abbrev nBuf : Table → Nat
  | .hbm => 12
  | .local .tc .vmem => 6
  | .local .scVector .vmem => 2
  | _ => 0

abbrev bufTy : (tb : Table) → Fin (nBuf tb) → BufTy
  | .hbm, ⟨0, _⟩ => ⟨S16x3x100x27x48, .i32⟩
  | .hbm, ⟨1, _⟩ => ⟨S128x101, .f32⟩
  | .hbm, ⟨2, _⟩ => ⟨S128, .f32⟩
  | .hbm, ⟨3, _⟩ => ⟨S16x3x129600, .i32⟩
  | .hbm, ⟨4, _⟩ => ⟨S16x100x2048, .f32⟩
  | .hbm, ⟨5, _⟩ => ⟨S_, .f32⟩
  | .hbm, ⟨6, _⟩ => ⟨S128x128, .f32⟩
  | .hbm, ⟨7, _⟩ => ⟨S_, .i32⟩
  | .hbm, ⟨8, _⟩ => ⟨S1, .i32⟩
  | .hbm, ⟨9, _⟩ => ⟨S128x128, .f32⟩
  | .hbm, ⟨10, _⟩ => ⟨S1x128, .f32⟩
  | .hbm, ⟨11, _⟩ => ⟨S16x100x128, .f32⟩
  | .local .tc .vmem, ⟨0, _⟩ => ⟨S1x100x2048, .f32⟩
  | .local .tc .vmem, ⟨1, _⟩ => ⟨S1x100x2048, .f32⟩
  | .local .tc .vmem, ⟨2, _⟩ => ⟨S128x128, .f32⟩
  | .local .tc .vmem, ⟨3, _⟩ => ⟨S1x128, .f32⟩
  | .local .tc .vmem, ⟨4, _⟩ => ⟨S1x100x128, .f32⟩
  | .local .tc .vmem, ⟨5, _⟩ => ⟨S1x100x128, .f32⟩
  | .local .scVector .vmem, ⟨0, _⟩ => ⟨S31104, .i32⟩
  | .local .scVector .vmem, ⟨1, _⟩ => ⟨S16384, .f32⟩
  | _, _ => ⟨S16x3x100x27x48, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => true
  | ⟨3, _⟩ => true
  | ⟨4, _⟩ => true
  | ⟨5, _⟩ => true
  | ⟨6, _⟩ => true
  | ⟨7, _⟩ => true
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v0_scv : Ref sig .scVector := ⟨.hbm, 3, rfl⟩
abbrev main_v1_scv : Ref sig .scVector := ⟨.hbm, 4, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg3_1 : Ref sig .tc := ⟨.vmem, 5, rfl⟩
abbrev cc0_scratch0 : Ref sig .scVector := ⟨.vmem, 0, rfl⟩
abbrev cc0_scratch1 : Ref sig .scVector := ⟨.vmem, 1, rfl⟩
abbrev cc1_sem0_0 : DmaSem sig := 2
abbrev cc1_sem0_1 : DmaSem sig := 3
abbrev cc1_sem1_0 : DmaSem sig := 4
abbrev cc1_sem2_0 : DmaSem sig := 5
abbrev cc1_sem3_0 : DmaSem sig := 6
abbrev cc1_sem3_1 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v14 : BitVec 32 := Scalar.addi v1 c0_i32
  let c399_i32 : BitVec 32 := 399#32
  let v15 : BitVec 32 := Scalar.minsi v14 c399_i32
  let c0_i32_2 : BitVec 32 := 0#32
  let v17 : BitVec 1 := Scalar.cmpi .sgt v15 c0_i32_2
  let v18 : BitVec 32 := Scalar.extui v17
  let c0_i32_3 : BitVec 32 := 0#32
  let v19 : BitVec 1 := Scalar.cmpi .slt v15 c0_i32_3
  let v20 : BitVec 32 := Scalar.extui v19
  let v21 : BitVec 32 := Scalar.subi v18 v20
  let c25_i32 : BitVec 32 := 25#32
  let c0_i32_4 : BitVec 32 := 0#32
  let v22 : BitVec 1 := Scalar.cmpi .sgt c25_i32 c0_i32_4
  let v23 : BitVec 32 := Scalar.extui v22
  let c0_i32_5 : BitVec 32 := 0#32
  let v24 : BitVec 1 := Scalar.cmpi .slt c25_i32 c0_i32_5
  let v25 : BitVec 32 := Scalar.extui v24
  let v26 : BitVec 32 := Scalar.subi v23 v25
  let v27 : BitVec 1 := Scalar.cmpi .ne v21 v26
  let v28 : BitVec 32 := Scalar.remsi v15 c25_i32
  let c0_i32_6 : BitVec 32 := 0#32
  let v29 : BitVec 1 := Scalar.cmpi .ne v28 c0_i32_6
  let v30 : BitVec 1 := Scalar.andi v27 v29
  let v16 : BitVec 32 := Scalar.divsi v15 c25_i32
  let c1_i32 : BitVec 32 := 1#32
  let v31 : BitVec 32 := Scalar.subi v16 c1_i32
  let v32 : BitVec 32 := Scalar.select v30 v31 v16
  let c0_i32_14 : BitVec 32 := 0#32
  let c25_i32_7 : BitVec 32 := 25#32
  let c0_i32_8 : BitVec 32 := 0#32
  let v33 : BitVec 1 := Scalar.cmpi .eq c25_i32_7 c0_i32_8
  let c1_i32_9 : BitVec 32 := 1#32
  let v34 : BitVec 32 := Scalar.select v33 c1_i32_9 c25_i32_7
  let v35 : BitVec 32 := Scalar.remsi v15 v34
  let c0_i32_11 : BitVec 32 := 0#32
  let v37 : BitVec 1 := Scalar.cmpi .slt v35 c0_i32_11
  let c0_i32_12 : BitVec 32 := 0#32
  let v38 : BitVec 1 := Scalar.cmpi .slt v34 c0_i32_12
  let v39 : BitVec 1 := Scalar.xori v37 v38
  let c0_i32_10 : BitVec 32 := 0#32
  let v36 : BitVec 1 := Scalar.cmpi .ne v35 c0_i32_10
  let v40 : BitVec 1 := Scalar.andi v39 v36
  let v41 : BitVec 32 := Scalar.addi v35 v34
  let v42 : BitVec 32 := Scalar.select v40 v41 v35
  let c4_i32 : BitVec 32 := 4#32
  let v43 : BitVec 32 := Scalar.muli v42 c4_i32
  let c1296_i32_13 : BitVec 32 := 1296#32
  let v44 : BitVec 32 := Scalar.muli v43 c1296_i32_13
  ![v32.toNat, 0, v44.toNat]
def k0_off2 (i : grid0.Coords) (c0_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v14 : BitVec 32 := Scalar.addi v1 c0_i32
  let c399_i32 : BitVec 32 := 399#32
  let v15 : BitVec 32 := Scalar.minsi v14 c399_i32
  let c0_i32_2 : BitVec 32 := 0#32
  let v17 : BitVec 1 := Scalar.cmpi .sgt v15 c0_i32_2
  let v18 : BitVec 32 := Scalar.extui v17
  let c0_i32_3 : BitVec 32 := 0#32
  let v19 : BitVec 1 := Scalar.cmpi .slt v15 c0_i32_3
  let v20 : BitVec 32 := Scalar.extui v19
  let v21 : BitVec 32 := Scalar.subi v18 v20
  let c25_i32 : BitVec 32 := 25#32
  let c0_i32_4 : BitVec 32 := 0#32
  let v22 : BitVec 1 := Scalar.cmpi .sgt c25_i32 c0_i32_4
  let v23 : BitVec 32 := Scalar.extui v22
  let c0_i32_5 : BitVec 32 := 0#32
  let v24 : BitVec 1 := Scalar.cmpi .slt c25_i32 c0_i32_5
  let v25 : BitVec 32 := Scalar.extui v24
  let v26 : BitVec 32 := Scalar.subi v23 v25
  let v27 : BitVec 1 := Scalar.cmpi .ne v21 v26
  let v28 : BitVec 32 := Scalar.remsi v15 c25_i32
  let c0_i32_6 : BitVec 32 := 0#32
  let v29 : BitVec 1 := Scalar.cmpi .ne v28 c0_i32_6
  let v30 : BitVec 1 := Scalar.andi v27 v29
  let v16 : BitVec 32 := Scalar.divsi v15 c25_i32
  let c1_i32 : BitVec 32 := 1#32
  let v31 : BitVec 32 := Scalar.subi v16 c1_i32
  let v32 : BitVec 32 := Scalar.select v30 v31 v16
  let c1_i32_18 : BitVec 32 := 1#32
  let c25_i32_7 : BitVec 32 := 25#32
  let c0_i32_8 : BitVec 32 := 0#32
  let v33 : BitVec 1 := Scalar.cmpi .eq c25_i32_7 c0_i32_8
  let c1_i32_9 : BitVec 32 := 1#32
  let v34 : BitVec 32 := Scalar.select v33 c1_i32_9 c25_i32_7
  let v35 : BitVec 32 := Scalar.remsi v15 v34
  let c0_i32_11 : BitVec 32 := 0#32
  let v37 : BitVec 1 := Scalar.cmpi .slt v35 c0_i32_11
  let c0_i32_12 : BitVec 32 := 0#32
  let v38 : BitVec 1 := Scalar.cmpi .slt v34 c0_i32_12
  let v39 : BitVec 1 := Scalar.xori v37 v38
  let c0_i32_10 : BitVec 32 := 0#32
  let v36 : BitVec 1 := Scalar.cmpi .ne v35 c0_i32_10
  let v40 : BitVec 1 := Scalar.andi v39 v36
  let v41 : BitVec 32 := Scalar.addi v35 v34
  let v42 : BitVec 32 := Scalar.select v40 v41 v35
  let c4_i32 : BitVec 32 := 4#32
  let v43 : BitVec 32 := Scalar.muli v42 c4_i32
  let c1296_i32_17 : BitVec 32 := 1296#32
  let v51 : BitVec 32 := Scalar.muli v43 c1296_i32_17
  ![v32.toNat, 1, v51.toNat]
def k0_off3 (i : grid0.Coords) (c0_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v14 : BitVec 32 := Scalar.addi v1 c0_i32
  let c399_i32 : BitVec 32 := 399#32
  let v15 : BitVec 32 := Scalar.minsi v14 c399_i32
  let c0_i32_2 : BitVec 32 := 0#32
  let v17 : BitVec 1 := Scalar.cmpi .sgt v15 c0_i32_2
  let v18 : BitVec 32 := Scalar.extui v17
  let c0_i32_3 : BitVec 32 := 0#32
  let v19 : BitVec 1 := Scalar.cmpi .slt v15 c0_i32_3
  let v20 : BitVec 32 := Scalar.extui v19
  let v21 : BitVec 32 := Scalar.subi v18 v20
  let c25_i32 : BitVec 32 := 25#32
  let c0_i32_4 : BitVec 32 := 0#32
  let v22 : BitVec 1 := Scalar.cmpi .sgt c25_i32 c0_i32_4
  let v23 : BitVec 32 := Scalar.extui v22
  let c0_i32_5 : BitVec 32 := 0#32
  let v24 : BitVec 1 := Scalar.cmpi .slt c25_i32 c0_i32_5
  let v25 : BitVec 32 := Scalar.extui v24
  let v26 : BitVec 32 := Scalar.subi v23 v25
  let v27 : BitVec 1 := Scalar.cmpi .ne v21 v26
  let v28 : BitVec 32 := Scalar.remsi v15 c25_i32
  let c0_i32_6 : BitVec 32 := 0#32
  let v29 : BitVec 1 := Scalar.cmpi .ne v28 c0_i32_6
  let v30 : BitVec 1 := Scalar.andi v27 v29
  let v16 : BitVec 32 := Scalar.divsi v15 c25_i32
  let c1_i32 : BitVec 32 := 1#32
  let v31 : BitVec 32 := Scalar.subi v16 c1_i32
  let v32 : BitVec 32 := Scalar.select v30 v31 v16
  let c2_i32_21 : BitVec 32 := 2#32
  let c25_i32_7 : BitVec 32 := 25#32
  let c0_i32_8 : BitVec 32 := 0#32
  let v33 : BitVec 1 := Scalar.cmpi .eq c25_i32_7 c0_i32_8
  let c1_i32_9 : BitVec 32 := 1#32
  let v34 : BitVec 32 := Scalar.select v33 c1_i32_9 c25_i32_7
  let v35 : BitVec 32 := Scalar.remsi v15 v34
  let c0_i32_11 : BitVec 32 := 0#32
  let v37 : BitVec 1 := Scalar.cmpi .slt v35 c0_i32_11
  let c0_i32_12 : BitVec 32 := 0#32
  let v38 : BitVec 1 := Scalar.cmpi .slt v34 c0_i32_12
  let v39 : BitVec 1 := Scalar.xori v37 v38
  let c0_i32_10 : BitVec 32 := 0#32
  let v36 : BitVec 1 := Scalar.cmpi .ne v35 c0_i32_10
  let v40 : BitVec 1 := Scalar.andi v39 v36
  let v41 : BitVec 32 := Scalar.addi v35 v34
  let v42 : BitVec 32 := Scalar.select v40 v41 v35
  let c4_i32 : BitVec 32 := 4#32
  let v43 : BitVec 32 := Scalar.muli v42 c4_i32
  let c1296_i32_20 : BitVec 32 := 1296#32
  let v58 : BitVec 32 := Scalar.muli v43 c1296_i32_20
  ![v32.toNat, 2, v58.toNat]
@[reducible] def k0_t1_loop : Scf.Loop 32 :=
  let c0_i32_40 : BitVec 32 := 0#32
  let c32_i32 : BitVec 32 := 32#32
  let v95 : BitVec 32 := Scalar.addi c0_i32_40 c32_i32
  let c1_i32_41 : BitVec 32 := 1#32
  ⟨c0_i32_40, v95, c1_i32_41⟩
def k0_off4 (k0_t1 : Fin k0_t1_loop.trips) (c0_i32_1261 : BitVec 32) : Fin 1 → Nat :=
  let c0_i32_1260 : BitVec 32 := 0#32
  let c0_i32_40 : BitVec 32 := 0#32
  let c1_i32_41 : BitVec 32 := 1#32
  let arg8 : BitVec 32 := Scf.iv c0_i32_40 c1_i32_41 k0_t1
  let c256_i32_1259 : BitVec 32 := 256#32
  let v2029 : BitVec 32 := Scalar.muli arg8 c256_i32_1259
  let v2030 : BitVec 32 := Scalar.addi c0_i32_1260 v2029
  let v2031 : BitVec 32 := Scalar.addi v2030 c0_i32_1261
  let v2032 : Index := Scalar.indexCast v2031
  ![v2032.toNat]
@[reducible] def k0_t2_loop : Scf.Loop 32 :=
  let c0_i32_78 : BitVec 32 := 0#32
  let c81_i32 : BitVec 32 := 81#32
  let v166 : BitVec 32 := Scalar.addi c0_i32_78 c81_i32
  let c1_i32_79 : BitVec 32 := 1#32
  ⟨c0_i32_78, v166, c1_i32_79⟩

def k0_chk1 (v2033 : IVec S16 32) : Prop :=
  (∀ a x, ((![v2033] : Fin 1 → IVec S16 32) a x).toNat < S31104.size a)
theorem k0_idx1_inb : ∀ (v2033 : IVec S16 32) (k0_hw1 : k0_chk1 v2033), ∀ a x, ((![v2033] : Fin 1 → IVec S16 32) a x).toNat < S31104.size a := fun v2033 k0_hw1 => k0_hw1

def k0_chk2 (v2037 : IVec S16 32) : Prop :=
  (∀ a x, ((![v2037] : Fin 1 → IVec S16 32) a x).toNat < S31104.size a)
theorem k0_idx2_inb : ∀ (v2037 : IVec S16 32) (k0_hw2 : k0_chk2 v2037), ∀ a x, ((![v2037] : Fin 1 → IVec S16 32) a x).toNat < S31104.size a := fun v2037 k0_hw2 => k0_hw2

def k0_chk3 (v2041 : IVec S16 32) : Prop :=
  (∀ a x, ((![v2041] : Fin 1 → IVec S16 32) a x).toNat < S31104.size a)
theorem k0_idx3_inb : ∀ (v2041 : IVec S16 32) (k0_hw3 : k0_chk3 v2041), ∀ a x, ((![v2041] : Fin 1 → IVec S16 32) a x).toNat < S31104.size a := fun v2041 k0_hw3 => k0_hw3

def k0_chk4 (v2057 : IVec S16 32) : Prop :=
  (∀ a x, ((![v2057] : Fin 1 → IVec S16 32) a x).toNat < S16384.size a)
theorem k0_idx4_inb : ∀ (v2057 : IVec S16 32) (k0_hw4 : k0_chk4 v2057), ∀ a x, ((![v2057] : Fin 1 → IVec S16 32) a x).toNat < S16384.size a := fun v2057 k0_hw4 => k0_hw4

def k0_chk5 (v2062 : IVec S16 32) : Prop :=
  (∀ a x, ((![v2062] : Fin 1 → IVec S16 32) a x).toNat < S31104.size a)
theorem k0_idx5_inb : ∀ (v2062 : IVec S16 32) (k0_hw5 : k0_chk5 v2062), ∀ a x, ((![v2062] : Fin 1 → IVec S16 32) a x).toNat < S31104.size a := fun v2062 k0_hw5 => k0_hw5

def k0_chk6 (v2066 : IVec S16 32) : Prop :=
  (∀ a x, ((![v2066] : Fin 1 → IVec S16 32) a x).toNat < S31104.size a)
theorem k0_idx6_inb : ∀ (v2066 : IVec S16 32) (k0_hw6 : k0_chk6 v2066), ∀ a x, ((![v2066] : Fin 1 → IVec S16 32) a x).toNat < S31104.size a := fun v2066 k0_hw6 => k0_hw6

def k0_chk7 (v2070 : IVec S16 32) : Prop :=
  (∀ a x, ((![v2070] : Fin 1 → IVec S16 32) a x).toNat < S31104.size a)
theorem k0_idx7_inb : ∀ (v2070 : IVec S16 32) (k0_hw7 : k0_chk7 v2070), ∀ a x, ((![v2070] : Fin 1 → IVec S16 32) a x).toNat < S31104.size a := fun v2070 k0_hw7 => k0_hw7

def k0_chk8 (v2086 : IVec S16 32) : Prop :=
  (∀ a x, ((![v2086] : Fin 1 → IVec S16 32) a x).toNat < S16384.size a)
theorem k0_idx8_inb : ∀ (v2086 : IVec S16 32) (k0_hw8 : k0_chk8 v2086), ∀ a x, ((![v2086] : Fin 1 → IVec S16 32) a x).toNat < S16384.size a := fun v2086 k0_hw8 => k0_hw8

def k0_chk9 (v2091 : IVec S16 32) : Prop :=
  (∀ a x, ((![v2091] : Fin 1 → IVec S16 32) a x).toNat < S31104.size a)
theorem k0_idx9_inb : ∀ (v2091 : IVec S16 32) (k0_hw9 : k0_chk9 v2091), ∀ a x, ((![v2091] : Fin 1 → IVec S16 32) a x).toNat < S31104.size a := fun v2091 k0_hw9 => k0_hw9

def k0_chk10 (v2095 : IVec S16 32) : Prop :=
  (∀ a x, ((![v2095] : Fin 1 → IVec S16 32) a x).toNat < S31104.size a)
theorem k0_idx10_inb : ∀ (v2095 : IVec S16 32) (k0_hw10 : k0_chk10 v2095), ∀ a x, ((![v2095] : Fin 1 → IVec S16 32) a x).toNat < S31104.size a := fun v2095 k0_hw10 => k0_hw10

def k0_chk11 (v2099 : IVec S16 32) : Prop :=
  (∀ a x, ((![v2099] : Fin 1 → IVec S16 32) a x).toNat < S31104.size a)
theorem k0_idx11_inb : ∀ (v2099 : IVec S16 32) (k0_hw11 : k0_chk11 v2099), ∀ a x, ((![v2099] : Fin 1 → IVec S16 32) a x).toNat < S31104.size a := fun v2099 k0_hw11 => k0_hw11

def k0_chk12 (v2115 : IVec S16 32) : Prop :=
  (∀ a x, ((![v2115] : Fin 1 → IVec S16 32) a x).toNat < S16384.size a)
theorem k0_idx12_inb : ∀ (v2115 : IVec S16 32) (k0_hw12 : k0_chk12 v2115), ∀ a x, ((![v2115] : Fin 1 → IVec S16 32) a x).toNat < S16384.size a := fun v2115 k0_hw12 => k0_hw12

def k0_chk13 (v2120 : IVec S16 32) : Prop :=
  (∀ a x, ((![v2120] : Fin 1 → IVec S16 32) a x).toNat < S31104.size a)
theorem k0_idx13_inb : ∀ (v2120 : IVec S16 32) (k0_hw13 : k0_chk13 v2120), ∀ a x, ((![v2120] : Fin 1 → IVec S16 32) a x).toNat < S31104.size a := fun v2120 k0_hw13 => k0_hw13

def k0_chk14 (v2124 : IVec S16 32) : Prop :=
  (∀ a x, ((![v2124] : Fin 1 → IVec S16 32) a x).toNat < S31104.size a)
theorem k0_idx14_inb : ∀ (v2124 : IVec S16 32) (k0_hw14 : k0_chk14 v2124), ∀ a x, ((![v2124] : Fin 1 → IVec S16 32) a x).toNat < S31104.size a := fun v2124 k0_hw14 => k0_hw14

def k0_chk15 (v2128 : IVec S16 32) : Prop :=
  (∀ a x, ((![v2128] : Fin 1 → IVec S16 32) a x).toNat < S31104.size a)
theorem k0_idx15_inb : ∀ (v2128 : IVec S16 32) (k0_hw15 : k0_chk15 v2128), ∀ a x, ((![v2128] : Fin 1 → IVec S16 32) a x).toNat < S31104.size a := fun v2128 k0_hw15 => k0_hw15

def k0_chk16 (v2144 : IVec S16 32) : Prop :=
  (∀ a x, ((![v2144] : Fin 1 → IVec S16 32) a x).toNat < S16384.size a)
theorem k0_idx16_inb : ∀ (v2144 : IVec S16 32) (k0_hw16 : k0_chk16 v2144), ∀ a x, ((![v2144] : Fin 1 → IVec S16 32) a x).toNat < S16384.size a := fun v2144 k0_hw16 => k0_hw16
def k0_off5 (i : grid0.Coords) (c0_i32_23 : BitVec 32) (c0_i32_81 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v65 : BitVec 32 := Scalar.addi v1 c0_i32_23
  let c399_i32_24 : BitVec 32 := 399#32
  let v66 : BitVec 32 := Scalar.minsi v65 c399_i32_24
  let c0_i32_26 : BitVec 32 := 0#32
  let v68 : BitVec 1 := Scalar.cmpi .sgt v66 c0_i32_26
  let v69 : BitVec 32 := Scalar.extui v68
  let c0_i32_27 : BitVec 32 := 0#32
  let v70 : BitVec 1 := Scalar.cmpi .slt v66 c0_i32_27
  let v71 : BitVec 32 := Scalar.extui v70
  let v72 : BitVec 32 := Scalar.subi v69 v71
  let c25_i32_25 : BitVec 32 := 25#32
  let c0_i32_28 : BitVec 32 := 0#32
  let v73 : BitVec 1 := Scalar.cmpi .sgt c25_i32_25 c0_i32_28
  let v74 : BitVec 32 := Scalar.extui v73
  let c0_i32_29 : BitVec 32 := 0#32
  let v75 : BitVec 1 := Scalar.cmpi .slt c25_i32_25 c0_i32_29
  let v76 : BitVec 32 := Scalar.extui v75
  let v77 : BitVec 32 := Scalar.subi v74 v76
  let v78 : BitVec 1 := Scalar.cmpi .ne v72 v77
  let v79 : BitVec 32 := Scalar.remsi v66 c25_i32_25
  let c0_i32_30 : BitVec 32 := 0#32
  let v80 : BitVec 1 := Scalar.cmpi .ne v79 c0_i32_30
  let v81 : BitVec 1 := Scalar.andi v78 v80
  let v67 : BitVec 32 := Scalar.divsi v66 c25_i32_25
  let c1_i32_31 : BitVec 32 := 1#32
  let v82 : BitVec 32 := Scalar.subi v67 c1_i32_31
  let v83 : BitVec 32 := Scalar.select v81 v82 v67
  let c25_i32_32 : BitVec 32 := 25#32
  let c0_i32_33 : BitVec 32 := 0#32
  let v84 : BitVec 1 := Scalar.cmpi .eq c25_i32_32 c0_i32_33
  let c1_i32_34 : BitVec 32 := 1#32
  let v85 : BitVec 32 := Scalar.select v84 c1_i32_34 c25_i32_32
  let v86 : BitVec 32 := Scalar.remsi v66 v85
  let c0_i32_36 : BitVec 32 := 0#32
  let v88 : BitVec 1 := Scalar.cmpi .slt v86 c0_i32_36
  let c0_i32_37 : BitVec 32 := 0#32
  let v89 : BitVec 1 := Scalar.cmpi .slt v85 c0_i32_37
  let v90 : BitVec 1 := Scalar.xori v88 v89
  let c0_i32_35 : BitVec 32 := 0#32
  let v87 : BitVec 1 := Scalar.cmpi .ne v86 c0_i32_35
  let v91 : BitVec 1 := Scalar.andi v90 v87
  let v92 : BitVec 32 := Scalar.addi v86 v85
  let v93 : BitVec 32 := Scalar.select v91 v92 v86
  let c4_i32_38 : BitVec 32 := 4#32
  let v94 : BitVec 32 := Scalar.muli v93 c4_i32_38
  let v168 : BitVec 32 := Scalar.addi v94 c0_i32_81
  let c0_i32_83 : BitVec 32 := 0#32
  ![v83.toNat, v168.toNat, 0]
@[reducible] def k0_t3_loop : Scf.Loop 32 :=
  let c0_i32_131 : BitVec 32 := 0#32
  let c32_i32_132 : BitVec 32 := 32#32
  let v250 : BitVec 32 := Scalar.addi c0_i32_131 c32_i32_132
  let c1_i32_133 : BitVec 32 := 1#32
  ⟨c0_i32_131, v250, c1_i32_133⟩
def k0_off6 (k0_t3 : Fin k0_t3_loop.trips) (c0_i32_1261 : BitVec 32) : Fin 1 → Nat :=
  let c8192_i32_1260 : BitVec 32 := 8192#32
  let c0_i32_131 : BitVec 32 := 0#32
  let c1_i32_133 : BitVec 32 := 1#32
  let arg8 : BitVec 32 := Scf.iv c0_i32_131 c1_i32_133 k0_t3
  let c256_i32_1259 : BitVec 32 := 256#32
  let v2029 : BitVec 32 := Scalar.muli arg8 c256_i32_1259
  let v2030 : BitVec 32 := Scalar.addi c8192_i32_1260 v2029
  let v2031 : BitVec 32 := Scalar.addi v2030 c0_i32_1261
  let v2032 : Index := Scalar.indexCast v2031
  ![v2032.toNat]
@[reducible] def k0_t4_loop : Scf.Loop 32 :=
  let c0_i32_172 : BitVec 32 := 0#32
  let c81_i32_173 : BitVec 32 := 81#32
  let v321 : BitVec 32 := Scalar.addi c0_i32_172 c81_i32_173
  let c1_i32_174 : BitVec 32 := 1#32
  ⟨c0_i32_172, v321, c1_i32_174⟩

def k0_chk17 (v2033 : IVec S16 32) : Prop :=
  (∀ a x, ((![v2033] : Fin 1 → IVec S16 32) a x).toNat < S31104.size a)
theorem k0_idx17_inb : ∀ (v2033 : IVec S16 32) (k0_hw17 : k0_chk17 v2033), ∀ a x, ((![v2033] : Fin 1 → IVec S16 32) a x).toNat < S31104.size a := fun v2033 k0_hw17 => k0_hw17

def k0_chk18 (v2037 : IVec S16 32) : Prop :=
  (∀ a x, ((![v2037] : Fin 1 → IVec S16 32) a x).toNat < S31104.size a)
theorem k0_idx18_inb : ∀ (v2037 : IVec S16 32) (k0_hw18 : k0_chk18 v2037), ∀ a x, ((![v2037] : Fin 1 → IVec S16 32) a x).toNat < S31104.size a := fun v2037 k0_hw18 => k0_hw18

def k0_chk19 (v2041 : IVec S16 32) : Prop :=
  (∀ a x, ((![v2041] : Fin 1 → IVec S16 32) a x).toNat < S31104.size a)
theorem k0_idx19_inb : ∀ (v2041 : IVec S16 32) (k0_hw19 : k0_chk19 v2041), ∀ a x, ((![v2041] : Fin 1 → IVec S16 32) a x).toNat < S31104.size a := fun v2041 k0_hw19 => k0_hw19

def k0_chk20 (v2057 : IVec S16 32) : Prop :=
  (∀ a x, ((![v2057] : Fin 1 → IVec S16 32) a x).toNat < S16384.size a)
theorem k0_idx20_inb : ∀ (v2057 : IVec S16 32) (k0_hw20 : k0_chk20 v2057), ∀ a x, ((![v2057] : Fin 1 → IVec S16 32) a x).toNat < S16384.size a := fun v2057 k0_hw20 => k0_hw20

def k0_chk21 (v2062 : IVec S16 32) : Prop :=
  (∀ a x, ((![v2062] : Fin 1 → IVec S16 32) a x).toNat < S31104.size a)
theorem k0_idx21_inb : ∀ (v2062 : IVec S16 32) (k0_hw21 : k0_chk21 v2062), ∀ a x, ((![v2062] : Fin 1 → IVec S16 32) a x).toNat < S31104.size a := fun v2062 k0_hw21 => k0_hw21

def k0_chk22 (v2066 : IVec S16 32) : Prop :=
  (∀ a x, ((![v2066] : Fin 1 → IVec S16 32) a x).toNat < S31104.size a)
theorem k0_idx22_inb : ∀ (v2066 : IVec S16 32) (k0_hw22 : k0_chk22 v2066), ∀ a x, ((![v2066] : Fin 1 → IVec S16 32) a x).toNat < S31104.size a := fun v2066 k0_hw22 => k0_hw22

def k0_chk23 (v2070 : IVec S16 32) : Prop :=
  (∀ a x, ((![v2070] : Fin 1 → IVec S16 32) a x).toNat < S31104.size a)
theorem k0_idx23_inb : ∀ (v2070 : IVec S16 32) (k0_hw23 : k0_chk23 v2070), ∀ a x, ((![v2070] : Fin 1 → IVec S16 32) a x).toNat < S31104.size a := fun v2070 k0_hw23 => k0_hw23

def k0_chk24 (v2086 : IVec S16 32) : Prop :=
  (∀ a x, ((![v2086] : Fin 1 → IVec S16 32) a x).toNat < S16384.size a)
theorem k0_idx24_inb : ∀ (v2086 : IVec S16 32) (k0_hw24 : k0_chk24 v2086), ∀ a x, ((![v2086] : Fin 1 → IVec S16 32) a x).toNat < S16384.size a := fun v2086 k0_hw24 => k0_hw24

def k0_chk25 (v2091 : IVec S16 32) : Prop :=
  (∀ a x, ((![v2091] : Fin 1 → IVec S16 32) a x).toNat < S31104.size a)
theorem k0_idx25_inb : ∀ (v2091 : IVec S16 32) (k0_hw25 : k0_chk25 v2091), ∀ a x, ((![v2091] : Fin 1 → IVec S16 32) a x).toNat < S31104.size a := fun v2091 k0_hw25 => k0_hw25

def k0_chk26 (v2095 : IVec S16 32) : Prop :=
  (∀ a x, ((![v2095] : Fin 1 → IVec S16 32) a x).toNat < S31104.size a)
theorem k0_idx26_inb : ∀ (v2095 : IVec S16 32) (k0_hw26 : k0_chk26 v2095), ∀ a x, ((![v2095] : Fin 1 → IVec S16 32) a x).toNat < S31104.size a := fun v2095 k0_hw26 => k0_hw26

def k0_chk27 (v2099 : IVec S16 32) : Prop :=
  (∀ a x, ((![v2099] : Fin 1 → IVec S16 32) a x).toNat < S31104.size a)
theorem k0_idx27_inb : ∀ (v2099 : IVec S16 32) (k0_hw27 : k0_chk27 v2099), ∀ a x, ((![v2099] : Fin 1 → IVec S16 32) a x).toNat < S31104.size a := fun v2099 k0_hw27 => k0_hw27

def k0_chk28 (v2115 : IVec S16 32) : Prop :=
  (∀ a x, ((![v2115] : Fin 1 → IVec S16 32) a x).toNat < S16384.size a)
theorem k0_idx28_inb : ∀ (v2115 : IVec S16 32) (k0_hw28 : k0_chk28 v2115), ∀ a x, ((![v2115] : Fin 1 → IVec S16 32) a x).toNat < S16384.size a := fun v2115 k0_hw28 => k0_hw28

def k0_chk29 (v2120 : IVec S16 32) : Prop :=
  (∀ a x, ((![v2120] : Fin 1 → IVec S16 32) a x).toNat < S31104.size a)
theorem k0_idx29_inb : ∀ (v2120 : IVec S16 32) (k0_hw29 : k0_chk29 v2120), ∀ a x, ((![v2120] : Fin 1 → IVec S16 32) a x).toNat < S31104.size a := fun v2120 k0_hw29 => k0_hw29

def k0_chk30 (v2124 : IVec S16 32) : Prop :=
  (∀ a x, ((![v2124] : Fin 1 → IVec S16 32) a x).toNat < S31104.size a)
theorem k0_idx30_inb : ∀ (v2124 : IVec S16 32) (k0_hw30 : k0_chk30 v2124), ∀ a x, ((![v2124] : Fin 1 → IVec S16 32) a x).toNat < S31104.size a := fun v2124 k0_hw30 => k0_hw30

def k0_chk31 (v2128 : IVec S16 32) : Prop :=
  (∀ a x, ((![v2128] : Fin 1 → IVec S16 32) a x).toNat < S31104.size a)
theorem k0_idx31_inb : ∀ (v2128 : IVec S16 32) (k0_hw31 : k0_chk31 v2128), ∀ a x, ((![v2128] : Fin 1 → IVec S16 32) a x).toNat < S31104.size a := fun v2128 k0_hw31 => k0_hw31

def k0_chk32 (v2144 : IVec S16 32) : Prop :=
  (∀ a x, ((![v2144] : Fin 1 → IVec S16 32) a x).toNat < S16384.size a)
theorem k0_idx32_inb : ∀ (v2144 : IVec S16 32) (k0_hw32 : k0_chk32 v2144), ∀ a x, ((![v2144] : Fin 1 → IVec S16 32) a x).toNat < S16384.size a := fun v2144 k0_hw32 => k0_hw32
@[reducible] def k0_t5_loop : Scf.Loop 32 :=
  let c0_i32_225 : BitVec 32 := 0#32
  let c32_i32_226 : BitVec 32 := 32#32
  let v405 : BitVec 32 := Scalar.addi c0_i32_225 c32_i32_226
  let c1_i32_227 : BitVec 32 := 1#32
  ⟨c0_i32_225, v405, c1_i32_227⟩
def k0_off7 (k0_t5 : Fin k0_t5_loop.trips) (c0_i32_1261 : BitVec 32) : Fin 1 → Nat :=
  let c0_i32_1260 : BitVec 32 := 0#32
  let c0_i32_225 : BitVec 32 := 0#32
  let c1_i32_227 : BitVec 32 := 1#32
  let arg8 : BitVec 32 := Scf.iv c0_i32_225 c1_i32_227 k0_t5
  let c256_i32_1259 : BitVec 32 := 256#32
  let v2029 : BitVec 32 := Scalar.muli arg8 c256_i32_1259
  let v2030 : BitVec 32 := Scalar.addi c0_i32_1260 v2029
  let v2031 : BitVec 32 := Scalar.addi v2030 c0_i32_1261
  let v2032 : Index := Scalar.indexCast v2031
  ![v2032.toNat]
@[reducible] def k0_t6_loop : Scf.Loop 32 :=
  let c0_i32_266 : BitVec 32 := 0#32
  let c81_i32_267 : BitVec 32 := 81#32
  let v476 : BitVec 32 := Scalar.addi c0_i32_266 c81_i32_267
  let c1_i32_268 : BitVec 32 := 1#32
  ⟨c0_i32_266, v476, c1_i32_268⟩

def k0_chk33 (v2033 : IVec S16 32) : Prop :=
  (∀ a x, ((![v2033] : Fin 1 → IVec S16 32) a x).toNat < S31104.size a)
theorem k0_idx33_inb : ∀ (v2033 : IVec S16 32) (k0_hw33 : k0_chk33 v2033), ∀ a x, ((![v2033] : Fin 1 → IVec S16 32) a x).toNat < S31104.size a := fun v2033 k0_hw33 => k0_hw33

def k0_chk34 (v2037 : IVec S16 32) : Prop :=
  (∀ a x, ((![v2037] : Fin 1 → IVec S16 32) a x).toNat < S31104.size a)
theorem k0_idx34_inb : ∀ (v2037 : IVec S16 32) (k0_hw34 : k0_chk34 v2037), ∀ a x, ((![v2037] : Fin 1 → IVec S16 32) a x).toNat < S31104.size a := fun v2037 k0_hw34 => k0_hw34

def k0_chk35 (v2041 : IVec S16 32) : Prop :=
  (∀ a x, ((![v2041] : Fin 1 → IVec S16 32) a x).toNat < S31104.size a)
theorem k0_idx35_inb : ∀ (v2041 : IVec S16 32) (k0_hw35 : k0_chk35 v2041), ∀ a x, ((![v2041] : Fin 1 → IVec S16 32) a x).toNat < S31104.size a := fun v2041 k0_hw35 => k0_hw35

def k0_chk36 (v2057 : IVec S16 32) : Prop :=
  (∀ a x, ((![v2057] : Fin 1 → IVec S16 32) a x).toNat < S16384.size a)
theorem k0_idx36_inb : ∀ (v2057 : IVec S16 32) (k0_hw36 : k0_chk36 v2057), ∀ a x, ((![v2057] : Fin 1 → IVec S16 32) a x).toNat < S16384.size a := fun v2057 k0_hw36 => k0_hw36

def k0_chk37 (v2062 : IVec S16 32) : Prop :=
  (∀ a x, ((![v2062] : Fin 1 → IVec S16 32) a x).toNat < S31104.size a)
theorem k0_idx37_inb : ∀ (v2062 : IVec S16 32) (k0_hw37 : k0_chk37 v2062), ∀ a x, ((![v2062] : Fin 1 → IVec S16 32) a x).toNat < S31104.size a := fun v2062 k0_hw37 => k0_hw37

def k0_chk38 (v2066 : IVec S16 32) : Prop :=
  (∀ a x, ((![v2066] : Fin 1 → IVec S16 32) a x).toNat < S31104.size a)
theorem k0_idx38_inb : ∀ (v2066 : IVec S16 32) (k0_hw38 : k0_chk38 v2066), ∀ a x, ((![v2066] : Fin 1 → IVec S16 32) a x).toNat < S31104.size a := fun v2066 k0_hw38 => k0_hw38

def k0_chk39 (v2070 : IVec S16 32) : Prop :=
  (∀ a x, ((![v2070] : Fin 1 → IVec S16 32) a x).toNat < S31104.size a)
theorem k0_idx39_inb : ∀ (v2070 : IVec S16 32) (k0_hw39 : k0_chk39 v2070), ∀ a x, ((![v2070] : Fin 1 → IVec S16 32) a x).toNat < S31104.size a := fun v2070 k0_hw39 => k0_hw39

def k0_chk40 (v2086 : IVec S16 32) : Prop :=
  (∀ a x, ((![v2086] : Fin 1 → IVec S16 32) a x).toNat < S16384.size a)
theorem k0_idx40_inb : ∀ (v2086 : IVec S16 32) (k0_hw40 : k0_chk40 v2086), ∀ a x, ((![v2086] : Fin 1 → IVec S16 32) a x).toNat < S16384.size a := fun v2086 k0_hw40 => k0_hw40

def k0_chk41 (v2091 : IVec S16 32) : Prop :=
  (∀ a x, ((![v2091] : Fin 1 → IVec S16 32) a x).toNat < S31104.size a)
theorem k0_idx41_inb : ∀ (v2091 : IVec S16 32) (k0_hw41 : k0_chk41 v2091), ∀ a x, ((![v2091] : Fin 1 → IVec S16 32) a x).toNat < S31104.size a := fun v2091 k0_hw41 => k0_hw41

def k0_chk42 (v2095 : IVec S16 32) : Prop :=
  (∀ a x, ((![v2095] : Fin 1 → IVec S16 32) a x).toNat < S31104.size a)
theorem k0_idx42_inb : ∀ (v2095 : IVec S16 32) (k0_hw42 : k0_chk42 v2095), ∀ a x, ((![v2095] : Fin 1 → IVec S16 32) a x).toNat < S31104.size a := fun v2095 k0_hw42 => k0_hw42

def k0_chk43 (v2099 : IVec S16 32) : Prop :=
  (∀ a x, ((![v2099] : Fin 1 → IVec S16 32) a x).toNat < S31104.size a)
theorem k0_idx43_inb : ∀ (v2099 : IVec S16 32) (k0_hw43 : k0_chk43 v2099), ∀ a x, ((![v2099] : Fin 1 → IVec S16 32) a x).toNat < S31104.size a := fun v2099 k0_hw43 => k0_hw43

def k0_chk44 (v2115 : IVec S16 32) : Prop :=
  (∀ a x, ((![v2115] : Fin 1 → IVec S16 32) a x).toNat < S16384.size a)
theorem k0_idx44_inb : ∀ (v2115 : IVec S16 32) (k0_hw44 : k0_chk44 v2115), ∀ a x, ((![v2115] : Fin 1 → IVec S16 32) a x).toNat < S16384.size a := fun v2115 k0_hw44 => k0_hw44

def k0_chk45 (v2120 : IVec S16 32) : Prop :=
  (∀ a x, ((![v2120] : Fin 1 → IVec S16 32) a x).toNat < S31104.size a)
theorem k0_idx45_inb : ∀ (v2120 : IVec S16 32) (k0_hw45 : k0_chk45 v2120), ∀ a x, ((![v2120] : Fin 1 → IVec S16 32) a x).toNat < S31104.size a := fun v2120 k0_hw45 => k0_hw45

def k0_chk46 (v2124 : IVec S16 32) : Prop :=
  (∀ a x, ((![v2124] : Fin 1 → IVec S16 32) a x).toNat < S31104.size a)
theorem k0_idx46_inb : ∀ (v2124 : IVec S16 32) (k0_hw46 : k0_chk46 v2124), ∀ a x, ((![v2124] : Fin 1 → IVec S16 32) a x).toNat < S31104.size a := fun v2124 k0_hw46 => k0_hw46

def k0_chk47 (v2128 : IVec S16 32) : Prop :=
  (∀ a x, ((![v2128] : Fin 1 → IVec S16 32) a x).toNat < S31104.size a)
theorem k0_idx47_inb : ∀ (v2128 : IVec S16 32) (k0_hw47 : k0_chk47 v2128), ∀ a x, ((![v2128] : Fin 1 → IVec S16 32) a x).toNat < S31104.size a := fun v2128 k0_hw47 => k0_hw47

def k0_chk48 (v2144 : IVec S16 32) : Prop :=
  (∀ a x, ((![v2144] : Fin 1 → IVec S16 32) a x).toNat < S16384.size a)
theorem k0_idx48_inb : ∀ (v2144 : IVec S16 32) (k0_hw48 : k0_chk48 v2144), ∀ a x, ((![v2144] : Fin 1 → IVec S16 32) a x).toNat < S16384.size a := fun v2144 k0_hw48 => k0_hw48
@[reducible] def k0_t7_loop : Scf.Loop 32 :=
  let c0_i32_323 : BitVec 32 := 0#32
  let c32_i32_324 : BitVec 32 := 32#32
  let v560 : BitVec 32 := Scalar.addi c0_i32_323 c32_i32_324
  let c1_i32_325 : BitVec 32 := 1#32
  ⟨c0_i32_323, v560, c1_i32_325⟩
def k0_off8 (k0_t7 : Fin k0_t7_loop.trips) (c0_i32_1261 : BitVec 32) : Fin 1 → Nat :=
  let c8192_i32_1260 : BitVec 32 := 8192#32
  let c0_i32_323 : BitVec 32 := 0#32
  let c1_i32_325 : BitVec 32 := 1#32
  let arg8 : BitVec 32 := Scf.iv c0_i32_323 c1_i32_325 k0_t7
  let c256_i32_1259 : BitVec 32 := 256#32
  let v2029 : BitVec 32 := Scalar.muli arg8 c256_i32_1259
  let v2030 : BitVec 32 := Scalar.addi c8192_i32_1260 v2029
  let v2031 : BitVec 32 := Scalar.addi v2030 c0_i32_1261
  let v2032 : Index := Scalar.indexCast v2031
  ![v2032.toNat]
@[reducible] def k0_t8_loop : Scf.Loop 32 :=
  let c0_i32_364 : BitVec 32 := 0#32
  let c81_i32_365 : BitVec 32 := 81#32
  let v631 : BitVec 32 := Scalar.addi c0_i32_364 c81_i32_365
  let c1_i32_366 : BitVec 32 := 1#32
  ⟨c0_i32_364, v631, c1_i32_366⟩

def k0_chk49 (v2033 : IVec S16 32) : Prop :=
  (∀ a x, ((![v2033] : Fin 1 → IVec S16 32) a x).toNat < S31104.size a)
theorem k0_idx49_inb : ∀ (v2033 : IVec S16 32) (k0_hw49 : k0_chk49 v2033), ∀ a x, ((![v2033] : Fin 1 → IVec S16 32) a x).toNat < S31104.size a := fun v2033 k0_hw49 => k0_hw49

def k0_chk50 (v2037 : IVec S16 32) : Prop :=
  (∀ a x, ((![v2037] : Fin 1 → IVec S16 32) a x).toNat < S31104.size a)
theorem k0_idx50_inb : ∀ (v2037 : IVec S16 32) (k0_hw50 : k0_chk50 v2037), ∀ a x, ((![v2037] : Fin 1 → IVec S16 32) a x).toNat < S31104.size a := fun v2037 k0_hw50 => k0_hw50

def k0_chk51 (v2041 : IVec S16 32) : Prop :=
  (∀ a x, ((![v2041] : Fin 1 → IVec S16 32) a x).toNat < S31104.size a)
theorem k0_idx51_inb : ∀ (v2041 : IVec S16 32) (k0_hw51 : k0_chk51 v2041), ∀ a x, ((![v2041] : Fin 1 → IVec S16 32) a x).toNat < S31104.size a := fun v2041 k0_hw51 => k0_hw51

def k0_chk52 (v2057 : IVec S16 32) : Prop :=
  (∀ a x, ((![v2057] : Fin 1 → IVec S16 32) a x).toNat < S16384.size a)
theorem k0_idx52_inb : ∀ (v2057 : IVec S16 32) (k0_hw52 : k0_chk52 v2057), ∀ a x, ((![v2057] : Fin 1 → IVec S16 32) a x).toNat < S16384.size a := fun v2057 k0_hw52 => k0_hw52

def k0_chk53 (v2062 : IVec S16 32) : Prop :=
  (∀ a x, ((![v2062] : Fin 1 → IVec S16 32) a x).toNat < S31104.size a)
theorem k0_idx53_inb : ∀ (v2062 : IVec S16 32) (k0_hw53 : k0_chk53 v2062), ∀ a x, ((![v2062] : Fin 1 → IVec S16 32) a x).toNat < S31104.size a := fun v2062 k0_hw53 => k0_hw53

def k0_chk54 (v2066 : IVec S16 32) : Prop :=
  (∀ a x, ((![v2066] : Fin 1 → IVec S16 32) a x).toNat < S31104.size a)
theorem k0_idx54_inb : ∀ (v2066 : IVec S16 32) (k0_hw54 : k0_chk54 v2066), ∀ a x, ((![v2066] : Fin 1 → IVec S16 32) a x).toNat < S31104.size a := fun v2066 k0_hw54 => k0_hw54

def k0_chk55 (v2070 : IVec S16 32) : Prop :=
  (∀ a x, ((![v2070] : Fin 1 → IVec S16 32) a x).toNat < S31104.size a)
theorem k0_idx55_inb : ∀ (v2070 : IVec S16 32) (k0_hw55 : k0_chk55 v2070), ∀ a x, ((![v2070] : Fin 1 → IVec S16 32) a x).toNat < S31104.size a := fun v2070 k0_hw55 => k0_hw55

def k0_chk56 (v2086 : IVec S16 32) : Prop :=
  (∀ a x, ((![v2086] : Fin 1 → IVec S16 32) a x).toNat < S16384.size a)
theorem k0_idx56_inb : ∀ (v2086 : IVec S16 32) (k0_hw56 : k0_chk56 v2086), ∀ a x, ((![v2086] : Fin 1 → IVec S16 32) a x).toNat < S16384.size a := fun v2086 k0_hw56 => k0_hw56

def k0_chk57 (v2091 : IVec S16 32) : Prop :=
  (∀ a x, ((![v2091] : Fin 1 → IVec S16 32) a x).toNat < S31104.size a)
theorem k0_idx57_inb : ∀ (v2091 : IVec S16 32) (k0_hw57 : k0_chk57 v2091), ∀ a x, ((![v2091] : Fin 1 → IVec S16 32) a x).toNat < S31104.size a := fun v2091 k0_hw57 => k0_hw57

def k0_chk58 (v2095 : IVec S16 32) : Prop :=
  (∀ a x, ((![v2095] : Fin 1 → IVec S16 32) a x).toNat < S31104.size a)
theorem k0_idx58_inb : ∀ (v2095 : IVec S16 32) (k0_hw58 : k0_chk58 v2095), ∀ a x, ((![v2095] : Fin 1 → IVec S16 32) a x).toNat < S31104.size a := fun v2095 k0_hw58 => k0_hw58

def k0_chk59 (v2099 : IVec S16 32) : Prop :=
  (∀ a x, ((![v2099] : Fin 1 → IVec S16 32) a x).toNat < S31104.size a)
theorem k0_idx59_inb : ∀ (v2099 : IVec S16 32) (k0_hw59 : k0_chk59 v2099), ∀ a x, ((![v2099] : Fin 1 → IVec S16 32) a x).toNat < S31104.size a := fun v2099 k0_hw59 => k0_hw59

def k0_chk60 (v2115 : IVec S16 32) : Prop :=
  (∀ a x, ((![v2115] : Fin 1 → IVec S16 32) a x).toNat < S16384.size a)
theorem k0_idx60_inb : ∀ (v2115 : IVec S16 32) (k0_hw60 : k0_chk60 v2115), ∀ a x, ((![v2115] : Fin 1 → IVec S16 32) a x).toNat < S16384.size a := fun v2115 k0_hw60 => k0_hw60

def k0_chk61 (v2120 : IVec S16 32) : Prop :=
  (∀ a x, ((![v2120] : Fin 1 → IVec S16 32) a x).toNat < S31104.size a)
theorem k0_idx61_inb : ∀ (v2120 : IVec S16 32) (k0_hw61 : k0_chk61 v2120), ∀ a x, ((![v2120] : Fin 1 → IVec S16 32) a x).toNat < S31104.size a := fun v2120 k0_hw61 => k0_hw61

def k0_chk62 (v2124 : IVec S16 32) : Prop :=
  (∀ a x, ((![v2124] : Fin 1 → IVec S16 32) a x).toNat < S31104.size a)
theorem k0_idx62_inb : ∀ (v2124 : IVec S16 32) (k0_hw62 : k0_chk62 v2124), ∀ a x, ((![v2124] : Fin 1 → IVec S16 32) a x).toNat < S31104.size a := fun v2124 k0_hw62 => k0_hw62

def k0_chk63 (v2128 : IVec S16 32) : Prop :=
  (∀ a x, ((![v2128] : Fin 1 → IVec S16 32) a x).toNat < S31104.size a)
theorem k0_idx63_inb : ∀ (v2128 : IVec S16 32) (k0_hw63 : k0_chk63 v2128), ∀ a x, ((![v2128] : Fin 1 → IVec S16 32) a x).toNat < S31104.size a := fun v2128 k0_hw63 => k0_hw63

def k0_chk64 (v2144 : IVec S16 32) : Prop :=
  (∀ a x, ((![v2144] : Fin 1 → IVec S16 32) a x).toNat < S16384.size a)
theorem k0_idx64_inb : ∀ (v2144 : IVec S16 32) (k0_hw64 : k0_chk64 v2144), ∀ a x, ((![v2144] : Fin 1 → IVec S16 32) a x).toNat < S16384.size a := fun v2144 k0_hw64 => k0_hw64
@[reducible] def k0_t9_loop : Scf.Loop 32 :=
  let c0_i32_421 : BitVec 32 := 0#32
  let c32_i32_422 : BitVec 32 := 32#32
  let v715 : BitVec 32 := Scalar.addi c0_i32_421 c32_i32_422
  let c1_i32_423 : BitVec 32 := 1#32
  ⟨c0_i32_421, v715, c1_i32_423⟩
def k0_off9 (k0_t9 : Fin k0_t9_loop.trips) (c0_i32_1261 : BitVec 32) : Fin 1 → Nat :=
  let c0_i32_1260 : BitVec 32 := 0#32
  let c0_i32_421 : BitVec 32 := 0#32
  let c1_i32_423 : BitVec 32 := 1#32
  let arg8 : BitVec 32 := Scf.iv c0_i32_421 c1_i32_423 k0_t9
  let c256_i32_1259 : BitVec 32 := 256#32
  let v2029 : BitVec 32 := Scalar.muli arg8 c256_i32_1259
  let v2030 : BitVec 32 := Scalar.addi c0_i32_1260 v2029
  let v2031 : BitVec 32 := Scalar.addi v2030 c0_i32_1261
  let v2032 : Index := Scalar.indexCast v2031
  ![v2032.toNat]
@[reducible] def k0_t10_loop : Scf.Loop 32 :=
  let c0_i32_462 : BitVec 32 := 0#32
  let c81_i32_463 : BitVec 32 := 81#32
  let v786 : BitVec 32 := Scalar.addi c0_i32_462 c81_i32_463
  let c1_i32_464 : BitVec 32 := 1#32
  ⟨c0_i32_462, v786, c1_i32_464⟩

def k0_chk65 (v2033 : IVec S16 32) : Prop :=
  (∀ a x, ((![v2033] : Fin 1 → IVec S16 32) a x).toNat < S31104.size a)
theorem k0_idx65_inb : ∀ (v2033 : IVec S16 32) (k0_hw65 : k0_chk65 v2033), ∀ a x, ((![v2033] : Fin 1 → IVec S16 32) a x).toNat < S31104.size a := fun v2033 k0_hw65 => k0_hw65

def k0_chk66 (v2037 : IVec S16 32) : Prop :=
  (∀ a x, ((![v2037] : Fin 1 → IVec S16 32) a x).toNat < S31104.size a)
theorem k0_idx66_inb : ∀ (v2037 : IVec S16 32) (k0_hw66 : k0_chk66 v2037), ∀ a x, ((![v2037] : Fin 1 → IVec S16 32) a x).toNat < S31104.size a := fun v2037 k0_hw66 => k0_hw66

def k0_chk67 (v2041 : IVec S16 32) : Prop :=
  (∀ a x, ((![v2041] : Fin 1 → IVec S16 32) a x).toNat < S31104.size a)
theorem k0_idx67_inb : ∀ (v2041 : IVec S16 32) (k0_hw67 : k0_chk67 v2041), ∀ a x, ((![v2041] : Fin 1 → IVec S16 32) a x).toNat < S31104.size a := fun v2041 k0_hw67 => k0_hw67

def k0_chk68 (v2057 : IVec S16 32) : Prop :=
  (∀ a x, ((![v2057] : Fin 1 → IVec S16 32) a x).toNat < S16384.size a)
theorem k0_idx68_inb : ∀ (v2057 : IVec S16 32) (k0_hw68 : k0_chk68 v2057), ∀ a x, ((![v2057] : Fin 1 → IVec S16 32) a x).toNat < S16384.size a := fun v2057 k0_hw68 => k0_hw68

def k0_chk69 (v2062 : IVec S16 32) : Prop :=
  (∀ a x, ((![v2062] : Fin 1 → IVec S16 32) a x).toNat < S31104.size a)
theorem k0_idx69_inb : ∀ (v2062 : IVec S16 32) (k0_hw69 : k0_chk69 v2062), ∀ a x, ((![v2062] : Fin 1 → IVec S16 32) a x).toNat < S31104.size a := fun v2062 k0_hw69 => k0_hw69

def k0_chk70 (v2066 : IVec S16 32) : Prop :=
  (∀ a x, ((![v2066] : Fin 1 → IVec S16 32) a x).toNat < S31104.size a)
theorem k0_idx70_inb : ∀ (v2066 : IVec S16 32) (k0_hw70 : k0_chk70 v2066), ∀ a x, ((![v2066] : Fin 1 → IVec S16 32) a x).toNat < S31104.size a := fun v2066 k0_hw70 => k0_hw70

def k0_chk71 (v2070 : IVec S16 32) : Prop :=
  (∀ a x, ((![v2070] : Fin 1 → IVec S16 32) a x).toNat < S31104.size a)
theorem k0_idx71_inb : ∀ (v2070 : IVec S16 32) (k0_hw71 : k0_chk71 v2070), ∀ a x, ((![v2070] : Fin 1 → IVec S16 32) a x).toNat < S31104.size a := fun v2070 k0_hw71 => k0_hw71

def k0_chk72 (v2086 : IVec S16 32) : Prop :=
  (∀ a x, ((![v2086] : Fin 1 → IVec S16 32) a x).toNat < S16384.size a)
theorem k0_idx72_inb : ∀ (v2086 : IVec S16 32) (k0_hw72 : k0_chk72 v2086), ∀ a x, ((![v2086] : Fin 1 → IVec S16 32) a x).toNat < S16384.size a := fun v2086 k0_hw72 => k0_hw72

def k0_chk73 (v2091 : IVec S16 32) : Prop :=
  (∀ a x, ((![v2091] : Fin 1 → IVec S16 32) a x).toNat < S31104.size a)
theorem k0_idx73_inb : ∀ (v2091 : IVec S16 32) (k0_hw73 : k0_chk73 v2091), ∀ a x, ((![v2091] : Fin 1 → IVec S16 32) a x).toNat < S31104.size a := fun v2091 k0_hw73 => k0_hw73

def k0_chk74 (v2095 : IVec S16 32) : Prop :=
  (∀ a x, ((![v2095] : Fin 1 → IVec S16 32) a x).toNat < S31104.size a)
theorem k0_idx74_inb : ∀ (v2095 : IVec S16 32) (k0_hw74 : k0_chk74 v2095), ∀ a x, ((![v2095] : Fin 1 → IVec S16 32) a x).toNat < S31104.size a := fun v2095 k0_hw74 => k0_hw74

def k0_chk75 (v2099 : IVec S16 32) : Prop :=
  (∀ a x, ((![v2099] : Fin 1 → IVec S16 32) a x).toNat < S31104.size a)
theorem k0_idx75_inb : ∀ (v2099 : IVec S16 32) (k0_hw75 : k0_chk75 v2099), ∀ a x, ((![v2099] : Fin 1 → IVec S16 32) a x).toNat < S31104.size a := fun v2099 k0_hw75 => k0_hw75

def k0_chk76 (v2115 : IVec S16 32) : Prop :=
  (∀ a x, ((![v2115] : Fin 1 → IVec S16 32) a x).toNat < S16384.size a)
theorem k0_idx76_inb : ∀ (v2115 : IVec S16 32) (k0_hw76 : k0_chk76 v2115), ∀ a x, ((![v2115] : Fin 1 → IVec S16 32) a x).toNat < S16384.size a := fun v2115 k0_hw76 => k0_hw76

def k0_chk77 (v2120 : IVec S16 32) : Prop :=
  (∀ a x, ((![v2120] : Fin 1 → IVec S16 32) a x).toNat < S31104.size a)
theorem k0_idx77_inb : ∀ (v2120 : IVec S16 32) (k0_hw77 : k0_chk77 v2120), ∀ a x, ((![v2120] : Fin 1 → IVec S16 32) a x).toNat < S31104.size a := fun v2120 k0_hw77 => k0_hw77

def k0_chk78 (v2124 : IVec S16 32) : Prop :=
  (∀ a x, ((![v2124] : Fin 1 → IVec S16 32) a x).toNat < S31104.size a)
theorem k0_idx78_inb : ∀ (v2124 : IVec S16 32) (k0_hw78 : k0_chk78 v2124), ∀ a x, ((![v2124] : Fin 1 → IVec S16 32) a x).toNat < S31104.size a := fun v2124 k0_hw78 => k0_hw78

def k0_chk79 (v2128 : IVec S16 32) : Prop :=
  (∀ a x, ((![v2128] : Fin 1 → IVec S16 32) a x).toNat < S31104.size a)
theorem k0_idx79_inb : ∀ (v2128 : IVec S16 32) (k0_hw79 : k0_chk79 v2128), ∀ a x, ((![v2128] : Fin 1 → IVec S16 32) a x).toNat < S31104.size a := fun v2128 k0_hw79 => k0_hw79

def k0_chk80 (v2144 : IVec S16 32) : Prop :=
  (∀ a x, ((![v2144] : Fin 1 → IVec S16 32) a x).toNat < S16384.size a)
theorem k0_idx80_inb : ∀ (v2144 : IVec S16 32) (k0_hw80 : k0_chk80 v2144), ∀ a x, ((![v2144] : Fin 1 → IVec S16 32) a x).toNat < S16384.size a := fun v2144 k0_hw80 => k0_hw80
@[reducible] def k0_t11_loop : Scf.Loop 32 :=
  let c0_i32_519 : BitVec 32 := 0#32
  let c32_i32_520 : BitVec 32 := 32#32
  let v870 : BitVec 32 := Scalar.addi c0_i32_519 c32_i32_520
  let c1_i32_521 : BitVec 32 := 1#32
  ⟨c0_i32_519, v870, c1_i32_521⟩
def k0_off10 (k0_t11 : Fin k0_t11_loop.trips) (c0_i32_1261 : BitVec 32) : Fin 1 → Nat :=
  let c8192_i32_1260 : BitVec 32 := 8192#32
  let c0_i32_519 : BitVec 32 := 0#32
  let c1_i32_521 : BitVec 32 := 1#32
  let arg8 : BitVec 32 := Scf.iv c0_i32_519 c1_i32_521 k0_t11
  let c256_i32_1259 : BitVec 32 := 256#32
  let v2029 : BitVec 32 := Scalar.muli arg8 c256_i32_1259
  let v2030 : BitVec 32 := Scalar.addi c8192_i32_1260 v2029
  let v2031 : BitVec 32 := Scalar.addi v2030 c0_i32_1261
  let v2032 : Index := Scalar.indexCast v2031
  ![v2032.toNat]
@[reducible] def k0_t12_loop : Scf.Loop 32 :=
  let c0_i32_560 : BitVec 32 := 0#32
  let c81_i32_561 : BitVec 32 := 81#32
  let v941 : BitVec 32 := Scalar.addi c0_i32_560 c81_i32_561
  let c1_i32_562 : BitVec 32 := 1#32
  ⟨c0_i32_560, v941, c1_i32_562⟩

def k0_chk81 (v2033 : IVec S16 32) : Prop :=
  (∀ a x, ((![v2033] : Fin 1 → IVec S16 32) a x).toNat < S31104.size a)
theorem k0_idx81_inb : ∀ (v2033 : IVec S16 32) (k0_hw81 : k0_chk81 v2033), ∀ a x, ((![v2033] : Fin 1 → IVec S16 32) a x).toNat < S31104.size a := fun v2033 k0_hw81 => k0_hw81

def k0_chk82 (v2037 : IVec S16 32) : Prop :=
  (∀ a x, ((![v2037] : Fin 1 → IVec S16 32) a x).toNat < S31104.size a)
theorem k0_idx82_inb : ∀ (v2037 : IVec S16 32) (k0_hw82 : k0_chk82 v2037), ∀ a x, ((![v2037] : Fin 1 → IVec S16 32) a x).toNat < S31104.size a := fun v2037 k0_hw82 => k0_hw82

def k0_chk83 (v2041 : IVec S16 32) : Prop :=
  (∀ a x, ((![v2041] : Fin 1 → IVec S16 32) a x).toNat < S31104.size a)
theorem k0_idx83_inb : ∀ (v2041 : IVec S16 32) (k0_hw83 : k0_chk83 v2041), ∀ a x, ((![v2041] : Fin 1 → IVec S16 32) a x).toNat < S31104.size a := fun v2041 k0_hw83 => k0_hw83

def k0_chk84 (v2057 : IVec S16 32) : Prop :=
  (∀ a x, ((![v2057] : Fin 1 → IVec S16 32) a x).toNat < S16384.size a)
theorem k0_idx84_inb : ∀ (v2057 : IVec S16 32) (k0_hw84 : k0_chk84 v2057), ∀ a x, ((![v2057] : Fin 1 → IVec S16 32) a x).toNat < S16384.size a := fun v2057 k0_hw84 => k0_hw84

def k0_chk85 (v2062 : IVec S16 32) : Prop :=
  (∀ a x, ((![v2062] : Fin 1 → IVec S16 32) a x).toNat < S31104.size a)
theorem k0_idx85_inb : ∀ (v2062 : IVec S16 32) (k0_hw85 : k0_chk85 v2062), ∀ a x, ((![v2062] : Fin 1 → IVec S16 32) a x).toNat < S31104.size a := fun v2062 k0_hw85 => k0_hw85

def k0_chk86 (v2066 : IVec S16 32) : Prop :=
  (∀ a x, ((![v2066] : Fin 1 → IVec S16 32) a x).toNat < S31104.size a)
theorem k0_idx86_inb : ∀ (v2066 : IVec S16 32) (k0_hw86 : k0_chk86 v2066), ∀ a x, ((![v2066] : Fin 1 → IVec S16 32) a x).toNat < S31104.size a := fun v2066 k0_hw86 => k0_hw86

def k0_chk87 (v2070 : IVec S16 32) : Prop :=
  (∀ a x, ((![v2070] : Fin 1 → IVec S16 32) a x).toNat < S31104.size a)
theorem k0_idx87_inb : ∀ (v2070 : IVec S16 32) (k0_hw87 : k0_chk87 v2070), ∀ a x, ((![v2070] : Fin 1 → IVec S16 32) a x).toNat < S31104.size a := fun v2070 k0_hw87 => k0_hw87

def k0_chk88 (v2086 : IVec S16 32) : Prop :=
  (∀ a x, ((![v2086] : Fin 1 → IVec S16 32) a x).toNat < S16384.size a)
theorem k0_idx88_inb : ∀ (v2086 : IVec S16 32) (k0_hw88 : k0_chk88 v2086), ∀ a x, ((![v2086] : Fin 1 → IVec S16 32) a x).toNat < S16384.size a := fun v2086 k0_hw88 => k0_hw88

def k0_chk89 (v2091 : IVec S16 32) : Prop :=
  (∀ a x, ((![v2091] : Fin 1 → IVec S16 32) a x).toNat < S31104.size a)
theorem k0_idx89_inb : ∀ (v2091 : IVec S16 32) (k0_hw89 : k0_chk89 v2091), ∀ a x, ((![v2091] : Fin 1 → IVec S16 32) a x).toNat < S31104.size a := fun v2091 k0_hw89 => k0_hw89

def k0_chk90 (v2095 : IVec S16 32) : Prop :=
  (∀ a x, ((![v2095] : Fin 1 → IVec S16 32) a x).toNat < S31104.size a)
theorem k0_idx90_inb : ∀ (v2095 : IVec S16 32) (k0_hw90 : k0_chk90 v2095), ∀ a x, ((![v2095] : Fin 1 → IVec S16 32) a x).toNat < S31104.size a := fun v2095 k0_hw90 => k0_hw90

def k0_chk91 (v2099 : IVec S16 32) : Prop :=
  (∀ a x, ((![v2099] : Fin 1 → IVec S16 32) a x).toNat < S31104.size a)
theorem k0_idx91_inb : ∀ (v2099 : IVec S16 32) (k0_hw91 : k0_chk91 v2099), ∀ a x, ((![v2099] : Fin 1 → IVec S16 32) a x).toNat < S31104.size a := fun v2099 k0_hw91 => k0_hw91

def k0_chk92 (v2115 : IVec S16 32) : Prop :=
  (∀ a x, ((![v2115] : Fin 1 → IVec S16 32) a x).toNat < S16384.size a)
theorem k0_idx92_inb : ∀ (v2115 : IVec S16 32) (k0_hw92 : k0_chk92 v2115), ∀ a x, ((![v2115] : Fin 1 → IVec S16 32) a x).toNat < S16384.size a := fun v2115 k0_hw92 => k0_hw92

def k0_chk93 (v2120 : IVec S16 32) : Prop :=
  (∀ a x, ((![v2120] : Fin 1 → IVec S16 32) a x).toNat < S31104.size a)
theorem k0_idx93_inb : ∀ (v2120 : IVec S16 32) (k0_hw93 : k0_chk93 v2120), ∀ a x, ((![v2120] : Fin 1 → IVec S16 32) a x).toNat < S31104.size a := fun v2120 k0_hw93 => k0_hw93

def k0_chk94 (v2124 : IVec S16 32) : Prop :=
  (∀ a x, ((![v2124] : Fin 1 → IVec S16 32) a x).toNat < S31104.size a)
theorem k0_idx94_inb : ∀ (v2124 : IVec S16 32) (k0_hw94 : k0_chk94 v2124), ∀ a x, ((![v2124] : Fin 1 → IVec S16 32) a x).toNat < S31104.size a := fun v2124 k0_hw94 => k0_hw94

def k0_chk95 (v2128 : IVec S16 32) : Prop :=
  (∀ a x, ((![v2128] : Fin 1 → IVec S16 32) a x).toNat < S31104.size a)
theorem k0_idx95_inb : ∀ (v2128 : IVec S16 32) (k0_hw95 : k0_chk95 v2128), ∀ a x, ((![v2128] : Fin 1 → IVec S16 32) a x).toNat < S31104.size a := fun v2128 k0_hw95 => k0_hw95

def k0_chk96 (v2144 : IVec S16 32) : Prop :=
  (∀ a x, ((![v2144] : Fin 1 → IVec S16 32) a x).toNat < S16384.size a)
theorem k0_idx96_inb : ∀ (v2144 : IVec S16 32) (k0_hw96 : k0_chk96 v2144), ∀ a x, ((![v2144] : Fin 1 → IVec S16 32) a x).toNat < S16384.size a := fun v2144 k0_hw96 => k0_hw96
@[reducible] def k0_t13_loop : Scf.Loop 32 :=
  let c0_i32_617 : BitVec 32 := 0#32
  let c32_i32_618 : BitVec 32 := 32#32
  let v1025 : BitVec 32 := Scalar.addi c0_i32_617 c32_i32_618
  let c1_i32_619 : BitVec 32 := 1#32
  ⟨c0_i32_617, v1025, c1_i32_619⟩
def k0_off11 (k0_t13 : Fin k0_t13_loop.trips) (c0_i32_1261 : BitVec 32) : Fin 1 → Nat :=
  let c0_i32_1260 : BitVec 32 := 0#32
  let c0_i32_617 : BitVec 32 := 0#32
  let c1_i32_619 : BitVec 32 := 1#32
  let arg8 : BitVec 32 := Scf.iv c0_i32_617 c1_i32_619 k0_t13
  let c256_i32_1259 : BitVec 32 := 256#32
  let v2029 : BitVec 32 := Scalar.muli arg8 c256_i32_1259
  let v2030 : BitVec 32 := Scalar.addi c0_i32_1260 v2029
  let v2031 : BitVec 32 := Scalar.addi v2030 c0_i32_1261
  let v2032 : Index := Scalar.indexCast v2031
  ![v2032.toNat]
@[reducible] def k0_t14_loop : Scf.Loop 32 :=
  let c0_i32_658 : BitVec 32 := 0#32
  let c81_i32_659 : BitVec 32 := 81#32
  let v1096 : BitVec 32 := Scalar.addi c0_i32_658 c81_i32_659
  let c1_i32_660 : BitVec 32 := 1#32
  ⟨c0_i32_658, v1096, c1_i32_660⟩

def k0_chk97 (v2033 : IVec S16 32) : Prop :=
  (∀ a x, ((![v2033] : Fin 1 → IVec S16 32) a x).toNat < S31104.size a)
theorem k0_idx97_inb : ∀ (v2033 : IVec S16 32) (k0_hw97 : k0_chk97 v2033), ∀ a x, ((![v2033] : Fin 1 → IVec S16 32) a x).toNat < S31104.size a := fun v2033 k0_hw97 => k0_hw97

def k0_chk98 (v2037 : IVec S16 32) : Prop :=
  (∀ a x, ((![v2037] : Fin 1 → IVec S16 32) a x).toNat < S31104.size a)
theorem k0_idx98_inb : ∀ (v2037 : IVec S16 32) (k0_hw98 : k0_chk98 v2037), ∀ a x, ((![v2037] : Fin 1 → IVec S16 32) a x).toNat < S31104.size a := fun v2037 k0_hw98 => k0_hw98

def k0_chk99 (v2041 : IVec S16 32) : Prop :=
  (∀ a x, ((![v2041] : Fin 1 → IVec S16 32) a x).toNat < S31104.size a)
theorem k0_idx99_inb : ∀ (v2041 : IVec S16 32) (k0_hw99 : k0_chk99 v2041), ∀ a x, ((![v2041] : Fin 1 → IVec S16 32) a x).toNat < S31104.size a := fun v2041 k0_hw99 => k0_hw99

def k0_chk100 (v2057 : IVec S16 32) : Prop :=
  (∀ a x, ((![v2057] : Fin 1 → IVec S16 32) a x).toNat < S16384.size a)
theorem k0_idx100_inb : ∀ (v2057 : IVec S16 32) (k0_hw100 : k0_chk100 v2057), ∀ a x, ((![v2057] : Fin 1 → IVec S16 32) a x).toNat < S16384.size a := fun v2057 k0_hw100 => k0_hw100

def k0_chk101 (v2062 : IVec S16 32) : Prop :=
  (∀ a x, ((![v2062] : Fin 1 → IVec S16 32) a x).toNat < S31104.size a)
theorem k0_idx101_inb : ∀ (v2062 : IVec S16 32) (k0_hw101 : k0_chk101 v2062), ∀ a x, ((![v2062] : Fin 1 → IVec S16 32) a x).toNat < S31104.size a := fun v2062 k0_hw101 => k0_hw101

def k0_chk102 (v2066 : IVec S16 32) : Prop :=
  (∀ a x, ((![v2066] : Fin 1 → IVec S16 32) a x).toNat < S31104.size a)
theorem k0_idx102_inb : ∀ (v2066 : IVec S16 32) (k0_hw102 : k0_chk102 v2066), ∀ a x, ((![v2066] : Fin 1 → IVec S16 32) a x).toNat < S31104.size a := fun v2066 k0_hw102 => k0_hw102

def k0_chk103 (v2070 : IVec S16 32) : Prop :=
  (∀ a x, ((![v2070] : Fin 1 → IVec S16 32) a x).toNat < S31104.size a)
theorem k0_idx103_inb : ∀ (v2070 : IVec S16 32) (k0_hw103 : k0_chk103 v2070), ∀ a x, ((![v2070] : Fin 1 → IVec S16 32) a x).toNat < S31104.size a := fun v2070 k0_hw103 => k0_hw103

def k0_chk104 (v2086 : IVec S16 32) : Prop :=
  (∀ a x, ((![v2086] : Fin 1 → IVec S16 32) a x).toNat < S16384.size a)
theorem k0_idx104_inb : ∀ (v2086 : IVec S16 32) (k0_hw104 : k0_chk104 v2086), ∀ a x, ((![v2086] : Fin 1 → IVec S16 32) a x).toNat < S16384.size a := fun v2086 k0_hw104 => k0_hw104

def k0_chk105 (v2091 : IVec S16 32) : Prop :=
  (∀ a x, ((![v2091] : Fin 1 → IVec S16 32) a x).toNat < S31104.size a)
theorem k0_idx105_inb : ∀ (v2091 : IVec S16 32) (k0_hw105 : k0_chk105 v2091), ∀ a x, ((![v2091] : Fin 1 → IVec S16 32) a x).toNat < S31104.size a := fun v2091 k0_hw105 => k0_hw105

def k0_chk106 (v2095 : IVec S16 32) : Prop :=
  (∀ a x, ((![v2095] : Fin 1 → IVec S16 32) a x).toNat < S31104.size a)
theorem k0_idx106_inb : ∀ (v2095 : IVec S16 32) (k0_hw106 : k0_chk106 v2095), ∀ a x, ((![v2095] : Fin 1 → IVec S16 32) a x).toNat < S31104.size a := fun v2095 k0_hw106 => k0_hw106

def k0_chk107 (v2099 : IVec S16 32) : Prop :=
  (∀ a x, ((![v2099] : Fin 1 → IVec S16 32) a x).toNat < S31104.size a)
theorem k0_idx107_inb : ∀ (v2099 : IVec S16 32) (k0_hw107 : k0_chk107 v2099), ∀ a x, ((![v2099] : Fin 1 → IVec S16 32) a x).toNat < S31104.size a := fun v2099 k0_hw107 => k0_hw107

def k0_chk108 (v2115 : IVec S16 32) : Prop :=
  (∀ a x, ((![v2115] : Fin 1 → IVec S16 32) a x).toNat < S16384.size a)
theorem k0_idx108_inb : ∀ (v2115 : IVec S16 32) (k0_hw108 : k0_chk108 v2115), ∀ a x, ((![v2115] : Fin 1 → IVec S16 32) a x).toNat < S16384.size a := fun v2115 k0_hw108 => k0_hw108

def k0_chk109 (v2120 : IVec S16 32) : Prop :=
  (∀ a x, ((![v2120] : Fin 1 → IVec S16 32) a x).toNat < S31104.size a)
theorem k0_idx109_inb : ∀ (v2120 : IVec S16 32) (k0_hw109 : k0_chk109 v2120), ∀ a x, ((![v2120] : Fin 1 → IVec S16 32) a x).toNat < S31104.size a := fun v2120 k0_hw109 => k0_hw109

def k0_chk110 (v2124 : IVec S16 32) : Prop :=
  (∀ a x, ((![v2124] : Fin 1 → IVec S16 32) a x).toNat < S31104.size a)
theorem k0_idx110_inb : ∀ (v2124 : IVec S16 32) (k0_hw110 : k0_chk110 v2124), ∀ a x, ((![v2124] : Fin 1 → IVec S16 32) a x).toNat < S31104.size a := fun v2124 k0_hw110 => k0_hw110

def k0_chk111 (v2128 : IVec S16 32) : Prop :=
  (∀ a x, ((![v2128] : Fin 1 → IVec S16 32) a x).toNat < S31104.size a)
theorem k0_idx111_inb : ∀ (v2128 : IVec S16 32) (k0_hw111 : k0_chk111 v2128), ∀ a x, ((![v2128] : Fin 1 → IVec S16 32) a x).toNat < S31104.size a := fun v2128 k0_hw111 => k0_hw111

def k0_chk112 (v2144 : IVec S16 32) : Prop :=
  (∀ a x, ((![v2144] : Fin 1 → IVec S16 32) a x).toNat < S16384.size a)
theorem k0_idx112_inb : ∀ (v2144 : IVec S16 32) (k0_hw112 : k0_chk112 v2144), ∀ a x, ((![v2144] : Fin 1 → IVec S16 32) a x).toNat < S16384.size a := fun v2144 k0_hw112 => k0_hw112
@[reducible] def k0_t15_loop : Scf.Loop 32 :=
  let c0_i32_715 : BitVec 32 := 0#32
  let c32_i32_716 : BitVec 32 := 32#32
  let v1180 : BitVec 32 := Scalar.addi c0_i32_715 c32_i32_716
  let c1_i32_717 : BitVec 32 := 1#32
  ⟨c0_i32_715, v1180, c1_i32_717⟩
def k0_off12 (k0_t15 : Fin k0_t15_loop.trips) (c0_i32_1261 : BitVec 32) : Fin 1 → Nat :=
  let c8192_i32_1260 : BitVec 32 := 8192#32
  let c0_i32_715 : BitVec 32 := 0#32
  let c1_i32_717 : BitVec 32 := 1#32
  let arg8 : BitVec 32 := Scf.iv c0_i32_715 c1_i32_717 k0_t15
  let c256_i32_1259 : BitVec 32 := 256#32
  let v2029 : BitVec 32 := Scalar.muli arg8 c256_i32_1259
  let v2030 : BitVec 32 := Scalar.addi c8192_i32_1260 v2029
  let v2031 : BitVec 32 := Scalar.addi v2030 c0_i32_1261
  let v2032 : Index := Scalar.indexCast v2031
  ![v2032.toNat]
@[reducible] def k0_t16_loop : Scf.Loop 32 :=
  let c0_i32_756 : BitVec 32 := 0#32
  let c81_i32_757 : BitVec 32 := 81#32
  let v1251 : BitVec 32 := Scalar.addi c0_i32_756 c81_i32_757
  let c1_i32_758 : BitVec 32 := 1#32
  ⟨c0_i32_756, v1251, c1_i32_758⟩

def k0_chk113 (v2033 : IVec S16 32) : Prop :=
  (∀ a x, ((![v2033] : Fin 1 → IVec S16 32) a x).toNat < S31104.size a)
theorem k0_idx113_inb : ∀ (v2033 : IVec S16 32) (k0_hw113 : k0_chk113 v2033), ∀ a x, ((![v2033] : Fin 1 → IVec S16 32) a x).toNat < S31104.size a := fun v2033 k0_hw113 => k0_hw113

def k0_chk114 (v2037 : IVec S16 32) : Prop :=
  (∀ a x, ((![v2037] : Fin 1 → IVec S16 32) a x).toNat < S31104.size a)
theorem k0_idx114_inb : ∀ (v2037 : IVec S16 32) (k0_hw114 : k0_chk114 v2037), ∀ a x, ((![v2037] : Fin 1 → IVec S16 32) a x).toNat < S31104.size a := fun v2037 k0_hw114 => k0_hw114

def k0_chk115 (v2041 : IVec S16 32) : Prop :=
  (∀ a x, ((![v2041] : Fin 1 → IVec S16 32) a x).toNat < S31104.size a)
theorem k0_idx115_inb : ∀ (v2041 : IVec S16 32) (k0_hw115 : k0_chk115 v2041), ∀ a x, ((![v2041] : Fin 1 → IVec S16 32) a x).toNat < S31104.size a := fun v2041 k0_hw115 => k0_hw115

def k0_chk116 (v2057 : IVec S16 32) : Prop :=
  (∀ a x, ((![v2057] : Fin 1 → IVec S16 32) a x).toNat < S16384.size a)
theorem k0_idx116_inb : ∀ (v2057 : IVec S16 32) (k0_hw116 : k0_chk116 v2057), ∀ a x, ((![v2057] : Fin 1 → IVec S16 32) a x).toNat < S16384.size a := fun v2057 k0_hw116 => k0_hw116

def k0_chk117 (v2062 : IVec S16 32) : Prop :=
  (∀ a x, ((![v2062] : Fin 1 → IVec S16 32) a x).toNat < S31104.size a)
theorem k0_idx117_inb : ∀ (v2062 : IVec S16 32) (k0_hw117 : k0_chk117 v2062), ∀ a x, ((![v2062] : Fin 1 → IVec S16 32) a x).toNat < S31104.size a := fun v2062 k0_hw117 => k0_hw117

def k0_chk118 (v2066 : IVec S16 32) : Prop :=
  (∀ a x, ((![v2066] : Fin 1 → IVec S16 32) a x).toNat < S31104.size a)
theorem k0_idx118_inb : ∀ (v2066 : IVec S16 32) (k0_hw118 : k0_chk118 v2066), ∀ a x, ((![v2066] : Fin 1 → IVec S16 32) a x).toNat < S31104.size a := fun v2066 k0_hw118 => k0_hw118

def k0_chk119 (v2070 : IVec S16 32) : Prop :=
  (∀ a x, ((![v2070] : Fin 1 → IVec S16 32) a x).toNat < S31104.size a)
theorem k0_idx119_inb : ∀ (v2070 : IVec S16 32) (k0_hw119 : k0_chk119 v2070), ∀ a x, ((![v2070] : Fin 1 → IVec S16 32) a x).toNat < S31104.size a := fun v2070 k0_hw119 => k0_hw119

def k0_chk120 (v2086 : IVec S16 32) : Prop :=
  (∀ a x, ((![v2086] : Fin 1 → IVec S16 32) a x).toNat < S16384.size a)
theorem k0_idx120_inb : ∀ (v2086 : IVec S16 32) (k0_hw120 : k0_chk120 v2086), ∀ a x, ((![v2086] : Fin 1 → IVec S16 32) a x).toNat < S16384.size a := fun v2086 k0_hw120 => k0_hw120

def k0_chk121 (v2091 : IVec S16 32) : Prop :=
  (∀ a x, ((![v2091] : Fin 1 → IVec S16 32) a x).toNat < S31104.size a)
theorem k0_idx121_inb : ∀ (v2091 : IVec S16 32) (k0_hw121 : k0_chk121 v2091), ∀ a x, ((![v2091] : Fin 1 → IVec S16 32) a x).toNat < S31104.size a := fun v2091 k0_hw121 => k0_hw121

def k0_chk122 (v2095 : IVec S16 32) : Prop :=
  (∀ a x, ((![v2095] : Fin 1 → IVec S16 32) a x).toNat < S31104.size a)
theorem k0_idx122_inb : ∀ (v2095 : IVec S16 32) (k0_hw122 : k0_chk122 v2095), ∀ a x, ((![v2095] : Fin 1 → IVec S16 32) a x).toNat < S31104.size a := fun v2095 k0_hw122 => k0_hw122

def k0_chk123 (v2099 : IVec S16 32) : Prop :=
  (∀ a x, ((![v2099] : Fin 1 → IVec S16 32) a x).toNat < S31104.size a)
theorem k0_idx123_inb : ∀ (v2099 : IVec S16 32) (k0_hw123 : k0_chk123 v2099), ∀ a x, ((![v2099] : Fin 1 → IVec S16 32) a x).toNat < S31104.size a := fun v2099 k0_hw123 => k0_hw123

def k0_chk124 (v2115 : IVec S16 32) : Prop :=
  (∀ a x, ((![v2115] : Fin 1 → IVec S16 32) a x).toNat < S16384.size a)
theorem k0_idx124_inb : ∀ (v2115 : IVec S16 32) (k0_hw124 : k0_chk124 v2115), ∀ a x, ((![v2115] : Fin 1 → IVec S16 32) a x).toNat < S16384.size a := fun v2115 k0_hw124 => k0_hw124

def k0_chk125 (v2120 : IVec S16 32) : Prop :=
  (∀ a x, ((![v2120] : Fin 1 → IVec S16 32) a x).toNat < S31104.size a)
theorem k0_idx125_inb : ∀ (v2120 : IVec S16 32) (k0_hw125 : k0_chk125 v2120), ∀ a x, ((![v2120] : Fin 1 → IVec S16 32) a x).toNat < S31104.size a := fun v2120 k0_hw125 => k0_hw125

def k0_chk126 (v2124 : IVec S16 32) : Prop :=
  (∀ a x, ((![v2124] : Fin 1 → IVec S16 32) a x).toNat < S31104.size a)
theorem k0_idx126_inb : ∀ (v2124 : IVec S16 32) (k0_hw126 : k0_chk126 v2124), ∀ a x, ((![v2124] : Fin 1 → IVec S16 32) a x).toNat < S31104.size a := fun v2124 k0_hw126 => k0_hw126

def k0_chk127 (v2128 : IVec S16 32) : Prop :=
  (∀ a x, ((![v2128] : Fin 1 → IVec S16 32) a x).toNat < S31104.size a)
theorem k0_idx127_inb : ∀ (v2128 : IVec S16 32) (k0_hw127 : k0_chk127 v2128), ∀ a x, ((![v2128] : Fin 1 → IVec S16 32) a x).toNat < S31104.size a := fun v2128 k0_hw127 => k0_hw127

def k0_chk128 (v2144 : IVec S16 32) : Prop :=
  (∀ a x, ((![v2144] : Fin 1 → IVec S16 32) a x).toNat < S16384.size a)
theorem k0_idx128_inb : ∀ (v2144 : IVec S16 32) (k0_hw128 : k0_chk128 v2144), ∀ a x, ((![v2144] : Fin 1 → IVec S16 32) a x).toNat < S16384.size a := fun v2144 k0_hw128 => k0_hw128
@[reducible] def k0_t17_loop : Scf.Loop 32 :=
  let c0_i32_813 : BitVec 32 := 0#32
  let c32_i32_814 : BitVec 32 := 32#32
  let v1335 : BitVec 32 := Scalar.addi c0_i32_813 c32_i32_814
  let c1_i32_815 : BitVec 32 := 1#32
  ⟨c0_i32_813, v1335, c1_i32_815⟩
def k0_off13 (k0_t17 : Fin k0_t17_loop.trips) (c0_i32_1261 : BitVec 32) : Fin 1 → Nat :=
  let c0_i32_1260 : BitVec 32 := 0#32
  let c0_i32_813 : BitVec 32 := 0#32
  let c1_i32_815 : BitVec 32 := 1#32
  let arg8 : BitVec 32 := Scf.iv c0_i32_813 c1_i32_815 k0_t17
  let c256_i32_1259 : BitVec 32 := 256#32
  let v2029 : BitVec 32 := Scalar.muli arg8 c256_i32_1259
  let v2030 : BitVec 32 := Scalar.addi c0_i32_1260 v2029
  let v2031 : BitVec 32 := Scalar.addi v2030 c0_i32_1261
  let v2032 : Index := Scalar.indexCast v2031
  ![v2032.toNat]
@[reducible] def k0_t18_loop : Scf.Loop 32 :=
  let c0_i32_854 : BitVec 32 := 0#32
  let c81_i32_855 : BitVec 32 := 81#32
  let v1406 : BitVec 32 := Scalar.addi c0_i32_854 c81_i32_855
  let c1_i32_856 : BitVec 32 := 1#32
  ⟨c0_i32_854, v1406, c1_i32_856⟩

def k0_chk129 (v2033 : IVec S16 32) : Prop :=
  (∀ a x, ((![v2033] : Fin 1 → IVec S16 32) a x).toNat < S31104.size a)
theorem k0_idx129_inb : ∀ (v2033 : IVec S16 32) (k0_hw129 : k0_chk129 v2033), ∀ a x, ((![v2033] : Fin 1 → IVec S16 32) a x).toNat < S31104.size a := fun v2033 k0_hw129 => k0_hw129

def k0_chk130 (v2037 : IVec S16 32) : Prop :=
  (∀ a x, ((![v2037] : Fin 1 → IVec S16 32) a x).toNat < S31104.size a)
theorem k0_idx130_inb : ∀ (v2037 : IVec S16 32) (k0_hw130 : k0_chk130 v2037), ∀ a x, ((![v2037] : Fin 1 → IVec S16 32) a x).toNat < S31104.size a := fun v2037 k0_hw130 => k0_hw130

def k0_chk131 (v2041 : IVec S16 32) : Prop :=
  (∀ a x, ((![v2041] : Fin 1 → IVec S16 32) a x).toNat < S31104.size a)
theorem k0_idx131_inb : ∀ (v2041 : IVec S16 32) (k0_hw131 : k0_chk131 v2041), ∀ a x, ((![v2041] : Fin 1 → IVec S16 32) a x).toNat < S31104.size a := fun v2041 k0_hw131 => k0_hw131

def k0_chk132 (v2057 : IVec S16 32) : Prop :=
  (∀ a x, ((![v2057] : Fin 1 → IVec S16 32) a x).toNat < S16384.size a)
theorem k0_idx132_inb : ∀ (v2057 : IVec S16 32) (k0_hw132 : k0_chk132 v2057), ∀ a x, ((![v2057] : Fin 1 → IVec S16 32) a x).toNat < S16384.size a := fun v2057 k0_hw132 => k0_hw132

def k0_chk133 (v2062 : IVec S16 32) : Prop :=
  (∀ a x, ((![v2062] : Fin 1 → IVec S16 32) a x).toNat < S31104.size a)
theorem k0_idx133_inb : ∀ (v2062 : IVec S16 32) (k0_hw133 : k0_chk133 v2062), ∀ a x, ((![v2062] : Fin 1 → IVec S16 32) a x).toNat < S31104.size a := fun v2062 k0_hw133 => k0_hw133

def k0_chk134 (v2066 : IVec S16 32) : Prop :=
  (∀ a x, ((![v2066] : Fin 1 → IVec S16 32) a x).toNat < S31104.size a)
theorem k0_idx134_inb : ∀ (v2066 : IVec S16 32) (k0_hw134 : k0_chk134 v2066), ∀ a x, ((![v2066] : Fin 1 → IVec S16 32) a x).toNat < S31104.size a := fun v2066 k0_hw134 => k0_hw134

def k0_chk135 (v2070 : IVec S16 32) : Prop :=
  (∀ a x, ((![v2070] : Fin 1 → IVec S16 32) a x).toNat < S31104.size a)
theorem k0_idx135_inb : ∀ (v2070 : IVec S16 32) (k0_hw135 : k0_chk135 v2070), ∀ a x, ((![v2070] : Fin 1 → IVec S16 32) a x).toNat < S31104.size a := fun v2070 k0_hw135 => k0_hw135

def k0_chk136 (v2086 : IVec S16 32) : Prop :=
  (∀ a x, ((![v2086] : Fin 1 → IVec S16 32) a x).toNat < S16384.size a)
theorem k0_idx136_inb : ∀ (v2086 : IVec S16 32) (k0_hw136 : k0_chk136 v2086), ∀ a x, ((![v2086] : Fin 1 → IVec S16 32) a x).toNat < S16384.size a := fun v2086 k0_hw136 => k0_hw136

def k0_chk137 (v2091 : IVec S16 32) : Prop :=
  (∀ a x, ((![v2091] : Fin 1 → IVec S16 32) a x).toNat < S31104.size a)
theorem k0_idx137_inb : ∀ (v2091 : IVec S16 32) (k0_hw137 : k0_chk137 v2091), ∀ a x, ((![v2091] : Fin 1 → IVec S16 32) a x).toNat < S31104.size a := fun v2091 k0_hw137 => k0_hw137

def k0_chk138 (v2095 : IVec S16 32) : Prop :=
  (∀ a x, ((![v2095] : Fin 1 → IVec S16 32) a x).toNat < S31104.size a)
theorem k0_idx138_inb : ∀ (v2095 : IVec S16 32) (k0_hw138 : k0_chk138 v2095), ∀ a x, ((![v2095] : Fin 1 → IVec S16 32) a x).toNat < S31104.size a := fun v2095 k0_hw138 => k0_hw138

def k0_chk139 (v2099 : IVec S16 32) : Prop :=
  (∀ a x, ((![v2099] : Fin 1 → IVec S16 32) a x).toNat < S31104.size a)
theorem k0_idx139_inb : ∀ (v2099 : IVec S16 32) (k0_hw139 : k0_chk139 v2099), ∀ a x, ((![v2099] : Fin 1 → IVec S16 32) a x).toNat < S31104.size a := fun v2099 k0_hw139 => k0_hw139

def k0_chk140 (v2115 : IVec S16 32) : Prop :=
  (∀ a x, ((![v2115] : Fin 1 → IVec S16 32) a x).toNat < S16384.size a)
theorem k0_idx140_inb : ∀ (v2115 : IVec S16 32) (k0_hw140 : k0_chk140 v2115), ∀ a x, ((![v2115] : Fin 1 → IVec S16 32) a x).toNat < S16384.size a := fun v2115 k0_hw140 => k0_hw140

def k0_chk141 (v2120 : IVec S16 32) : Prop :=
  (∀ a x, ((![v2120] : Fin 1 → IVec S16 32) a x).toNat < S31104.size a)
theorem k0_idx141_inb : ∀ (v2120 : IVec S16 32) (k0_hw141 : k0_chk141 v2120), ∀ a x, ((![v2120] : Fin 1 → IVec S16 32) a x).toNat < S31104.size a := fun v2120 k0_hw141 => k0_hw141

def k0_chk142 (v2124 : IVec S16 32) : Prop :=
  (∀ a x, ((![v2124] : Fin 1 → IVec S16 32) a x).toNat < S31104.size a)
theorem k0_idx142_inb : ∀ (v2124 : IVec S16 32) (k0_hw142 : k0_chk142 v2124), ∀ a x, ((![v2124] : Fin 1 → IVec S16 32) a x).toNat < S31104.size a := fun v2124 k0_hw142 => k0_hw142

def k0_chk143 (v2128 : IVec S16 32) : Prop :=
  (∀ a x, ((![v2128] : Fin 1 → IVec S16 32) a x).toNat < S31104.size a)
theorem k0_idx143_inb : ∀ (v2128 : IVec S16 32) (k0_hw143 : k0_chk143 v2128), ∀ a x, ((![v2128] : Fin 1 → IVec S16 32) a x).toNat < S31104.size a := fun v2128 k0_hw143 => k0_hw143

def k0_chk144 (v2144 : IVec S16 32) : Prop :=
  (∀ a x, ((![v2144] : Fin 1 → IVec S16 32) a x).toNat < S16384.size a)
theorem k0_idx144_inb : ∀ (v2144 : IVec S16 32) (k0_hw144 : k0_chk144 v2144), ∀ a x, ((![v2144] : Fin 1 → IVec S16 32) a x).toNat < S16384.size a := fun v2144 k0_hw144 => k0_hw144
@[reducible] def k0_t19_loop : Scf.Loop 32 :=
  let c0_i32_911 : BitVec 32 := 0#32
  let c32_i32_912 : BitVec 32 := 32#32
  let v1490 : BitVec 32 := Scalar.addi c0_i32_911 c32_i32_912
  let c1_i32_913 : BitVec 32 := 1#32
  ⟨c0_i32_911, v1490, c1_i32_913⟩
def k0_off14 (k0_t19 : Fin k0_t19_loop.trips) (c0_i32_1261 : BitVec 32) : Fin 1 → Nat :=
  let c8192_i32_1260 : BitVec 32 := 8192#32
  let c0_i32_911 : BitVec 32 := 0#32
  let c1_i32_913 : BitVec 32 := 1#32
  let arg8 : BitVec 32 := Scf.iv c0_i32_911 c1_i32_913 k0_t19
  let c256_i32_1259 : BitVec 32 := 256#32
  let v2029 : BitVec 32 := Scalar.muli arg8 c256_i32_1259
  let v2030 : BitVec 32 := Scalar.addi c8192_i32_1260 v2029
  let v2031 : BitVec 32 := Scalar.addi v2030 c0_i32_1261
  let v2032 : Index := Scalar.indexCast v2031
  ![v2032.toNat]
@[reducible] def k0_t20_loop : Scf.Loop 32 :=
  let c0_i32_952 : BitVec 32 := 0#32
  let c81_i32_953 : BitVec 32 := 81#32
  let v1561 : BitVec 32 := Scalar.addi c0_i32_952 c81_i32_953
  let c1_i32_954 : BitVec 32 := 1#32
  ⟨c0_i32_952, v1561, c1_i32_954⟩

def k0_chk145 (v2033 : IVec S16 32) : Prop :=
  (∀ a x, ((![v2033] : Fin 1 → IVec S16 32) a x).toNat < S31104.size a)
theorem k0_idx145_inb : ∀ (v2033 : IVec S16 32) (k0_hw145 : k0_chk145 v2033), ∀ a x, ((![v2033] : Fin 1 → IVec S16 32) a x).toNat < S31104.size a := fun v2033 k0_hw145 => k0_hw145

def k0_chk146 (v2037 : IVec S16 32) : Prop :=
  (∀ a x, ((![v2037] : Fin 1 → IVec S16 32) a x).toNat < S31104.size a)
theorem k0_idx146_inb : ∀ (v2037 : IVec S16 32) (k0_hw146 : k0_chk146 v2037), ∀ a x, ((![v2037] : Fin 1 → IVec S16 32) a x).toNat < S31104.size a := fun v2037 k0_hw146 => k0_hw146

def k0_chk147 (v2041 : IVec S16 32) : Prop :=
  (∀ a x, ((![v2041] : Fin 1 → IVec S16 32) a x).toNat < S31104.size a)
theorem k0_idx147_inb : ∀ (v2041 : IVec S16 32) (k0_hw147 : k0_chk147 v2041), ∀ a x, ((![v2041] : Fin 1 → IVec S16 32) a x).toNat < S31104.size a := fun v2041 k0_hw147 => k0_hw147

def k0_chk148 (v2057 : IVec S16 32) : Prop :=
  (∀ a x, ((![v2057] : Fin 1 → IVec S16 32) a x).toNat < S16384.size a)
theorem k0_idx148_inb : ∀ (v2057 : IVec S16 32) (k0_hw148 : k0_chk148 v2057), ∀ a x, ((![v2057] : Fin 1 → IVec S16 32) a x).toNat < S16384.size a := fun v2057 k0_hw148 => k0_hw148

def k0_chk149 (v2062 : IVec S16 32) : Prop :=
  (∀ a x, ((![v2062] : Fin 1 → IVec S16 32) a x).toNat < S31104.size a)
theorem k0_idx149_inb : ∀ (v2062 : IVec S16 32) (k0_hw149 : k0_chk149 v2062), ∀ a x, ((![v2062] : Fin 1 → IVec S16 32) a x).toNat < S31104.size a := fun v2062 k0_hw149 => k0_hw149

def k0_chk150 (v2066 : IVec S16 32) : Prop :=
  (∀ a x, ((![v2066] : Fin 1 → IVec S16 32) a x).toNat < S31104.size a)
theorem k0_idx150_inb : ∀ (v2066 : IVec S16 32) (k0_hw150 : k0_chk150 v2066), ∀ a x, ((![v2066] : Fin 1 → IVec S16 32) a x).toNat < S31104.size a := fun v2066 k0_hw150 => k0_hw150

def k0_chk151 (v2070 : IVec S16 32) : Prop :=
  (∀ a x, ((![v2070] : Fin 1 → IVec S16 32) a x).toNat < S31104.size a)
theorem k0_idx151_inb : ∀ (v2070 : IVec S16 32) (k0_hw151 : k0_chk151 v2070), ∀ a x, ((![v2070] : Fin 1 → IVec S16 32) a x).toNat < S31104.size a := fun v2070 k0_hw151 => k0_hw151

def k0_chk152 (v2086 : IVec S16 32) : Prop :=
  (∀ a x, ((![v2086] : Fin 1 → IVec S16 32) a x).toNat < S16384.size a)
theorem k0_idx152_inb : ∀ (v2086 : IVec S16 32) (k0_hw152 : k0_chk152 v2086), ∀ a x, ((![v2086] : Fin 1 → IVec S16 32) a x).toNat < S16384.size a := fun v2086 k0_hw152 => k0_hw152

def k0_chk153 (v2091 : IVec S16 32) : Prop :=
  (∀ a x, ((![v2091] : Fin 1 → IVec S16 32) a x).toNat < S31104.size a)
theorem k0_idx153_inb : ∀ (v2091 : IVec S16 32) (k0_hw153 : k0_chk153 v2091), ∀ a x, ((![v2091] : Fin 1 → IVec S16 32) a x).toNat < S31104.size a := fun v2091 k0_hw153 => k0_hw153

def k0_chk154 (v2095 : IVec S16 32) : Prop :=
  (∀ a x, ((![v2095] : Fin 1 → IVec S16 32) a x).toNat < S31104.size a)
theorem k0_idx154_inb : ∀ (v2095 : IVec S16 32) (k0_hw154 : k0_chk154 v2095), ∀ a x, ((![v2095] : Fin 1 → IVec S16 32) a x).toNat < S31104.size a := fun v2095 k0_hw154 => k0_hw154

def k0_chk155 (v2099 : IVec S16 32) : Prop :=
  (∀ a x, ((![v2099] : Fin 1 → IVec S16 32) a x).toNat < S31104.size a)
theorem k0_idx155_inb : ∀ (v2099 : IVec S16 32) (k0_hw155 : k0_chk155 v2099), ∀ a x, ((![v2099] : Fin 1 → IVec S16 32) a x).toNat < S31104.size a := fun v2099 k0_hw155 => k0_hw155

def k0_chk156 (v2115 : IVec S16 32) : Prop :=
  (∀ a x, ((![v2115] : Fin 1 → IVec S16 32) a x).toNat < S16384.size a)
theorem k0_idx156_inb : ∀ (v2115 : IVec S16 32) (k0_hw156 : k0_chk156 v2115), ∀ a x, ((![v2115] : Fin 1 → IVec S16 32) a x).toNat < S16384.size a := fun v2115 k0_hw156 => k0_hw156

def k0_chk157 (v2120 : IVec S16 32) : Prop :=
  (∀ a x, ((![v2120] : Fin 1 → IVec S16 32) a x).toNat < S31104.size a)
theorem k0_idx157_inb : ∀ (v2120 : IVec S16 32) (k0_hw157 : k0_chk157 v2120), ∀ a x, ((![v2120] : Fin 1 → IVec S16 32) a x).toNat < S31104.size a := fun v2120 k0_hw157 => k0_hw157

def k0_chk158 (v2124 : IVec S16 32) : Prop :=
  (∀ a x, ((![v2124] : Fin 1 → IVec S16 32) a x).toNat < S31104.size a)
theorem k0_idx158_inb : ∀ (v2124 : IVec S16 32) (k0_hw158 : k0_chk158 v2124), ∀ a x, ((![v2124] : Fin 1 → IVec S16 32) a x).toNat < S31104.size a := fun v2124 k0_hw158 => k0_hw158

def k0_chk159 (v2128 : IVec S16 32) : Prop :=
  (∀ a x, ((![v2128] : Fin 1 → IVec S16 32) a x).toNat < S31104.size a)
theorem k0_idx159_inb : ∀ (v2128 : IVec S16 32) (k0_hw159 : k0_chk159 v2128), ∀ a x, ((![v2128] : Fin 1 → IVec S16 32) a x).toNat < S31104.size a := fun v2128 k0_hw159 => k0_hw159

def k0_chk160 (v2144 : IVec S16 32) : Prop :=
  (∀ a x, ((![v2144] : Fin 1 → IVec S16 32) a x).toNat < S16384.size a)
theorem k0_idx160_inb : ∀ (v2144 : IVec S16 32) (k0_hw160 : k0_chk160 v2144), ∀ a x, ((![v2144] : Fin 1 → IVec S16 32) a x).toNat < S16384.size a := fun v2144 k0_hw160 => k0_hw160
@[reducible] def k0_t21_loop : Scf.Loop 32 :=
  let c0_i32_1009 : BitVec 32 := 0#32
  let c32_i32_1010 : BitVec 32 := 32#32
  let v1645 : BitVec 32 := Scalar.addi c0_i32_1009 c32_i32_1010
  let c1_i32_1011 : BitVec 32 := 1#32
  ⟨c0_i32_1009, v1645, c1_i32_1011⟩
def k0_off15 (k0_t21 : Fin k0_t21_loop.trips) (c0_i32_1261 : BitVec 32) : Fin 1 → Nat :=
  let c0_i32_1260 : BitVec 32 := 0#32
  let c0_i32_1009 : BitVec 32 := 0#32
  let c1_i32_1011 : BitVec 32 := 1#32
  let arg8 : BitVec 32 := Scf.iv c0_i32_1009 c1_i32_1011 k0_t21
  let c256_i32_1259 : BitVec 32 := 256#32
  let v2029 : BitVec 32 := Scalar.muli arg8 c256_i32_1259
  let v2030 : BitVec 32 := Scalar.addi c0_i32_1260 v2029
  let v2031 : BitVec 32 := Scalar.addi v2030 c0_i32_1261
  let v2032 : Index := Scalar.indexCast v2031
  ![v2032.toNat]
@[reducible] def k0_t22_loop : Scf.Loop 32 :=
  let c0_i32_1050 : BitVec 32 := 0#32
  let c81_i32_1051 : BitVec 32 := 81#32
  let v1716 : BitVec 32 := Scalar.addi c0_i32_1050 c81_i32_1051
  let c1_i32_1052 : BitVec 32 := 1#32
  ⟨c0_i32_1050, v1716, c1_i32_1052⟩

def k0_chk161 (v2033 : IVec S16 32) : Prop :=
  (∀ a x, ((![v2033] : Fin 1 → IVec S16 32) a x).toNat < S31104.size a)
theorem k0_idx161_inb : ∀ (v2033 : IVec S16 32) (k0_hw161 : k0_chk161 v2033), ∀ a x, ((![v2033] : Fin 1 → IVec S16 32) a x).toNat < S31104.size a := fun v2033 k0_hw161 => k0_hw161

def k0_chk162 (v2037 : IVec S16 32) : Prop :=
  (∀ a x, ((![v2037] : Fin 1 → IVec S16 32) a x).toNat < S31104.size a)
theorem k0_idx162_inb : ∀ (v2037 : IVec S16 32) (k0_hw162 : k0_chk162 v2037), ∀ a x, ((![v2037] : Fin 1 → IVec S16 32) a x).toNat < S31104.size a := fun v2037 k0_hw162 => k0_hw162

def k0_chk163 (v2041 : IVec S16 32) : Prop :=
  (∀ a x, ((![v2041] : Fin 1 → IVec S16 32) a x).toNat < S31104.size a)
theorem k0_idx163_inb : ∀ (v2041 : IVec S16 32) (k0_hw163 : k0_chk163 v2041), ∀ a x, ((![v2041] : Fin 1 → IVec S16 32) a x).toNat < S31104.size a := fun v2041 k0_hw163 => k0_hw163

def k0_chk164 (v2057 : IVec S16 32) : Prop :=
  (∀ a x, ((![v2057] : Fin 1 → IVec S16 32) a x).toNat < S16384.size a)
theorem k0_idx164_inb : ∀ (v2057 : IVec S16 32) (k0_hw164 : k0_chk164 v2057), ∀ a x, ((![v2057] : Fin 1 → IVec S16 32) a x).toNat < S16384.size a := fun v2057 k0_hw164 => k0_hw164

def k0_chk165 (v2062 : IVec S16 32) : Prop :=
  (∀ a x, ((![v2062] : Fin 1 → IVec S16 32) a x).toNat < S31104.size a)
theorem k0_idx165_inb : ∀ (v2062 : IVec S16 32) (k0_hw165 : k0_chk165 v2062), ∀ a x, ((![v2062] : Fin 1 → IVec S16 32) a x).toNat < S31104.size a := fun v2062 k0_hw165 => k0_hw165

def k0_chk166 (v2066 : IVec S16 32) : Prop :=
  (∀ a x, ((![v2066] : Fin 1 → IVec S16 32) a x).toNat < S31104.size a)
theorem k0_idx166_inb : ∀ (v2066 : IVec S16 32) (k0_hw166 : k0_chk166 v2066), ∀ a x, ((![v2066] : Fin 1 → IVec S16 32) a x).toNat < S31104.size a := fun v2066 k0_hw166 => k0_hw166

def k0_chk167 (v2070 : IVec S16 32) : Prop :=
  (∀ a x, ((![v2070] : Fin 1 → IVec S16 32) a x).toNat < S31104.size a)
theorem k0_idx167_inb : ∀ (v2070 : IVec S16 32) (k0_hw167 : k0_chk167 v2070), ∀ a x, ((![v2070] : Fin 1 → IVec S16 32) a x).toNat < S31104.size a := fun v2070 k0_hw167 => k0_hw167

def k0_chk168 (v2086 : IVec S16 32) : Prop :=
  (∀ a x, ((![v2086] : Fin 1 → IVec S16 32) a x).toNat < S16384.size a)
theorem k0_idx168_inb : ∀ (v2086 : IVec S16 32) (k0_hw168 : k0_chk168 v2086), ∀ a x, ((![v2086] : Fin 1 → IVec S16 32) a x).toNat < S16384.size a := fun v2086 k0_hw168 => k0_hw168

def k0_chk169 (v2091 : IVec S16 32) : Prop :=
  (∀ a x, ((![v2091] : Fin 1 → IVec S16 32) a x).toNat < S31104.size a)
theorem k0_idx169_inb : ∀ (v2091 : IVec S16 32) (k0_hw169 : k0_chk169 v2091), ∀ a x, ((![v2091] : Fin 1 → IVec S16 32) a x).toNat < S31104.size a := fun v2091 k0_hw169 => k0_hw169

def k0_chk170 (v2095 : IVec S16 32) : Prop :=
  (∀ a x, ((![v2095] : Fin 1 → IVec S16 32) a x).toNat < S31104.size a)
theorem k0_idx170_inb : ∀ (v2095 : IVec S16 32) (k0_hw170 : k0_chk170 v2095), ∀ a x, ((![v2095] : Fin 1 → IVec S16 32) a x).toNat < S31104.size a := fun v2095 k0_hw170 => k0_hw170

def k0_chk171 (v2099 : IVec S16 32) : Prop :=
  (∀ a x, ((![v2099] : Fin 1 → IVec S16 32) a x).toNat < S31104.size a)
theorem k0_idx171_inb : ∀ (v2099 : IVec S16 32) (k0_hw171 : k0_chk171 v2099), ∀ a x, ((![v2099] : Fin 1 → IVec S16 32) a x).toNat < S31104.size a := fun v2099 k0_hw171 => k0_hw171

def k0_chk172 (v2115 : IVec S16 32) : Prop :=
  (∀ a x, ((![v2115] : Fin 1 → IVec S16 32) a x).toNat < S16384.size a)
theorem k0_idx172_inb : ∀ (v2115 : IVec S16 32) (k0_hw172 : k0_chk172 v2115), ∀ a x, ((![v2115] : Fin 1 → IVec S16 32) a x).toNat < S16384.size a := fun v2115 k0_hw172 => k0_hw172

def k0_chk173 (v2120 : IVec S16 32) : Prop :=
  (∀ a x, ((![v2120] : Fin 1 → IVec S16 32) a x).toNat < S31104.size a)
theorem k0_idx173_inb : ∀ (v2120 : IVec S16 32) (k0_hw173 : k0_chk173 v2120), ∀ a x, ((![v2120] : Fin 1 → IVec S16 32) a x).toNat < S31104.size a := fun v2120 k0_hw173 => k0_hw173

def k0_chk174 (v2124 : IVec S16 32) : Prop :=
  (∀ a x, ((![v2124] : Fin 1 → IVec S16 32) a x).toNat < S31104.size a)
theorem k0_idx174_inb : ∀ (v2124 : IVec S16 32) (k0_hw174 : k0_chk174 v2124), ∀ a x, ((![v2124] : Fin 1 → IVec S16 32) a x).toNat < S31104.size a := fun v2124 k0_hw174 => k0_hw174

def k0_chk175 (v2128 : IVec S16 32) : Prop :=
  (∀ a x, ((![v2128] : Fin 1 → IVec S16 32) a x).toNat < S31104.size a)
theorem k0_idx175_inb : ∀ (v2128 : IVec S16 32) (k0_hw175 : k0_chk175 v2128), ∀ a x, ((![v2128] : Fin 1 → IVec S16 32) a x).toNat < S31104.size a := fun v2128 k0_hw175 => k0_hw175

def k0_chk176 (v2144 : IVec S16 32) : Prop :=
  (∀ a x, ((![v2144] : Fin 1 → IVec S16 32) a x).toNat < S16384.size a)
theorem k0_idx176_inb : ∀ (v2144 : IVec S16 32) (k0_hw176 : k0_chk176 v2144), ∀ a x, ((![v2144] : Fin 1 → IVec S16 32) a x).toNat < S16384.size a := fun v2144 k0_hw176 => k0_hw176
@[reducible] def k0_t23_loop : Scf.Loop 32 :=
  let c0_i32_1107 : BitVec 32 := 0#32
  let c32_i32_1108 : BitVec 32 := 32#32
  let v1800 : BitVec 32 := Scalar.addi c0_i32_1107 c32_i32_1108
  let c1_i32_1109 : BitVec 32 := 1#32
  ⟨c0_i32_1107, v1800, c1_i32_1109⟩
def k0_off16 (k0_t23 : Fin k0_t23_loop.trips) (c0_i32_1261 : BitVec 32) : Fin 1 → Nat :=
  let c8192_i32_1260 : BitVec 32 := 8192#32
  let c0_i32_1107 : BitVec 32 := 0#32
  let c1_i32_1109 : BitVec 32 := 1#32
  let arg8 : BitVec 32 := Scf.iv c0_i32_1107 c1_i32_1109 k0_t23
  let c256_i32_1259 : BitVec 32 := 256#32
  let v2029 : BitVec 32 := Scalar.muli arg8 c256_i32_1259
  let v2030 : BitVec 32 := Scalar.addi c8192_i32_1260 v2029
  let v2031 : BitVec 32 := Scalar.addi v2030 c0_i32_1261
  let v2032 : Index := Scalar.indexCast v2031
  ![v2032.toNat]
@[reducible] def k0_t24_loop : Scf.Loop 32 :=
  let c0_i32_1148 : BitVec 32 := 0#32
  let c81_i32_1149 : BitVec 32 := 81#32
  let v1871 : BitVec 32 := Scalar.addi c0_i32_1148 c81_i32_1149
  let c1_i32_1150 : BitVec 32 := 1#32
  ⟨c0_i32_1148, v1871, c1_i32_1150⟩

def k0_chk177 (v2033 : IVec S16 32) : Prop :=
  (∀ a x, ((![v2033] : Fin 1 → IVec S16 32) a x).toNat < S31104.size a)
theorem k0_idx177_inb : ∀ (v2033 : IVec S16 32) (k0_hw177 : k0_chk177 v2033), ∀ a x, ((![v2033] : Fin 1 → IVec S16 32) a x).toNat < S31104.size a := fun v2033 k0_hw177 => k0_hw177

def k0_chk178 (v2037 : IVec S16 32) : Prop :=
  (∀ a x, ((![v2037] : Fin 1 → IVec S16 32) a x).toNat < S31104.size a)
theorem k0_idx178_inb : ∀ (v2037 : IVec S16 32) (k0_hw178 : k0_chk178 v2037), ∀ a x, ((![v2037] : Fin 1 → IVec S16 32) a x).toNat < S31104.size a := fun v2037 k0_hw178 => k0_hw178

def k0_chk179 (v2041 : IVec S16 32) : Prop :=
  (∀ a x, ((![v2041] : Fin 1 → IVec S16 32) a x).toNat < S31104.size a)
theorem k0_idx179_inb : ∀ (v2041 : IVec S16 32) (k0_hw179 : k0_chk179 v2041), ∀ a x, ((![v2041] : Fin 1 → IVec S16 32) a x).toNat < S31104.size a := fun v2041 k0_hw179 => k0_hw179

def k0_chk180 (v2057 : IVec S16 32) : Prop :=
  (∀ a x, ((![v2057] : Fin 1 → IVec S16 32) a x).toNat < S16384.size a)
theorem k0_idx180_inb : ∀ (v2057 : IVec S16 32) (k0_hw180 : k0_chk180 v2057), ∀ a x, ((![v2057] : Fin 1 → IVec S16 32) a x).toNat < S16384.size a := fun v2057 k0_hw180 => k0_hw180

def k0_chk181 (v2062 : IVec S16 32) : Prop :=
  (∀ a x, ((![v2062] : Fin 1 → IVec S16 32) a x).toNat < S31104.size a)
theorem k0_idx181_inb : ∀ (v2062 : IVec S16 32) (k0_hw181 : k0_chk181 v2062), ∀ a x, ((![v2062] : Fin 1 → IVec S16 32) a x).toNat < S31104.size a := fun v2062 k0_hw181 => k0_hw181

def k0_chk182 (v2066 : IVec S16 32) : Prop :=
  (∀ a x, ((![v2066] : Fin 1 → IVec S16 32) a x).toNat < S31104.size a)
theorem k0_idx182_inb : ∀ (v2066 : IVec S16 32) (k0_hw182 : k0_chk182 v2066), ∀ a x, ((![v2066] : Fin 1 → IVec S16 32) a x).toNat < S31104.size a := fun v2066 k0_hw182 => k0_hw182

def k0_chk183 (v2070 : IVec S16 32) : Prop :=
  (∀ a x, ((![v2070] : Fin 1 → IVec S16 32) a x).toNat < S31104.size a)
theorem k0_idx183_inb : ∀ (v2070 : IVec S16 32) (k0_hw183 : k0_chk183 v2070), ∀ a x, ((![v2070] : Fin 1 → IVec S16 32) a x).toNat < S31104.size a := fun v2070 k0_hw183 => k0_hw183

def k0_chk184 (v2086 : IVec S16 32) : Prop :=
  (∀ a x, ((![v2086] : Fin 1 → IVec S16 32) a x).toNat < S16384.size a)
theorem k0_idx184_inb : ∀ (v2086 : IVec S16 32) (k0_hw184 : k0_chk184 v2086), ∀ a x, ((![v2086] : Fin 1 → IVec S16 32) a x).toNat < S16384.size a := fun v2086 k0_hw184 => k0_hw184

def k0_chk185 (v2091 : IVec S16 32) : Prop :=
  (∀ a x, ((![v2091] : Fin 1 → IVec S16 32) a x).toNat < S31104.size a)
theorem k0_idx185_inb : ∀ (v2091 : IVec S16 32) (k0_hw185 : k0_chk185 v2091), ∀ a x, ((![v2091] : Fin 1 → IVec S16 32) a x).toNat < S31104.size a := fun v2091 k0_hw185 => k0_hw185

def k0_chk186 (v2095 : IVec S16 32) : Prop :=
  (∀ a x, ((![v2095] : Fin 1 → IVec S16 32) a x).toNat < S31104.size a)
theorem k0_idx186_inb : ∀ (v2095 : IVec S16 32) (k0_hw186 : k0_chk186 v2095), ∀ a x, ((![v2095] : Fin 1 → IVec S16 32) a x).toNat < S31104.size a := fun v2095 k0_hw186 => k0_hw186

def k0_chk187 (v2099 : IVec S16 32) : Prop :=
  (∀ a x, ((![v2099] : Fin 1 → IVec S16 32) a x).toNat < S31104.size a)
theorem k0_idx187_inb : ∀ (v2099 : IVec S16 32) (k0_hw187 : k0_chk187 v2099), ∀ a x, ((![v2099] : Fin 1 → IVec S16 32) a x).toNat < S31104.size a := fun v2099 k0_hw187 => k0_hw187

def k0_chk188 (v2115 : IVec S16 32) : Prop :=
  (∀ a x, ((![v2115] : Fin 1 → IVec S16 32) a x).toNat < S16384.size a)
theorem k0_idx188_inb : ∀ (v2115 : IVec S16 32) (k0_hw188 : k0_chk188 v2115), ∀ a x, ((![v2115] : Fin 1 → IVec S16 32) a x).toNat < S16384.size a := fun v2115 k0_hw188 => k0_hw188

def k0_chk189 (v2120 : IVec S16 32) : Prop :=
  (∀ a x, ((![v2120] : Fin 1 → IVec S16 32) a x).toNat < S31104.size a)
theorem k0_idx189_inb : ∀ (v2120 : IVec S16 32) (k0_hw189 : k0_chk189 v2120), ∀ a x, ((![v2120] : Fin 1 → IVec S16 32) a x).toNat < S31104.size a := fun v2120 k0_hw189 => k0_hw189

def k0_chk190 (v2124 : IVec S16 32) : Prop :=
  (∀ a x, ((![v2124] : Fin 1 → IVec S16 32) a x).toNat < S31104.size a)
theorem k0_idx190_inb : ∀ (v2124 : IVec S16 32) (k0_hw190 : k0_chk190 v2124), ∀ a x, ((![v2124] : Fin 1 → IVec S16 32) a x).toNat < S31104.size a := fun v2124 k0_hw190 => k0_hw190

def k0_chk191 (v2128 : IVec S16 32) : Prop :=
  (∀ a x, ((![v2128] : Fin 1 → IVec S16 32) a x).toNat < S31104.size a)
theorem k0_idx191_inb : ∀ (v2128 : IVec S16 32) (k0_hw191 : k0_chk191 v2128), ∀ a x, ((![v2128] : Fin 1 → IVec S16 32) a x).toNat < S31104.size a := fun v2128 k0_hw191 => k0_hw191

def k0_chk192 (v2144 : IVec S16 32) : Prop :=
  (∀ a x, ((![v2144] : Fin 1 → IVec S16 32) a x).toNat < S16384.size a)
theorem k0_idx192_inb : ∀ (v2144 : IVec S16 32) (k0_hw192 : k0_chk192 v2144), ∀ a x, ((![v2144] : Fin 1 → IVec S16 32) a x).toNat < S16384.size a := fun v2144 k0_hw192 => k0_hw192
@[reducible] def k0_t25_loop : Scf.Loop 32 :=
  let c0_i32_1205 : BitVec 32 := 0#32
  let c32_i32_1206 : BitVec 32 := 32#32
  let v1955 : BitVec 32 := Scalar.addi c0_i32_1205 c32_i32_1206
  let c1_i32_1207 : BitVec 32 := 1#32
  ⟨c0_i32_1205, v1955, c1_i32_1207⟩
def k0_off17 (k0_t25 : Fin k0_t25_loop.trips) (c0_i32_1261 : BitVec 32) : Fin 1 → Nat :=
  let c0_i32_1260 : BitVec 32 := 0#32
  let c0_i32_1205 : BitVec 32 := 0#32
  let c1_i32_1207 : BitVec 32 := 1#32
  let arg8 : BitVec 32 := Scf.iv c0_i32_1205 c1_i32_1207 k0_t25
  let c256_i32_1259 : BitVec 32 := 256#32
  let v2029 : BitVec 32 := Scalar.muli arg8 c256_i32_1259
  let v2030 : BitVec 32 := Scalar.addi c0_i32_1260 v2029
  let v2031 : BitVec 32 := Scalar.addi v2030 c0_i32_1261
  let v2032 : Index := Scalar.indexCast v2031
  ![v2032.toNat]
@[reducible] def k0_t26_loop : Scf.Loop 32 :=
  let c0_i32_1219 : BitVec 32 := 0#32
  let c81_i32_1220 : BitVec 32 := 81#32
  let v1975 : BitVec 32 := Scalar.addi c0_i32_1219 c81_i32_1220
  let c1_i32_1221 : BitVec 32 := 1#32
  ⟨c0_i32_1219, v1975, c1_i32_1221⟩

def k0_chk193 (v2033 : IVec S16 32) : Prop :=
  (∀ a x, ((![v2033] : Fin 1 → IVec S16 32) a x).toNat < S31104.size a)
theorem k0_idx193_inb : ∀ (v2033 : IVec S16 32) (k0_hw193 : k0_chk193 v2033), ∀ a x, ((![v2033] : Fin 1 → IVec S16 32) a x).toNat < S31104.size a := fun v2033 k0_hw193 => k0_hw193

def k0_chk194 (v2037 : IVec S16 32) : Prop :=
  (∀ a x, ((![v2037] : Fin 1 → IVec S16 32) a x).toNat < S31104.size a)
theorem k0_idx194_inb : ∀ (v2037 : IVec S16 32) (k0_hw194 : k0_chk194 v2037), ∀ a x, ((![v2037] : Fin 1 → IVec S16 32) a x).toNat < S31104.size a := fun v2037 k0_hw194 => k0_hw194

def k0_chk195 (v2041 : IVec S16 32) : Prop :=
  (∀ a x, ((![v2041] : Fin 1 → IVec S16 32) a x).toNat < S31104.size a)
theorem k0_idx195_inb : ∀ (v2041 : IVec S16 32) (k0_hw195 : k0_chk195 v2041), ∀ a x, ((![v2041] : Fin 1 → IVec S16 32) a x).toNat < S31104.size a := fun v2041 k0_hw195 => k0_hw195

def k0_chk196 (v2057 : IVec S16 32) : Prop :=
  (∀ a x, ((![v2057] : Fin 1 → IVec S16 32) a x).toNat < S16384.size a)
theorem k0_idx196_inb : ∀ (v2057 : IVec S16 32) (k0_hw196 : k0_chk196 v2057), ∀ a x, ((![v2057] : Fin 1 → IVec S16 32) a x).toNat < S16384.size a := fun v2057 k0_hw196 => k0_hw196

def k0_chk197 (v2062 : IVec S16 32) : Prop :=
  (∀ a x, ((![v2062] : Fin 1 → IVec S16 32) a x).toNat < S31104.size a)
theorem k0_idx197_inb : ∀ (v2062 : IVec S16 32) (k0_hw197 : k0_chk197 v2062), ∀ a x, ((![v2062] : Fin 1 → IVec S16 32) a x).toNat < S31104.size a := fun v2062 k0_hw197 => k0_hw197

def k0_chk198 (v2066 : IVec S16 32) : Prop :=
  (∀ a x, ((![v2066] : Fin 1 → IVec S16 32) a x).toNat < S31104.size a)
theorem k0_idx198_inb : ∀ (v2066 : IVec S16 32) (k0_hw198 : k0_chk198 v2066), ∀ a x, ((![v2066] : Fin 1 → IVec S16 32) a x).toNat < S31104.size a := fun v2066 k0_hw198 => k0_hw198

def k0_chk199 (v2070 : IVec S16 32) : Prop :=
  (∀ a x, ((![v2070] : Fin 1 → IVec S16 32) a x).toNat < S31104.size a)
theorem k0_idx199_inb : ∀ (v2070 : IVec S16 32) (k0_hw199 : k0_chk199 v2070), ∀ a x, ((![v2070] : Fin 1 → IVec S16 32) a x).toNat < S31104.size a := fun v2070 k0_hw199 => k0_hw199

def k0_chk200 (v2086 : IVec S16 32) : Prop :=
  (∀ a x, ((![v2086] : Fin 1 → IVec S16 32) a x).toNat < S16384.size a)
theorem k0_idx200_inb : ∀ (v2086 : IVec S16 32) (k0_hw200 : k0_chk200 v2086), ∀ a x, ((![v2086] : Fin 1 → IVec S16 32) a x).toNat < S16384.size a := fun v2086 k0_hw200 => k0_hw200

def k0_chk201 (v2091 : IVec S16 32) : Prop :=
  (∀ a x, ((![v2091] : Fin 1 → IVec S16 32) a x).toNat < S31104.size a)
theorem k0_idx201_inb : ∀ (v2091 : IVec S16 32) (k0_hw201 : k0_chk201 v2091), ∀ a x, ((![v2091] : Fin 1 → IVec S16 32) a x).toNat < S31104.size a := fun v2091 k0_hw201 => k0_hw201

def k0_chk202 (v2095 : IVec S16 32) : Prop :=
  (∀ a x, ((![v2095] : Fin 1 → IVec S16 32) a x).toNat < S31104.size a)
theorem k0_idx202_inb : ∀ (v2095 : IVec S16 32) (k0_hw202 : k0_chk202 v2095), ∀ a x, ((![v2095] : Fin 1 → IVec S16 32) a x).toNat < S31104.size a := fun v2095 k0_hw202 => k0_hw202

def k0_chk203 (v2099 : IVec S16 32) : Prop :=
  (∀ a x, ((![v2099] : Fin 1 → IVec S16 32) a x).toNat < S31104.size a)
theorem k0_idx203_inb : ∀ (v2099 : IVec S16 32) (k0_hw203 : k0_chk203 v2099), ∀ a x, ((![v2099] : Fin 1 → IVec S16 32) a x).toNat < S31104.size a := fun v2099 k0_hw203 => k0_hw203

def k0_chk204 (v2115 : IVec S16 32) : Prop :=
  (∀ a x, ((![v2115] : Fin 1 → IVec S16 32) a x).toNat < S16384.size a)
theorem k0_idx204_inb : ∀ (v2115 : IVec S16 32) (k0_hw204 : k0_chk204 v2115), ∀ a x, ((![v2115] : Fin 1 → IVec S16 32) a x).toNat < S16384.size a := fun v2115 k0_hw204 => k0_hw204

def k0_chk205 (v2120 : IVec S16 32) : Prop :=
  (∀ a x, ((![v2120] : Fin 1 → IVec S16 32) a x).toNat < S31104.size a)
theorem k0_idx205_inb : ∀ (v2120 : IVec S16 32) (k0_hw205 : k0_chk205 v2120), ∀ a x, ((![v2120] : Fin 1 → IVec S16 32) a x).toNat < S31104.size a := fun v2120 k0_hw205 => k0_hw205

def k0_chk206 (v2124 : IVec S16 32) : Prop :=
  (∀ a x, ((![v2124] : Fin 1 → IVec S16 32) a x).toNat < S31104.size a)
theorem k0_idx206_inb : ∀ (v2124 : IVec S16 32) (k0_hw206 : k0_chk206 v2124), ∀ a x, ((![v2124] : Fin 1 → IVec S16 32) a x).toNat < S31104.size a := fun v2124 k0_hw206 => k0_hw206

def k0_chk207 (v2128 : IVec S16 32) : Prop :=
  (∀ a x, ((![v2128] : Fin 1 → IVec S16 32) a x).toNat < S31104.size a)
theorem k0_idx207_inb : ∀ (v2128 : IVec S16 32) (k0_hw207 : k0_chk207 v2128), ∀ a x, ((![v2128] : Fin 1 → IVec S16 32) a x).toNat < S31104.size a := fun v2128 k0_hw207 => k0_hw207

def k0_chk208 (v2144 : IVec S16 32) : Prop :=
  (∀ a x, ((![v2144] : Fin 1 → IVec S16 32) a x).toNat < S16384.size a)
theorem k0_idx208_inb : ∀ (v2144 : IVec S16 32) (k0_hw208 : k0_chk208 v2144), ∀ a x, ((![v2144] : Fin 1 → IVec S16 32) a x).toNat < S16384.size a := fun v2144 k0_hw208 => k0_hw208
abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x100x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x100x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x3x100x27x48 : Shape := ⟨5, ![16, 3, 100, 27, 48]⟩
abbrev S128x101 : Shape := ⟨2, ![128, 101]⟩
abbrev S128 : Shape := ⟨1, ![128]⟩
abbrev S16x100x27x48x3 : Shape := ⟨5, ![16, 100, 27, 48, 3]⟩
abbrev S1600x1296x3 : Shape := ⟨3, ![1600, 1296, 3]⟩
abbrev S1600x1296x1 : Shape := ⟨3, ![1600, 1296, 1]⟩
abbrev S1600x1296 : Shape := ⟨2, ![1600, 1296]⟩
abbrev S_ : Shape := ⟨0, ![]⟩
abbrev S1600 : Shape := ⟨1, ![1600]⟩
abbrev S1600x1 : Shape := ⟨2, ![1600, 1]⟩
abbrev S2073600 : Shape := ⟨1, ![2073600]⟩
abbrev S819200 : Shape := ⟨1, ![819200]⟩
abbrev S2073600x1 : Shape := ⟨2, ![2073600, 1]⟩
abbrev S16x100x512 : Shape := ⟨3, ![16, 100, 512]⟩
abbrev S16x100 : Shape := ⟨2, ![16, 100]⟩
abbrev S16x100x1 : Shape := ⟨3, ![16, 100, 1]⟩
abbrev S16x100x100 : Shape := ⟨3, ![16, 100, 100]⟩
abbrev S16x100x200 : Shape := ⟨3, ![16, 100, 200]⟩
abbrev S100 : Shape := ⟨1, ![100]⟩
abbrev S100x1 : Shape := ⟨2, ![100, 1]⟩
abbrev S101 : Shape := ⟨1, ![101]⟩
abbrev S1x101 : Shape := ⟨2, ![1, 101]⟩
abbrev S100x101 : Shape := ⟨2, ![100, 101]⟩
abbrev S100x101x1 : Shape := ⟨3, ![100, 101, 1]⟩
abbrev S100x101x2 : Shape := ⟨3, ![100, 101, 2]⟩
abbrev S16x100x101 : Shape := ⟨3, ![16, 100, 101]⟩
abbrev S101x128 : Shape := ⟨2, ![101, 128]⟩
abbrev S16x100x128 : Shape := ⟨3, ![16, 100, 128]⟩
abbrev S1x1x128 : Shape := ⟨3, ![1, 1, 128]⟩

abbrev nBuf : Space → Nat
  | .hbm => 98
  | .vmem => 0
  | .smem => 0
  | _ => 0

abbrev bufTy : (tb : Table) → Fin (tcTables nBuf tb) → BufTy
  | .hbm, ⟨0, _⟩ => ⟨S16x3x100x27x48, .i32⟩
  | .hbm, ⟨1, _⟩ => ⟨S128x101, .f32⟩
  | .hbm, ⟨2, _⟩ => ⟨S128, .f32⟩
  | .hbm, ⟨3, _⟩ => ⟨S16x100x27x48x3, .i32⟩
  | .hbm, ⟨4, _⟩ => ⟨S1600x1296x3, .i32⟩
  | .hbm, ⟨5, _⟩ => ⟨S1600x1296x1, .i32⟩
  | .hbm, ⟨6, _⟩ => ⟨S1600x1296, .i32⟩
  | .hbm, ⟨7, _⟩ => ⟨S_, .i32⟩
  | .hbm, ⟨8, _⟩ => ⟨S1600x1296, .i32⟩
  | .hbm, ⟨9, _⟩ => ⟨S1600x1296, .i32⟩
  | .hbm, ⟨10, _⟩ => ⟨S1600x1296x1, .i32⟩
  | .hbm, ⟨11, _⟩ => ⟨S1600x1296, .i32⟩
  | .hbm, ⟨12, _⟩ => ⟨S_, .i32⟩
  | .hbm, ⟨13, _⟩ => ⟨S1600x1296, .i32⟩
  | .hbm, ⟨14, _⟩ => ⟨S1600x1296, .i32⟩
  | .hbm, ⟨15, _⟩ => ⟨S1600x1296x1, .i32⟩
  | .hbm, ⟨16, _⟩ => ⟨S1600x1296, .i32⟩
  | .hbm, ⟨17, _⟩ => ⟨S_, .i32⟩
  | .hbm, ⟨18, _⟩ => ⟨S1600x1296, .i32⟩
  | .hbm, ⟨19, _⟩ => ⟨S1600x1296, .i32⟩
  | .hbm, ⟨20, _⟩ => ⟨S_, .i32⟩
  | .hbm, ⟨21, _⟩ => ⟨S1600x1296, .i32⟩
  | .hbm, ⟨22, _⟩ => ⟨S1600x1296, .i32⟩
  | .hbm, ⟨23, _⟩ => ⟨S_, .i32⟩
  | .hbm, ⟨24, _⟩ => ⟨S1600x1296, .i32⟩
  | .hbm, ⟨25, _⟩ => ⟨S1600x1296, .i32⟩
  | .hbm, ⟨26, _⟩ => ⟨S1600x1296, .i32⟩
  | .hbm, ⟨27, _⟩ => ⟨S1600x1296, .i32⟩
  | .hbm, ⟨28, _⟩ => ⟨S1600, .i32⟩
  | .hbm, ⟨29, _⟩ => ⟨S_, .i32⟩
  | .hbm, ⟨30, _⟩ => ⟨S1600, .i32⟩
  | .hbm, ⟨31, _⟩ => ⟨S1600, .i32⟩
  | .hbm, ⟨32, _⟩ => ⟨S1600x1, .i32⟩
  | .hbm, ⟨33, _⟩ => ⟨S1600x1296, .i32⟩
  | .hbm, ⟨34, _⟩ => ⟨S1600x1296, .i32⟩
  | .hbm, ⟨35, _⟩ => ⟨S2073600, .i32⟩
  | .hbm, ⟨36, _⟩ => ⟨S_, .i32⟩
  | .hbm, ⟨37, _⟩ => ⟨S819200, .i32⟩
  | .hbm, ⟨38, _⟩ => ⟨S_, .i32⟩
  | .hbm, ⟨39, _⟩ => ⟨S2073600, .i32⟩
  | .hbm, ⟨40, _⟩ => ⟨S2073600, .i1⟩
  | .hbm, ⟨41, _⟩ => ⟨S_, .i32⟩
  | .hbm, ⟨42, _⟩ => ⟨S2073600, .i32⟩
  | .hbm, ⟨43, _⟩ => ⟨S2073600, .i32⟩
  | .hbm, ⟨44, _⟩ => ⟨S2073600, .i32⟩
  | .hbm, ⟨45, _⟩ => ⟨S2073600x1, .i32⟩
  | .hbm, ⟨46, _⟩ => ⟨S_, .i32⟩
  | .hbm, ⟨47, _⟩ => ⟨S2073600, .i32⟩
  | .hbm, ⟨48, _⟩ => ⟨S819200, .i32⟩
  | .hbm, ⟨49, _⟩ => ⟨S16x100x512, .i32⟩
  | .hbm, ⟨50, _⟩ => ⟨S16x100x512, .f32⟩
  | .hbm, ⟨51, _⟩ => ⟨S16x100x512, .f32⟩
  | .hbm, ⟨52, _⟩ => ⟨S_, .f32⟩
  | .hbm, ⟨53, _⟩ => ⟨S16x100, .f32⟩
  | .hbm, ⟨54, _⟩ => ⟨S16x100x1, .f32⟩
  | .hbm, ⟨55, _⟩ => ⟨S16x100x1, .f32⟩
  | .hbm, ⟨56, _⟩ => ⟨S16x100x512, .f32⟩
  | .hbm, ⟨57, _⟩ => ⟨S16x100x512, .f32⟩
  | .hbm, ⟨58, _⟩ => ⟨S16x100x100, .f32⟩
  | .hbm, ⟨59, _⟩ => ⟨S_, .i32⟩
  | .hbm, ⟨60, _⟩ => ⟨S_, .f32⟩
  | .hbm, ⟨61, _⟩ => ⟨S16x100x200, .f32⟩
  | .hbm, ⟨62, _⟩ => ⟨S100, .i32⟩
  | .hbm, ⟨63, _⟩ => ⟨S100x1, .i32⟩
  | .hbm, ⟨64, _⟩ => ⟨S100, .i32⟩
  | .hbm, ⟨65, _⟩ => ⟨S100x1, .i32⟩
  | .hbm, ⟨66, _⟩ => ⟨S101, .i32⟩
  | .hbm, ⟨67, _⟩ => ⟨S1x101, .i32⟩
  | .hbm, ⟨68, _⟩ => ⟨S100x101, .i32⟩
  | .hbm, ⟨69, _⟩ => ⟨S100x101, .i32⟩
  | .hbm, ⟨70, _⟩ => ⟨S100x101, .i32⟩
  | .hbm, ⟨71, _⟩ => ⟨S_, .i32⟩
  | .hbm, ⟨72, _⟩ => ⟨S100x1, .i32⟩
  | .hbm, ⟨73, _⟩ => ⟨S100x1, .i1⟩
  | .hbm, ⟨74, _⟩ => ⟨S_, .i32⟩
  | .hbm, ⟨75, _⟩ => ⟨S100x1, .i32⟩
  | .hbm, ⟨76, _⟩ => ⟨S100x1, .i32⟩
  | .hbm, ⟨77, _⟩ => ⟨S100x1, .i32⟩
  | .hbm, ⟨78, _⟩ => ⟨S_, .i32⟩
  | .hbm, ⟨79, _⟩ => ⟨S100x101, .i32⟩
  | .hbm, ⟨80, _⟩ => ⟨S100x101, .i1⟩
  | .hbm, ⟨81, _⟩ => ⟨S_, .i32⟩
  | .hbm, ⟨82, _⟩ => ⟨S100x101, .i32⟩
  | .hbm, ⟨83, _⟩ => ⟨S100x101, .i32⟩
  | .hbm, ⟨84, _⟩ => ⟨S100x101, .i32⟩
  | .hbm, ⟨85, _⟩ => ⟨S100x101, .i32⟩
  | .hbm, ⟨86, _⟩ => ⟨S100x101x1, .i32⟩
  | .hbm, ⟨87, _⟩ => ⟨S100x101x1, .i32⟩
  | .hbm, ⟨88, _⟩ => ⟨S100x101x2, .i32⟩
  | .hbm, ⟨89, _⟩ => ⟨S16x100x101, .f32⟩
  | .hbm, ⟨90, _⟩ => ⟨S101x128, .f32⟩
  | .hbm, ⟨91, _⟩ => ⟨S16x100x128, .f32⟩
  | .hbm, ⟨92, _⟩ => ⟨S1x1x128, .f32⟩
  | .hbm, ⟨93, _⟩ => ⟨S16x100x128, .f32⟩
  | .hbm, ⟨94, _⟩ => ⟨S16x100x128, .f32⟩
  | .hbm, ⟨95, _⟩ => ⟨S_, .f32⟩
  | .hbm, ⟨96, _⟩ => ⟨S16x100x128, .f32⟩
  | .hbm, ⟨97, _⟩ => ⟨S16x100x128, .f32⟩
  | _, _ => ⟨S16x3x100x27x48, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_1 : Ref sig .tc := ⟨.hbm, 17, rfl⟩
abbrev main_v12 : Ref sig .tc := ⟨.hbm, 18, rfl⟩
abbrev main_v13 : Ref sig .tc := ⟨.hbm, 19, rfl⟩
abbrev main_c_2 : Ref sig .tc := ⟨.hbm, 20, rfl⟩
abbrev main_v14 : Ref sig .tc := ⟨.hbm, 21, rfl⟩
abbrev main_v15 : Ref sig .tc := ⟨.hbm, 22, rfl⟩
abbrev main_c_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c_5 : Ref sig .tc := ⟨.hbm, 36, rfl⟩
abbrev main_v27 : Ref sig .tc := ⟨.hbm, 37, rfl⟩
abbrev main_c_6 : Ref sig .tc := ⟨.hbm, 38, rfl⟩
abbrev main_v28 : Ref sig .tc := ⟨.hbm, 39, rfl⟩
abbrev main_v29 : Ref sig .tc := ⟨.hbm, 40, rfl⟩
abbrev main_c_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_8 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_call0_v0 : Ref sig .tc := ⟨.hbm, 51, rfl⟩
abbrev main_call0_cst : Ref sig .tc := ⟨.hbm, 52, rfl⟩
abbrev main_call0_v1 : Ref sig .tc := ⟨.hbm, 53, rfl⟩
abbrev main_call0_v2 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_c_9 : Ref sig .tc := ⟨.hbm, 59, rfl⟩
abbrev main_call1_v0 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_c_10 : Ref sig .tc := ⟨.hbm, 71, rfl⟩
abbrev main_v52 : Ref sig .tc := ⟨.hbm, 72, rfl⟩
abbrev main_v53 : Ref sig .tc := ⟨.hbm, 73, rfl⟩
abbrev main_c_11 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_12 : Ref sig .tc := ⟨.hbm, 78, rfl⟩
abbrev main_v57 : Ref sig .tc := ⟨.hbm, 79, rfl⟩
abbrev main_v58 : Ref sig .tc := ⟨.hbm, 80, rfl⟩
abbrev main_c_13 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_call2_cst : Ref sig .tc := ⟨.hbm, 95, rfl⟩
abbrev main_call2_v0 : Ref sig .tc := ⟨.hbm, 96, rfl⟩
abbrev main_v72 : Ref sig .tc := ⟨.hbm, 97, rfl⟩

abbrev nD : Nat := 1
abbrev τ : Topo := Topo.v7x

variable {F : FTy → Type} [FloatOps F]
-- ==== Proof.Tile.lean ====
/-
  The SparseCore kernel's text, written once for a stage. The printed body of `cc0_sc_hist` is thirteen stages in a
  row, each the same text at another group of four frames and another half of the two scratch buffers. Here a stage is
  one program with the group index and the half as parameters, and `sc_hist_eq` says that the printed body is the
  first fetch followed by the thirteen stages.
-/
module

public import proofs.«01_k».proof.Defs
public import proofs.«01_k».proof.Proof.Gen.KernelIdeal
public import proofs.«01_k».proof.Proof.Gen.KernelIdeal.Skeleton

@[expose] public section

noncomputable section

namespace Cert.Proof

open Idealize.ShloMosaic Idealize.SL.Sem
open Cert.KernelIdeal Cert.KernelIdeal.Gen

variable {F : FTy → Type} [FloatOps F]

/-- A tile's effects. -/
abbrev TileEff (F : FTy → Type) (i : grid0.Coords) :=
  TpuEff nD τ sig (Elt F) Λ₀ (.scVector ((i 0).castLE hcore0) ((i 1).castLE hsub0))

/-! ## The windows the transfers name -/

abbrev bufSl (arg4 : Memref sig .scVector .vmem S31104 .i32) (o : ℕ)
    (ho : ∀ a, (![o] : Fin 1 → ℕ) a + S5184.size a ≤ S31104.size a) : Memref sig .scVector .vmem S5184 .i32 :=
  arg4.slice (Rect.unit (s := S31104) ![o] S5184.size ho) (fun _ => rfl)

abbrev srcSl (arg2 : Memref sig .scVector .hbm S16x3x129600 .i32) (off : Fin 3 → ℕ)
    (ho : ∀ a, off a + S1x1x5184.size a ≤ S16x3x129600.size a) : Memref sig .scVector .hbm S5184 .i32 :=
  (arg2.slice (Rect.unit (s := S16x3x129600) off S1x1x5184.size ho) (fun _ => rfl)).squeeze S5184 squeezes_S1x1x5184_S5184

abbrev histSl (arg5 : Memref sig .scVector .vmem S16384 .f32) (o : ℕ)
    (ho : ∀ a, (![o] : Fin 1 → ℕ) a + S2048.size a ≤ S16384.size a) : Memref sig .scVector .vmem S2048 .f32 :=
  arg5.slice (Rect.unit (s := S16384) ![o] S2048.size ho) (fun _ => rfl)

abbrev outSl (arg3 : Memref sig .scVector .hbm S16x100x2048 .f32) (off : Fin 3 → ℕ)
    (ho : ∀ a, off a + S1x1x2048.size a ≤ S16x100x2048.size a) : Memref sig .scVector .hbm S2048 .f32 :=
  (arg3.slice (Rect.unit (s := S16x100x2048) off S1x1x2048.size ho) (fun _ => rfl)).squeeze S2048 squeezes_S1x1x2048_S2048

theorem buf_inb (h : Fin 2) (ch : Fin 3) : ∀ a, (![h.val * 15552 + ch.val * 5184] : Fin 1 → ℕ) a + S5184.size a ≤ S31104.size a := by
  revert h ch; decide

theorem hist_inb (h : Fin 2) (f : Fin 4) : ∀ a, (![h.val * 8192 + f.val * 2048] : Fin 1 → ℕ) a + S2048.size a ≤ S16384.size a := by
  revert h f; decide

/-! ## The loops' bodies -/

/-- Where the clearing loop's store `c / 16` of trip `t` begins, the half of the histogram buffer beginning at `hz`. -/
def zOff (hz : BitVec 32) (t : Fin k0_t1_loop.trips) (c : BitVec 32) : Fin 1 → Nat :=
  ![(Scalar.indexCast (Scalar.addi (Scalar.addi hz (Scalar.muli (Scf.iv 0#32 1#32 t) 256#32)) c)).toNat]

/-- The half `h` of the histogram buffer begins at this word. -/
abbrev hz (h : Fin 2) : BitVec 32 := BitVec.ofNat 32 (h.val * 8192)

theorem zOff_inb (h : Fin 2) (t : Fin k0_t1_loop.trips) (r : Fin 16) :
    ∀ a, zOff (hz h) t (BitVec.ofNat 32 (16 * r.val)) a + S16.size a ≤ S16384.size a := by
  match h with
  | 0 => exact k0_off4_inb t r
  | 1 => exact k0_off6_inb t r

variable (i : grid0.Coords)

/-- Clear sixteen words of the histogram buffer. -/
def zStep (arg5 : Memref sig .scVector .vmem S16384 .f32) (v13 : FVec F S16 .f32) (h : Fin 2) (t : Fin k0_t1_loop.trips) (r : Fin 16) :
    Prog (TileEff F i) PUnit := do
  let _ ← Prog.lift (.load arg5 (Rect.unit (s := S16384) (zOff (hz h) t (BitVec.ofNat 32 (16 * r.val))) S16.size (zOff_inb h t r)).toLoadRect (View.loadsAt_vmem h_S16))
  Prog.lift (.store arg5 (Rect.unit (s := S16384) (zOff (hz h) t (BitVec.ofNat 32 (16 * r.val))) S16.size (zOff_inb h t r)) v13 Finset.univ (View.stores_vmem_bits_univ h_S16 rfl) (.inl rfl))

/-- One trip of the clearing loop: 256 words. -/
def zBody (arg5 : Memref sig .scVector .vmem S16384 .f32) (v13 : FVec F S16 .f32) (h : Fin 2) :
    Fin k0_t1_loop.trips → BitVec 32 → Prog (TileEff F i) (BitVec 32) := fun t _ => do
  zStep i arg5 v13 h t 0; zStep i arg5 v13 h t 1; zStep i arg5 v13 h t 2; zStep i arg5 v13 h t 3
  zStep i arg5 v13 h t 4; zStep i arg5 v13 h t 5; zStep i arg5 v13 h t 6; zStep i arg5 v13 h t 7
  zStep i arg5 v13 h t 8; zStep i arg5 v13 h t 9; zStep i arg5 v13 h t 10; zStep i arg5 v13 h t 11
  zStep i arg5 v13 h t 12; zStep i arg5 v13 h t 13; zStep i arg5 v13 h t 14; zStep i arg5 v13 h t 15
  pure 0#32

/-- The histogram index the sixteen lanes name, from their three colours. -/
def binVec (v11 r g b : IVec S16 32) (h : Fin 2) : IVec S16 32 :=
  addi (addi (addi (addi (shli (shrsi r (broadcast S16 5#32)) (broadcast S16 6#32)) (shli (shrsi g (broadcast S16 5#32)) (broadcast S16 3#32)))
    (shrsi b (broadcast S16 5#32))) v11) (broadcast S16 (hz h))

/-- The scalar part of the index of pixel step `k` of trip `t`. -/
def pxScalar (h : Fin 2) (t : Fin k0_t2_loop.trips) (k : Fin 4) : BitVec 32 :=
  Scalar.addi (Scalar.addi (BitVec.ofNat 32 (h.val * 15552)) (Scalar.muli (Scf.iv 0#32 1#32 t) 16#32)) (BitVec.ofNat 32 (4 * k.val))

/-- The index the sixteen lanes read channel `ch` at. -/
def chanVec (v9 : IVec S16 32) (s : BitVec 32) : IVec S16 32 := addi v9 (broadcast S16 s)

/-- Sixteen pixels, one per lane: gather their three colours, add one to their bins. -/
def pxStep (arg4 : Memref sig .scVector .vmem S31104 .i32) (arg5 : Memref sig .scVector .vmem S16384 .f32)
    (v9 v11 : IVec S16 32) (v12 : FVec F S16 .f32) (h : Fin 2) (s : BitVec 32) : Prog (TileEff F i) PUnit := do
  have a0 : IVec S16 32 := chanVec v9 s
  have w0 : k0_chk1 a0 := (← Prog.lift (TpuEff.assume (k0_chk1 a0) (k0_chk1.dec a0))).down
  let r : Vec F S16 .i32 ← SparseCore.vectorLoadIdx arg4 ![a0] (k0_idx1_inb a0 w0) (View.loads_vmem h_S31104)
  have a1 : IVec S16 32 := chanVec v9 (Scalar.addi s 5184#32)
  have w1 : k0_chk1 a1 := (← Prog.lift (TpuEff.assume (k0_chk1 a1) (k0_chk1.dec a1))).down
  let g : Vec F S16 .i32 ← SparseCore.vectorLoadIdx arg4 ![a1] (k0_idx1_inb a1 w1) (View.loads_vmem h_S31104)
  have a2 : IVec S16 32 := chanVec v9 (Scalar.addi s 10368#32)
  have w2 : k0_chk1 a2 := (← Prog.lift (TpuEff.assume (k0_chk1 a2) (k0_chk1.dec a2))).down
  let b : Vec F S16 .i32 ← SparseCore.vectorLoadIdx arg4 ![a2] (k0_idx1_inb a2 w2) (View.loads_vmem h_S31104)
  have a3 : IVec S16 32 := binVec v11 r g b h
  have w3 : k0_chk4 a3 := (← Prog.lift (TpuEff.assume (k0_chk4 a3) (k0_chk4.dec a3))).down
  SparseCore.vectorStoreIdx arg5 ![a3] v12 (fun _ => 1#1) true (k0_idx4_inb a3 w3) (View.stores_vmem_bits_univ h_S16384 rfl)

/-- One trip of the pixel loop: four pixel steps. -/
def pxBody (arg4 : Memref sig .scVector .vmem S31104 .i32) (arg5 : Memref sig .scVector .vmem S16384 .f32)
    (v9 v11 : IVec S16 32) (v12 : FVec F S16 .f32) (h : Fin 2) :
    Fin k0_t2_loop.trips → BitVec 32 → Prog (TileEff F i) (BitVec 32) := fun t _ => do
  pxStep i arg4 arg5 v9 v11 v12 h (pxScalar h t 0)
  pxStep i arg4 arg5 v9 v11 v12 h (pxScalar h t 1)
  pxStep i arg4 arg5 v9 v11 v12 h (pxScalar h t 2)
  pxStep i arg4 arg5 v9 v11 v12 h (pxScalar h t 3)
  pure 0#32

/-! ## The transfers of a stage -/

/-- The three channel windows of stage `gi`'s group in the frames. -/
abbrev inOff (gi : Fin 13) : Fin 3 → Fin 3 → ℕ
  | 0 => k0_off1 i (BitVec.ofNat 32 (32 * gi.val))
  | 1 => k0_off2 i (BitVec.ofNat 32 (32 * gi.val))
  | 2 => k0_off3 i (BitVec.ofNat 32 (32 * gi.val))

theorem inOff_inb (gi : Fin 13) (ch : Fin 3) : ∀ a, inOff i gi ch a + S1x1x5184.size a ≤ S16x3x129600.size a := by
  match ch with
  | 0 => exact k0_off1_inb i gi
  | 1 => exact k0_off2_inb i gi
  | 2 => exact k0_off3_inb i gi

section
variable (arg2 : Memref sig .scVector .hbm S16x3x129600 .i32) (arg3 : Memref sig .scVector .hbm S16x100x2048 .f32)
  (arg4 : Memref sig .scVector .vmem S31104 .i32) (arg5 : Memref sig .scVector .vmem S16384 .f32) (arg6 arg7 : DmaSems sig S_)

/-- Fetch channel `ch` of stage `gi`'s group into half `h`. -/
def inCopy (gi : Fin 13) (h : Fin 2) (ch : Fin 3) : Prog (TileEff F i) PUnit :=
  Prog.lift (.enqueueDma (srcSl arg2 (inOff i gi ch) (inOff_inb i gi ch)) (.here (bufSl arg4 (h.val * 15552 + ch.val * 5184) (buf_inb h ch))) (.dma arg6.sem)
    ((View.wordExact_bits rfl).reshape _ _) (View.wordExact_bits rfl) ⟨Or.inl rfl, trivial⟩)

def inWait (gi : Fin 13) (h : Fin 2) (ch : Fin 3) : Prog (TileEff F i) PUnit :=
  Prog.lift (.waitDma2 arg6.sem (srcSl arg2 (inOff i gi ch) (inOff_inb i gi ch)) (bufSl arg4 (h.val * 15552 + ch.val * 5184) (buf_inb h ch))
    ((View.wordExact_bits rfl).reshape _ _) (View.wordExact_bits rfl))

/-- Send frame `f` of half `h` of the histograms to its row of the result. -/
def outCopy (gi : Fin 13) (h : Fin 2) (f : Fin 4) : Prog (TileEff F i) PUnit :=
  Prog.lift (.enqueueDma (histSl arg5 (h.val * 8192 + f.val * 2048) (hist_inb h f))
    (.here (outSl arg3 (k0_off5 i (BitVec.ofNat 32 (32 * gi.val)) (BitVec.ofNat 32 f.val)) (k0_off5_inb i gi f))) (.dma arg7.sem)
    (View.wordExact_bits rfl) ((View.wordExact_bits rfl).reshape _ _) ⟨Or.inl rfl, trivial⟩)

def outWait (gi : Fin 13) (h : Fin 2) (f : Fin 4) : Prog (TileEff F i) PUnit :=
  Prog.lift (.waitDma2 arg7.sem (histSl arg5 (h.val * 8192 + f.val * 2048) (hist_inb h f))
    (outSl arg3 (k0_off5 i (BitVec.ofNat 32 (32 * gi.val)) (BitVec.ofNat 32 f.val)) (k0_off5_inb i gi f))
    (View.wordExact_bits rfl) ((View.wordExact_bits rfl).reshape _ _))

/-- The three fetches of a stage. -/
def fetch (gi : Fin 13) (h : Fin 2) : Prog (TileEff F i) PUnit := do
  inCopy i arg2 arg4 arg6 gi h 0; inCopy i arg2 arg4 arg6 gi h 1; inCopy i arg2 arg4 arg6 gi h 2

def fetched (gi : Fin 13) (h : Fin 2) : Prog (TileEff F i) PUnit := do
  inWait i arg2 arg4 arg6 gi h 0; inWait i arg2 arg4 arg6 gi h 1; inWait i arg2 arg4 arg6 gi h 2

/-- The four rows of a stage sent, and waited for. -/
def send (gi : Fin 13) (h : Fin 2) : Prog (TileEff F i) PUnit := do
  outCopy i arg3 arg5 arg7 gi h 0; outCopy i arg3 arg5 arg7 gi h 1; outCopy i arg3 arg5 arg7 gi h 2; outCopy i arg3 arg5 arg7 gi h 3
  outWait i arg3 arg5 arg7 gi h 0; outWait i arg3 arg5 arg7 gi h 1; outWait i arg3 arg5 arg7 gi h 2; outWait i arg3 arg5 arg7 gi h 3

/-- Clear a half of the histograms. -/
def clear (h : Fin 2) : Prog (TileEff F i) PUnit := do
  let _ ← Scf.Loop.for k0_t1_loop k0_t1_ok 0#32 (zBody i arg5 (k0_pay225 (F := F)) h)

/-- Count a half's pixels. -/
def count (h : Fin 2) : Prog (TileEff F i) PUnit := do
  let _ ← Scf.Loop.for k0_t2_loop k0_t2_ok 0#32 (pxBody i arg4 arg5 k0_pay222 k0_pay223 (k0_pay224 (F := F)) h)

/-- A stage that is not the last: the next group is fetched into the other half while this one is counted. -/
def stage (gi gi' : Fin 13) (h h' : Fin 2) : Prog (TileEff F i) PUnit := do
  clear i arg5 h; fetched i arg2 arg4 arg6 gi h; fetch i arg2 arg4 arg6 gi' h'
  count i arg4 arg5 h; send i arg3 arg5 arg7 gi h

/-- The last stage. -/
def lastStage (gi : Fin 13) (h : Fin 2) : Prog (TileEff F i) PUnit := do
  clear i arg5 h; fetched i arg2 arg4 arg6 gi h
  count i arg4 arg5 h; send i arg3 arg5 arg7 gi h

/-- The whole tile task. -/
def tileProg : Prog (TileEff F i) PUnit := do
  fetch i arg2 arg4 arg6 0 0
  stage i arg2 arg3 arg4 arg5 arg6 arg7 0 1 0 1
  stage i arg2 arg3 arg4 arg5 arg6 arg7 1 2 1 0
  stage i arg2 arg3 arg4 arg5 arg6 arg7 2 3 0 1
  stage i arg2 arg3 arg4 arg5 arg6 arg7 3 4 1 0
  stage i arg2 arg3 arg4 arg5 arg6 arg7 4 5 0 1
  stage i arg2 arg3 arg4 arg5 arg6 arg7 5 6 1 0
  stage i arg2 arg3 arg4 arg5 arg6 arg7 6 7 0 1
  stage i arg2 arg3 arg4 arg5 arg6 arg7 7 8 1 0
  stage i arg2 arg3 arg4 arg5 arg6 arg7 8 9 0 1
  stage i arg2 arg3 arg4 arg5 arg6 arg7 9 10 1 0
  stage i arg2 arg3 arg4 arg5 arg6 arg7 10 11 0 1
  stage i arg2 arg3 arg4 arg5 arg6 arg7 11 12 1 0
  lastStage i arg2 arg3 arg4 arg5 arg6 arg7 12 0

end

end Cert.Proof

end
-- ==== Proof.Same.lean ====
/-
  The printed body of the SparseCore kernel is the stages of Tile.lean, one after the other.
-/
module
public import proofs.«01_k».proof.Proof.Tile
@[expose] public section
set_option maxRecDepth 20000
noncomputable section
namespace Cert.Proof
open Idealize.ShloMosaic Idealize.SL.Sem
open Cert.KernelIdeal Cert.KernelIdeal.Gen
variable {F : FTy → Type} [FloatOps F]
set_option maxHeartbeats 4000000 in
theorem sc_hist_eq (i : grid0.Coords) (arg2 : Memref sig .scVector .hbm S16x3x129600 .i32) (harg2 : arg2.IsWhole) (arg3 : Memref sig .scVector .hbm S16x100x2048 .f32) (harg3 : arg3.IsWhole) (arg4 : Memref sig .scVector .vmem S31104 .i32) (harg4 : arg4.IsWhole) (arg5 : Memref sig .scVector .vmem S16384 .f32) (harg5 : arg5.IsWhole) (arg6 : DmaSems sig S_) (arg7 : DmaSems sig S_) :
    cc0_sc_hist (F := F) i arg2 harg2 arg3 harg3 arg4 harg4 arg5 harg5 arg6 arg7 = tileProg i arg2 arg3 arg4 arg5 arg6 arg7 := by
  simp only [cc0_sc_hist_eq_skeleton, cc0_sc_hist_skel, k0_part124_eq_skeleton, k0_part124_skel, k0_part66_eq_skeleton, k0_part66_skel, k0_part67_eq_skeleton, k0_part67_skel, k0_part68_eq_skeleton, k0_part68_skel, k0_part69_eq_skeleton, k0_part69_skel, k0_part70_eq_skeleton, k0_part70_skel, k0_part71_eq_skeleton, k0_part71_skel, k0_part72_eq_skeleton, k0_part72_skel, k0_part73_eq_skeleton, k0_part73_skel, k0_part74_eq_skeleton, k0_part74_skel, k0_part75_eq_skeleton, k0_part75_skel, k0_part76_eq_skeleton, k0_part76_skel, k0_part77_eq_skeleton, k0_part77_skel, k0_part78_eq_skeleton, k0_part78_skel, k0_part79_eq_skeleton, k0_part79_skel, k0_part80_eq_skeleton, k0_part80_skel, k0_part81_eq_skeleton, k0_part81_skel, k0_part82_eq_skeleton, k0_part82_skel, k0_part83_eq_skeleton, k0_part83_skel, k0_part84_eq_skeleton, k0_part84_skel, k0_part85_eq_skeleton, k0_part85_skel, k0_part86_eq_skeleton, k0_part86_skel, k0_part87_eq_skeleton, k0_part87_skel, k0_part88_eq_skeleton, k0_part88_skel, k0_part89_eq_skeleton, k0_part89_skel, k0_part90_eq_skeleton, k0_part90_skel, k0_part91_eq_skeleton, k0_part91_skel, k0_part92_eq_skeleton, k0_part92_skel, k0_part93_eq_skeleton, k0_part93_skel, k0_part94_eq_skeleton, k0_part94_skel, k0_part95_eq_skeleton, k0_part95_skel, k0_part96_eq_skeleton, k0_part96_skel, k0_part97_eq_skeleton, k0_part97_skel, k0_part98_eq_skeleton, k0_part98_skel, k0_part99_eq_skeleton, k0_part99_skel, k0_part100_eq_skeleton, k0_part100_skel, k0_part101_eq_skeleton, k0_part101_skel, k0_part102_eq_skeleton, k0_part102_skel, k0_part103_eq_skeleton, k0_part103_skel, k0_part104_eq_skeleton, k0_part104_skel, k0_part105_eq_skeleton, k0_part105_skel, k0_part106_eq_skeleton, k0_part106_skel, k0_part107_eq_skeleton, k0_part107_skel, k0_part108_eq_skeleton, k0_part108_skel, k0_part109_eq_skeleton, k0_part109_skel, k0_part110_eq_skeleton, k0_part110_skel, k0_part111_eq_skeleton, k0_part111_skel, k0_part112_eq_skeleton, k0_part112_skel, k0_part113_eq_skeleton, k0_part113_skel, k0_part114_eq_skeleton, k0_part114_skel, k0_part115_eq_skeleton, k0_part115_skel, k0_part116_eq_skeleton, k0_part116_skel, k0_part117_eq_skeleton, k0_part117_skel, k0_part118_eq_skeleton, k0_part118_skel, k0_part119_eq_skeleton, k0_part119_skel, k0_part120_eq_skeleton, k0_part120_skel, k0_part121_eq_skeleton, k0_part121_skel, k0_part122_eq_skeleton, k0_part122_skel, k0_part123_eq_skeleton, k0_part123_skel, bind_assoc, pure_bind]
  simp only [tileProg, stage, lastStage, clear, count, fetch, fetched, send, bind_assoc, pure_bind]
  rfl
end Cert.Proof
end
-- ==== Proof.Window.lean ====
/-
  Where the tile's transfers read and write, as arithmetic: the group a stage works at, the offsets of its windows in
  the frames and in the result, and the place of each element of a window in its array.
-/
module

public import proofs.«01_k».proof.Proof.Tile
public import Idealize.ShloMosaic.Lib.Exec.Geometry

@[expose] public section

noncomputable section

namespace Cert.Proof

open Idealize.ShloMosaic Idealize.SL.Sem
open Cert.KernelIdeal Cert.KernelIdeal.Gen

/-! ## The arrays the task is given -/

abbrev srcV : Memref sig .scVector .hbm S16x3x129600 .i32 := Memref.whole main_v0_scv
abbrev outV : Memref sig .scVector .hbm S16x100x2048 .f32 := Memref.whole main_v1_scv
abbrev bufV : Memref sig .scVector .vmem S31104 .i32 := Memref.whole cc0_scratch0
abbrev histV : Memref sig .scVector .vmem S16384 .f32 := Memref.whole cc0_scratch1

/-- The tile's number among the 32. -/
def wid (i : grid0.Coords) : ℕ := 2 * (i 1).val + (i 0).val

theorem wid_lt (i : grid0.Coords) : wid i < 32 := by
  have h0 : (i 0).val < 2 := (i 0).isLt
  have h1 : (i 1).val < 16 := (i 1).isLt
  unfold wid; omega

/-- The group of four frames tile number `w` counts at stage `gi`. -/
def grp (w gi : ℕ) : ℕ := min (w + 32 * gi) 399

theorem grp_lt (w gi : ℕ) : grp w gi < 400 := by unfold grp; omega

/-- The pairs of a core and a tile are few: a property decided of all of them holds at `i`. -/
theorem forall_coords {P : ℕ → ℕ → Prop} (h : ∀ (c : Fin 2) (s : Fin 16), P c.val s.val) (i : grid0.Coords) : P (i 0).val (i 1).val :=
  h (i 0) (i 1)

theorem inOff_eq (i : grid0.Coords) (gi : Fin 13) (ch : Fin 3) :
    inOff i gi ch = ![grp (wid i) gi.val / 25, ch.val, (grp (wid i) gi.val % 25) * 5184] := by
  have key : ∀ (c : Fin 2) (s : Fin 16) (gi : Fin 13) (ch : Fin 3),
      inOff (fun | 0 => c | 1 => s | ⟨_ + 2, h⟩ => absurd h (Nat.not_lt.2 (Nat.le_add_left _ _))) gi ch
        = ![grp (2 * s.val + c.val) gi.val / 25, ch.val, (grp (2 * s.val + c.val) gi.val % 25) * 5184] := by
    decide +kernel
  have hi : i = (fun | 0 => i 0 | 1 => i 1 | ⟨_ + 2, h⟩ => absurd h (Nat.not_lt.2 (Nat.le_add_left _ _))) := by
    funext a; match a with | 0 => rfl | 1 => rfl
  have := key (i 0) (i 1) gi ch
  rw [← hi] at this
  exact this

theorem outOff_eq (i : grid0.Coords) (gi : Fin 13) (f : Fin 4) :
    k0_off5 i (BitVec.ofNat 32 (32 * gi.val)) (BitVec.ofNat 32 f.val)
      = ![grp (wid i) gi.val / 25, (grp (wid i) gi.val % 25) * 4 + f.val, 0] := by
  have key : ∀ (c : Fin 2) (s : Fin 16) (gi : Fin 13) (f : Fin 4),
      k0_off5 (fun | 0 => c | 1 => s | ⟨_ + 2, h⟩ => absurd h (Nat.not_lt.2 (Nat.le_add_left _ _))) (BitVec.ofNat 32 (32 * gi.val)) (BitVec.ofNat 32 f.val)
        = ![grp (2 * s.val + c.val) gi.val / 25, (grp (2 * s.val + c.val) gi.val % 25) * 4 + f.val, 0] := by
    decide +kernel
  have hi : i = (fun | 0 => i 0 | 1 => i 1 | ⟨_ + 2, h⟩ => absurd h (Nat.not_lt.2 (Nat.le_add_left _ _))) := by
    funext a; match a with | 0 => rfl | 1 => rfl
  have := key (i 0) (i 1) gi f
  rw [← hi] at this
  exact this

/-! ## Places of a window's elements -/

theorem bufSl_emb (o : ℕ) (ho) (j : S5184.Idx) : ((bufSl bufV o ho).view.emb j (0 : Fin 1)).val = o + (j 0).val := by
  show o + 1 * (j 0).val = _
  omega

theorem histSl_emb (o : ℕ) (ho) (j : S2048.Idx) : ((histSl histV o ho).view.emb j (0 : Fin 1)).val = o + (j 0).val := by
  show o + 1 * (j 0).val = _
  omega

/-- The element of a `1 × 1 × n` window a position along its last axis names. -/
def sq3 {n : ℕ} (x : Fin n) : (⟨3, ![1, 1, n]⟩ : Shape).Idx := fun a => match a with | 0 => (0 : Fin 1) | 1 => (0 : Fin 1) | 2 => x

theorem squeeze_emb {n : ℕ} (h : (⟨1, ![n]⟩ : Shape).numel = (⟨3, ![1, 1, n]⟩ : Shape).numel) (j : (⟨1, ![n]⟩ : Shape).Idx) :
    Shape.reshapeEquiv h j = sq3 (n := n) (j 0) := by
  refine Shape.reshapeEquiv_eq_of_rowMajor h ?_
  refine (Shape.rowMajor_val_three (d := ![1, 1, n]) (sq3 (n := n) (j 0))).trans (Eq.trans ?_ (Shape.rowMajor_val_one j).symm)
  show (0 * 1 + 0) * n + (j 0).val = (j 0).val
  omega

theorem srcSl_emb (off : Fin 3 → ℕ) (ho) (j : S5184.Idx) :
    ((srcSl srcV off ho).view.emb j (0 : Fin 3)).val = off 0
    ∧ ((srcSl srcV off ho).view.emb j (1 : Fin 3)).val = off 1
    ∧ ((srcSl srcV off ho).view.emb j (2 : Fin 3)).val = off 2 + (j 0).val := by
  have e : (srcSl srcV off ho).view.emb j
      = (Rect.unit (s := S16x3x129600) off S1x1x5184.size ho).emb (sq3 (j 0)) :=
    congrArg (fun y => (Rect.unit (s := S16x3x129600) off S1x1x5184.size ho).emb y) (squeeze_emb (n := 5184) (squeezes_S1x1x5184_S5184.numel_eq) j)
  rw [e]
  refine ⟨?_, ?_, ?_⟩
  · show off 0 + 1 * 0 = _; omega
  · show off 1 + 1 * 0 = _; omega
  · show off 2 + 1 * (j 0).val = _; omega

theorem outSl_emb (off : Fin 3 → ℕ) (ho) (j : S2048.Idx) :
    ((outSl outV off ho).view.emb j (0 : Fin 3)).val = off 0
    ∧ ((outSl outV off ho).view.emb j (1 : Fin 3)).val = off 1
    ∧ ((outSl outV off ho).view.emb j (2 : Fin 3)).val = off 2 + (j 0).val := by
  have e : (outSl outV off ho).view.emb j
      = (Rect.unit (s := S16x100x2048) off S1x1x2048.size ho).emb (sq3 (j 0)) :=
    congrArg (fun y => (Rect.unit (s := S16x100x2048) off S1x1x2048.size ho).emb y) (squeeze_emb (n := 2048) (squeezes_S1x1x2048_S2048.numel_eq) j)
  rw [e]
  refine ⟨?_, ?_, ?_⟩
  · show off 0 + 1 * 0 = _; omega
  · show off 1 + 1 * 0 = _; omega
  · show off 2 + 1 * (j 0).val = _; omega

theorem mem_bufSl (o : ℕ) (ho) (x : S31104.Idx) :
    x ∈ (bufSl bufV o ho).view.set ↔ o ≤ (x 0).val ∧ (x 0).val < o + 5184 := by
  constructor
  · intro h
    obtain ⟨j, -, rfl⟩ := Finset.mem_map.mp h
    have := bufSl_emb o ho j
    have hj : (j 0).val < 5184 := (j 0).isLt
    change o ≤ ((bufSl bufV o ho).view.emb j (0 : Fin 1)).val ∧ ((bufSl bufV o ho).view.emb j (0 : Fin 1)).val < _
    omega
  · rintro ⟨h1, h2⟩
    refine Finset.mem_map.mpr ⟨(fun a => match a with | 0 => ⟨(x 0).val - o, by show _ < 5184; omega⟩ : S5184.Idx), Finset.mem_univ _, ?_⟩
    funext a; match a with
    | 0 => refine Fin.ext ((bufSl_emb o ho _).trans ?_); show o + ((x 0).val - o) = (x 0).val; omega

theorem mem_outSl (off : Fin 3 → ℕ) (h2 : off 2 = 0) (ho) (x : S16x100x2048.Idx) :
    x ∈ (outSl outV off ho).view.set ↔ (x 0).val = off 0 ∧ (x 1).val = off 1 := by
  constructor
  · intro h
    obtain ⟨j, -, rfl⟩ := Finset.mem_map.mp h
    have := outSl_emb off ho j
    exact ⟨this.1, this.2.1⟩
  · rintro ⟨h0, h1⟩
    have e := outSl_emb off ho (fun a => match a with | 0 => ⟨(x 2).val, (x 2).isLt⟩ : S2048.Idx)
    refine Finset.mem_map.mpr ⟨(fun a => match a with | 0 => ⟨(x 2).val, (x 2).isLt⟩ : S2048.Idx), Finset.mem_univ _, ?_⟩
    funext a; match a with
    | 0 => exact Fin.ext (e.1.trans h0.symm)
    | 1 => exact Fin.ext (e.2.1.trans h1.symm)
    | 2 => refine Fin.ext (e.2.2.trans ?_); show off 2 + (x 2).val = (x 2).val; omega

end Cert.Proof

end
-- ==== Proof.Count.lean ====
/-
  What the tile counts, in plain arithmetic: the bin of a pixel, the count after `n` pixels of a quarter of a frame as
  the sum the tile accumulates, what a half of the fetched frames and a half of the histograms hold, and what one step
  of sixteen pixels does to the histograms.
-/
module

public import proofs.«01_k».proof.Proof.Window

@[expose] public section

noncomputable section

namespace Cert.Proof

open Idealize.ShloMosaic Idealize.SL.Sem
open Cert.KernelIdeal Cert.KernelIdeal.Gen

variable {F : FTy → Type} [FloatOps F]

/-! ## The values -/

/-- Colour `ch` of pixel `p` of batch `b`'s frames. -/
def xAt (X : S16x3x129600.Idx → BitVec 32) (b ch p : ℕ) : BitVec 32 :=
  if h : b < 16 ∧ ch < 3 ∧ p < 129600 then
    X (fun a => match a with | 0 => ⟨b, h.1⟩ | 1 => ⟨ch, h.2.1⟩ | 2 => ⟨p, h.2.2⟩) else 0#32

theorem xAt_of (X : S16x3x129600.Idx → BitVec 32) (x : S16x3x129600.Idx) {b ch p : ℕ} (h0 : (x 0).val = b) (h1 : (x 1).val = ch) (h2 : (x 2).val = p) :
    X x = xAt X b ch p := by
  subst h0 h1 h2
  have hb : (x 0).val < 16 := (x 0).isLt
  have hc : (x 1).val < 3 := (x 1).isLt
  have hp : (x 2).val < 129600 := (x 2).isLt
  unfold xAt; rw [dif_pos ⟨hb, hc, hp⟩]
  congr 1; funext a; match a with | 0 => rfl | 1 => rfl | 2 => rfl

/-- Every colour is a byte. -/
def InRange (X : S16x3x129600.Idx → BitVec 32) : Prop := ∀ x, (X x).toNat < 256

theorem xAt_lt {X : S16x3x129600.Idx → BitVec 32} (hX : InRange X) (b ch p : ℕ) : (xAt X b ch p).toNat < 256 := by
  unfold xAt; split
  · exact hX _
  · decide

/-- The bin of pixel `p`: three bits of each colour. -/
def binAt (X : S16x3x129600.Idx → BitVec 32) (b p : ℕ) : ℕ :=
  (xAt X b 0 p).toNat / 32 * 64 + (xAt X b 1 p).toNat / 32 * 8 + (xAt X b 2 p).toNat / 32

theorem binAt_lt {X : S16x3x129600.Idx → BitVec 32} (hX : InRange X) (b p : ℕ) : binAt X b p < 512 := by
  have h0 := xAt_lt hX b 0 p; have h1 := xAt_lt hX b 1 p; have h2 := xAt_lt hX b 2 p
  unfold binAt; omega

/-- The sum accumulated over the first `n` pixels of quarter `sub` of frame `t` that fall in bin `bin`, a one for each. -/
def cnt (X : S16x3x129600.Idx → BitVec 32) (b t sub bin : ℕ) : ℕ → Elt F .f32
  | 0 => Scalar.ofBits .f32 0x00000000#32
  | n + 1 => if binAt X b (t * 1296 + 4 * n + sub) = bin then FloatOps.idxAddf (cnt X b t sub bin n) (Scalar.ofBits .f32 0x3F800000#32)
      else cnt X b t sub bin n

/-- The whole result of the SparseCore call: each quarter's counts of each frame. -/
def outVal (X : S16x3x129600.Idx → BitVec 32) : S16x100x2048.Idx → Elt F .f32 :=
  fun x => cnt X (x 0).val (x 1).val ((x 2).val / 512) ((x 2).val % 512) 324

/-- Half `h` of the fetched frames holds group `g`. -/
def BufHas (X : S16x3x129600.Idx → BitVec 32) (g h : ℕ) (f : S31104.Idx → BitVec 32) : Prop :=
  ∀ (x : S31104.Idx) (ch j : ℕ), ch < 3 → j < 5184 → (x 0).val = h * 15552 + ch * 5184 + j → f x = xAt X (g / 25) ch (g % 25 * 5184 + j)

/-- Half `h` of the histograms holds group `g`'s counts after `n` pixels of each quarter. -/
def HistAt (X : S16x3x129600.Idx → BitVec 32) (g h n : ℕ) (fh : S16384.Idx → Elt F .f32) : Prop :=
  ∀ (x : S16384.Idx) (l bin : ℕ), l < 16 → bin < 512 → (x 0).val = h * 8192 + l * 512 + bin →
    fh x = cnt X (g / 25) (g % 25 * 4 + l / 4) (l % 4) bin n

/-- Lane `l`, as an index of a sixteen-lane vector. -/
def lane (l : Fin 16) : S16.Idx := fun a => match a with | 0 => l

theorem lane_eta (x : S16.Idx) : x = lane (x 0) := by
  funext a; match a with | 0 => rfl

/-- The first `n` words of half `h` of the histograms are zero. -/
def Cleared (h n : ℕ) (fh : S16384.Idx → Elt F .f32) : Prop :=
  ∀ x : S16384.Idx, h * 8192 ≤ (x 0).val → (x 0).val < h * 8192 + n → fh x = Scalar.ofBits .f32 0x00000000#32

theorem histAt_zero {X : S16x3x129600.Idx → BitVec 32} {g h : ℕ} {fh : S16384.Idx → Elt F .f32} (hz : Cleared h 8192 fh) : HistAt X g h 0 fh := by
  intro x l bin hl hb hx
  exact hz x (by omega) (by omega)

theorem zOff_eq (h : Fin 2) (t : Fin k0_t1_loop.trips) (r : Fin 16) :
    zOff (hz h) t (BitVec.ofNat 32 (16 * r.val)) = ![h.val * 8192 + (256 * t.val + 16 * r.val)] := by
  revert h t r; decide +kernel

/-- Clearing sixteen more words. -/
theorem cleared_step (h : Fin 2) (t : Fin k0_t1_loop.trips) (r : Fin 16) {fh : S16384.Idx → Elt F .f32}
    (hc : Cleared h.val (256 * t.val + 16 * r.val) fh) :
    Cleared h.val (256 * t.val + 16 * (r.val + 1))
      ((histV.access (Rect.unit (s := S16384) (zOff (hz h) t (BitVec.ofNat 32 (16 * r.val))) S16.size (zOff_inb h t r))).write (Elt F) fh (k0_pay225 (F := F)) Finset.univ) := by
  have ho := zOff_eq h t r
  generalize zOff_inb h t r = hi
  revert hi
  rw [ho]
  intro hi x h1 h2
  set v := histV.access (Rect.unit (s := S16384) ![h.val * 8192 + (256 * t.val + 16 * r.val)] S16.size hi) with hv
  have he : ∀ y : S16.Idx, (v.emb y (0 : Fin 1)).val = h.val * 8192 + (256 * t.val + 16 * r.val) + (y 0).val := fun y => by
    show h.val * 8192 + (256 * t.val + 16 * r.val) + 1 * (y 0).val = _; omega
  by_cases hx : h.val * 8192 + (256 * t.val + 16 * r.val) ≤ (x 0).val
  · have : x = v.emb (lane ⟨(x 0).val - (h.val * 8192 + (256 * t.val + 16 * r.val)), by omega⟩) := by
      funext a; match a with
      | 0 => refine Fin.ext (Eq.trans ?_ (he _).symm)
             show (x 0).val = _ + ((x 0).val - _); omega
    rw [this]
    refine (View.write_emb _ _ _ _).trans ?_
    rw [if_pos (Finset.mem_univ _)]; rfl
  · refine (View.write_of_not_mem _ _ _ ?_).trans (hc x h1 (by omega))
    intro hm
    obtain ⟨y, -, e⟩ := Finset.mem_map.mp hm
    have e0 : (x 0).val = (v.emb y (0 : Fin 1)).val := congrArg (fun z : S16384.Idx => (z 0).val) e.symm
    have e1 := he y
    exact hx (le_of_le_of_eq (Nat.le_add_right _ _) (e0.trans e1).symm)

/-! ## The lanes' index words -/

theorem lanes_v9 : ∀ l : Fin 16, (k0_pay222 (lane l)).toNat = l.val / 4 * 1296 + l.val % 4 := by decide +kernel
theorem lanes_v11 : ∀ l : Fin 16, (k0_pay223 (lane l)).toNat = l.val * 512 := by decide +kernel

theorem pxScalar_toNat (h : Fin 2) (t : Fin k0_t2_loop.trips) (k : Fin 4) :
    (pxScalar h t k).toNat = h.val * 15552 + 16 * t.val + 4 * k.val := by
  revert h t k; decide +kernel

theorem chanVec_toNat (s : BitVec 32) (hs : s.toNat < 100000) (x : S16.Idx) :
    (chanVec k0_pay222 s x).toNat = s.toNat + ((x 0).val / 4 * 1296 + (x 0).val % 4) := by
  have hl : (x 0).val < 16 := (x 0).isLt
  have e : (k0_pay222 x).toNat = (x 0).val / 4 * 1296 + (x 0).val % 4 := by
    rw [lane_eta x]; exact lanes_v9 (x 0)
  show (k0_pay222 x + s).toNat = _
  rw [BitVec.toNat_add, e]; omega

theorem shl6 : ∀ n : Fin 256, (IntOp.shli .vector (IntOp.shrsi .vector (BitVec.ofNat 32 n.val) 5#32) 6#32).toNat = n.val / 32 * 64 := by decide +kernel
theorem shl3 : ∀ n : Fin 256, (IntOp.shli .vector (IntOp.shrsi .vector (BitVec.ofNat 32 n.val) 5#32) 3#32).toNat = n.val / 32 * 8 := by decide +kernel
theorem shr5 : ∀ n : Fin 256, (IntOp.shrsi .vector (BitVec.ofNat 32 n.val) 5#32).toNat = n.val / 32 := by decide +kernel

theorem byte_eq {v : BitVec 32} (hv : v.toNat < 256) : ∃ n : Fin 256, v = BitVec.ofNat 32 n.val ∧ v.toNat = n.val :=
  ⟨⟨v.toNat, hv⟩, (BitVec.ofNat_toNat 32 v).symm ▸ (by simp), rfl⟩

theorem binVec_toNat (r g b : IVec S16 32) (h : Fin 2) (x : S16.Idx) (hr : (r x).toNat < 256) (hg : (g x).toNat < 256) (hb : (b x).toNat < 256) :
    (binVec k0_pay223 r g b h x).toNat
      = h.val * 8192 + (x 0).val * 512 + ((r x).toNat / 32 * 64 + (g x).toNat / 32 * 8 + (b x).toNat / 32) := by
  have hl : (x 0).val < 16 := (x 0).isLt
  have hh : h.val < 2 := h.isLt
  have e : (k0_pay223 x).toNat = (x 0).val * 512 := by
    rw [lane_eta x]; exact lanes_v11 (x 0)
  obtain ⟨nr, er, er'⟩ := byte_eq hr
  obtain ⟨ng, eg, eg'⟩ := byte_eq hg
  obtain ⟨nb, eb, eb'⟩ := byte_eq hb
  have h6 := shl6 nr; have h3 := shl3 ng; have h5 := shr5 nb
  rw [← er] at h6; rw [← eg] at h3; rw [← eb] at h5
  show (IntOp.shli .vector (IntOp.shrsi .vector (r x) 5#32) 6#32 + IntOp.shli .vector (IntOp.shrsi .vector (g x) 5#32) 3#32 + IntOp.shrsi .vector (b x) 5#32 + k0_pay223 x + hz h).toNat = _
  have e2 : (hz h).toNat = h.val * 8192 := by
    show (BitVec.ofNat 32 (h.val * 8192)).toNat = _
    rw [BitVec.toNat_ofNat]; omega
  simp only [BitVec.toNat_add, h6, h3, h5, e, e2]
  omega

/-! ## Adding one at each lane's bin -/

/-- One at each of the sixteen lanes' indices, no two of them equal: the elements named gain one, the others stay. -/
theorem storeIdx_ones (f : Vec F S16384 .f32) (a : IVec S16 32) (one : Elt F .f32)
    (h : ∀ d x, ((![a] : Fin 1 → IVec S16 32) d x).toNat < S16384.size d)
    (hinj : ∀ x y : S16.Idx, (a x).toNat = (a y).toNat → x = y) (j : S16384.Idx) :
    storeIdx f ![a] (fun _ => one : Vec F S16 .f32) (fun _ => 1#1) true h j
      = if ∃ x : S16.Idx, (j 0).val = (a x).toNat then FloatOps.idxAddf (f j) one else f j := by
  have key : ∀ (L : List (Fin 16)), L.Nodup → ∀ f : Vec F S16384 .f32,
      L.foldl (fun (g : Vec F S16384 .f32) (k : Fin 16) => fun j : S16384.Idx =>
        if (j 0).val = (a (lane k)).toNat then FloatOps.idxAddf (g j) one else g j) f j
      = if ∃ k ∈ L, (j 0).val = (a (lane k)).toNat then FloatOps.idxAddf (f j) one else f j := by
    intro L
    induction L with
    | nil => intro _ f; simp
    | cons k L ih =>
      intro hn f
      rw [List.foldl_cons, ih (List.nodup_cons.mp hn).2]
      by_cases hk : (j 0).val = (a (lane k)).toNat
      · have hno : ¬ ∃ k' ∈ L, (j 0).val = (a (lane k')).toNat := by
          rintro ⟨k', hk', e⟩
          have e' : k = k' := congrFun (hinj (lane k) (lane k') (hk.symm.trans e)) 0
          exact (List.nodup_cons.mp hn).1 (e' ▸ hk')
        rw [if_neg hno, if_pos hk, if_pos ⟨k, List.mem_cons_self, hk⟩]
      · simp only [if_neg hk, List.mem_cons]
        congr 1
        refine propext ⟨fun ⟨k', h1, h2⟩ => ⟨k', .inr h1, h2⟩, ?_⟩
        rintro ⟨k', rfl | h1, h2⟩
        · exact absurd h2 hk
        · exact ⟨k', h1, h2⟩
  have hl : ∀ k : Fin 16, (Shape.ofLane k : S16.Idx) = lane k := fun k => by
    funext b; match b with | 0 => rfl
  have e1 : storeIdx f ![a] (fun _ => one : Vec F S16 .f32) (fun _ => 1#1) true h
      = (List.finRange 16).foldl (fun (g : Vec F S16384 .f32) (k : Fin 16) => fun j : S16384.Idx =>
        if (j 0).val = (a (lane k)).toNat then FloatOps.idxAddf (g j) one else g j) f := by
    unfold storeIdx
    congr 1
    funext g k
    refine (if_pos rfl).trans ?_
    funext j
    have : (∀ d : Fin 1, (j d).val = (idxAt (s := S16384) ![a] h (Shape.ofLane (d := ![16]) k) d).val) ↔ (j 0).val = (a (lane k)).toNat := by
      constructor
      · intro hh; have := hh 0; rw [← hl k]; exact this
      · intro hh d; match d with | 0 => rw [← hl k] at hh; exact hh
    by_cases hc : (j 0).val = (a (lane k)).toNat
    · rw [if_pos hc]
      refine (if_pos (this.mpr hc)).trans ?_
      have : idxAt (s := S16384) ![a] h (Shape.ofLane (d := ![16]) k) = j := by
        funext d; exact Fin.ext ((this.mpr hc) d).symm
      show Elt.idxAdd .f32 (g (idxAt (s := S16384) ![a] h (Shape.ofLane (d := ![16]) k))) one = _
      rw [this]; rfl
    · rw [if_neg hc]; exact if_neg (fun hh => hc (this.mp hh))
  rw [e1, key _ (List.nodup_finRange 16) f]
  congr 1
  refine propext ⟨fun ⟨k, _, hk⟩ => ⟨_, hk⟩, fun ⟨x, hx⟩ => ⟨x 0, List.mem_finRange _, ?_⟩⟩
  rw [← lane_eta x]; exact hx

/-- A step of sixteen pixels: each quarter's counts go one pixel on. -/
theorem histAt_step {X : S16x3x129600.Idx → BitVec 32} (hX : InRange X) {g n : ℕ} {h : Fin 2} {fh : S16384.Idx → Elt F .f32} (hist : HistAt X g h.val n fh)
    (a : IVec S16 32) (hchk : ∀ d x, ((![a] : Fin 1 → IVec S16 32) d x).toNat < S16384.size d)
    (ha : ∀ x : S16.Idx, (a x).toNat = h.val * 8192 + (x 0).val * 512 + binAt X (g / 25) ((g % 25 * 4 + (x 0).val / 4) * 1296 + 4 * n + (x 0).val % 4)) :
    HistAt X g h.val (n + 1) (storeIdx (F := F) (e := .f32) fh ![a] (k0_pay224 (F := F)) (fun _ => 1#1) true hchk) := by
  have hinj : ∀ x y : S16.Idx, (a x).toNat = (a y).toNat → x = y := by
    intro x y e
    rw [ha, ha] at e
    have bx := binAt_lt hX (g / 25) ((g % 25 * 4 + (x 0).val / 4) * 1296 + 4 * n + (x 0).val % 4)
    have bY := binAt_lt hX (g / 25) ((g % 25 * 4 + (y 0).val / 4) * 1296 + 4 * n + (y 0).val % 4)
    rw [lane_eta x, lane_eta y]
    have : x 0 = y 0 := Fin.ext (by omega)
    rw [this]
  intro x l bin hl hb hx
  refine (storeIdx_ones fh a (Scalar.ofBits .f32 0x3F800000#32) hchk hinj x).trans ?_
  rw [hist x l bin hl hb hx]
  show _ = if _ then _ else _
  congr 1
  refine propext ⟨?_, fun hbin => ⟨lane ⟨l, hl⟩, ?_⟩⟩
  · rintro ⟨y, hy⟩
    rw [ha] at hy
    have bY := binAt_lt hX (g / 25) ((g % 25 * 4 + (y 0).val / 4) * 1296 + 4 * n + (y 0).val % 4)
    have : (y 0).val = l := by omega
    rw [this] at hy bY
    omega
  · rw [ha, hx]
    show _ = h.val * 8192 + l * 512 + binAt X (g / 25) ((g % 25 * 4 + l / 4) * 1296 + 4 * n + l % 4)
    rw [hbin]

end Cert.Proof

end
-- ==== Proof.Shares.lean ====
/-
  Two facts about arrays held by shares, used for every transfer of the tile task.

  A share is cut into four (`fourth`), and an array held in write mode (its targets agreed, each holder knowing some
  elements written) is the four quarters, the union of what they know to be written (`willBeTo_fourths`); into the
  tokens of `n` holders and a rest (`willBeTo_toks_split`, `willBeTo_toks_join`).

  A transfer of a batch whose destination is held in write mode by some share, the source by some share, both whole
  (`wp_batchIssue`): the destination comes back with the transfer's window known written, the source as it was.
-/
module

public import proofs.«01_k».proof.Defs
public import Idealize.ShloMosaic.Lib.Batch
public import Idealize.ShloMosaic.Lib.WriteMode
public import Idealize.ShloMosaic.Lib.Tactic

@[expose] public section

noncomputable section

namespace Cert.Proof

open Idealize.ShloMosaic
open Idealize.ShloMosaic.Transfers
open Idealize.SL Idealize.SL.RA
open Idealize.SL.BI (sProp Storable bigSep bigSep_insert bigSep_empty bigSep_singleton bigSep_map)
open scoped Idealize.SL.BI
open Idealize.SL.BI.BIBase Idealize.SL.BI.Laws Idealize.SL.ProofMode Idealize.SL.Sem

section
variable {nD : Nat} {τ : Topo} {sig : RefSig} {Ix : Type} [DecidableEq Ix] {Val : EltTy → Type} {Name : Type} [DecidableEq Name]
variable {U : Type} [URA U] {Lvl : Type} [Preorder Lvl] {Λ : Labels}
variable (emb : UEmb (WmRA nD τ sig Val) U)

local notation "𝕄" => MT nD τ sig Ix Val Name U Lvl
local notation:60 ℓ " ⇝[" I "]{" q "} " f:max " ⇒ " g:max " @ " W:max => willBeTo emb ℓ I q f g W

/-- The quarters of a share. -/
def fourth (q : PosShare TreeShare) : Fin 4 → PosShare TreeShare
  | 0 => q.left
  | 1 => q.right.left
  | 2 => q.right.right.left
  | 3 => q.right.right.right

variable {ℓ : Loc nD τ sig} {S : Finset (Idx ℓ)} {f : Buf Val ℓ} {g : Tgt Val ℓ}

theorem willBeTo_halve (q : PosShare TreeShare) (W₁ W₂ : Finset (Idx ℓ)) :
    (ℓ ⇝[S]{q} f ⇒ g @ (W₁ ∪ W₂) : sProp 𝕄) ⊣⊢ iprop((ℓ ⇝[S]{q.left} f ⇒ g @ W₁) ∗ (ℓ ⇝[S]{q.right} f ⇒ g @ W₂)) := by
  have h := BI.Region.held_share (ι := (wmEmb (Name := Name) (Lvl := Lvl) Ix emb).toEmb) (k := ℓ) (I := S) (q := q) (q₁ := q.left) (q₂ := q.right)
    (x := fun i => Region.WB.mk (f i) (g i) (decide (i ∈ W₁))) (y := fun i => Region.WB.mk (f i) (g i) (decide (i ∈ W₂)))
    (z := fun i => Region.WB.mk (f i) (g i) (decide (i ∈ W₁ ∪ W₂))) (PosShare.mem_left_op_right q) (fun i _ => by
      have := Region.WB.mem_mk_op_mk (f i) (g i) (decide (i ∈ W₁)) (decide (i ∈ W₂))
      simp only [← Bool.decide_or, ← Finset.mem_union] at this
      exact this)
  exact h

theorem willBeTo_fourths (q : PosShare TreeShare) (W : Fin 4 → Finset (Idx ℓ)) :
    (ℓ ⇝[S]{q} f ⇒ g @ (W 0 ∪ (W 1 ∪ (W 2 ∪ W 3))) : sProp 𝕄)
      ⊣⊢ iprop((ℓ ⇝[S]{fourth q 0} f ⇒ g @ (W 0)) ∗ (ℓ ⇝[S]{fourth q 1} f ⇒ g @ (W 1)) ∗ (ℓ ⇝[S]{fourth q 2} f ⇒ g @ (W 2))
          ∗ (ℓ ⇝[S]{fourth q 3} f ⇒ g @ (W 3))) := by
  have h1 := willBeTo_halve (Ix := Ix) (Name := Name) (Lvl := Lvl) emb (S := S) (f := f) (g := g) q (W 0) (W 1 ∪ (W 2 ∪ W 3))
  have h2 := willBeTo_halve (Ix := Ix) (Name := Name) (Lvl := Lvl) emb (S := S) (f := f) (g := g) q.right (W 1) (W 2 ∪ W 3)
  have h3 := willBeTo_halve (Ix := Ix) (Name := Name) (Lvl := Lvl) emb (S := S) (f := f) (g := g) q.right.right (W 2) (W 3)
  exact ⟨h1.1.trans (sep_mono_right (h2.1.trans (sep_mono_right h3.1))),
    (sep_mono_right ((sep_mono_right h3.2).trans h2.2)).trans h1.2⟩

theorem pointsTo_fourths (q : PosShare TreeShare) :
    (ℓ ↦[S]{q} f : sProp 𝕄) ⊣⊢ iprop((ℓ ↦[S]{fourth q 0} f) ∗ (ℓ ↦[S]{fourth q 1} f) ∗ (ℓ ↦[S]{fourth q 2} f) ∗ (ℓ ↦[S]{fourth q 3} f)) := by
  have h1 : (ℓ ↦[S]{q} f : sProp 𝕄) ⊣⊢ _ := pointsTo_share (PosShare.mem_left_op_right q)
  have h2 : (ℓ ↦[S]{q.right} f : sProp 𝕄) ⊣⊢ _ := pointsTo_share (PosShare.mem_left_op_right q.right)
  have h3 : (ℓ ↦[S]{q.right.right} f : sProp 𝕄) ⊣⊢ _ := pointsTo_share (PosShare.mem_left_op_right q.right.right)
  exact ⟨h1.1.trans (sep_mono_right (h2.1.trans (sep_mono_right h3.1))),
    (sep_mono_right ((sep_mono_right h3.2).trans h2.2)).trans h1.2⟩

/-- An array in write mode dealt to `n` holders and a rest: what each knows written, together. -/
theorem willBeTo_toks_range (q : PosShare TreeShare) (n : ℕ) (W₀ : Finset (Idx ℓ)) (W : ℕ → Finset (Idx ℓ)) :
    (ℓ ⇝[S]{q} f ⇒ g @ (W₀ ∪ (Finset.range n).biUnion W) : sProp 𝕄)
      ⊣⊢ iprop((ℓ ⇝[S]{shareDrop q n} f ⇒ g @ W₀) ∗ bigSep (Finset.range n) fun i => ℓ ⇝[S]{shareTokN q i} f ⇒ g @ (W i)) := by
  induction n generalizing W₀ with
  | zero =>
    rw [Finset.range_zero, bigSep_empty, Finset.biUnion_empty, Finset.union_empty]; exact ⟨sep_emp.2, sep_emp.1⟩
  | succ n ih =>
    have hs : (ℓ ⇝[S]{shareDrop q n} f ⇒ g @ (W₀ ∪ W n) : sProp 𝕄)
        ⊣⊢ iprop((ℓ ⇝[S]{shareDrop q (n + 1)} f ⇒ g @ W₀) ∗ (ℓ ⇝[S]{shareTokN q n} f ⇒ g @ (W n))) :=
      willBeTo_halve emb (shareDrop q n) W₀ (W n)
    have hi := ih (W₀ ∪ W n)
    have hb : (bigSep (Finset.range (n + 1)) fun i => (ℓ ⇝[S]{shareTokN q i} f ⇒ g @ (W i) : sProp 𝕄))
        = iprop((ℓ ⇝[S]{shareTokN q n} f ⇒ g @ (W n)) ∗ bigSep (Finset.range n) fun i => ℓ ⇝[S]{shareTokN q i} f ⇒ g @ (W i)) := by
      rw [Finset.range_add_one, bigSep_insert Finset.notMem_range_self]; rfl
    have hW : W₀ ∪ (Finset.range (n + 1)).biUnion W = W₀ ∪ W n ∪ (Finset.range n).biUnion W := by
      rw [Finset.range_add_one, Finset.biUnion_insert, Finset.union_assoc]
    rw [hb, hW]
    constructor
    · refine hi.1.trans ((sep_mono_left hs.1).trans ?_)
      iintro ⟨⟨Hd, Ht⟩, Hts⟩
      isplitl [Hd]; · iexact Hd
      isplitl [Ht] <;> iassumption
    · refine Entails.trans ?_ ((sep_mono_left hs.2).trans hi.2)
      iintro ⟨Hd, Ht, Hts⟩
      isplitl [Hd Ht]; · isplitl [Hd] <;> iassumption
      iexact Hts

theorem willBeTo_toks (q : PosShare TreeShare) (n : ℕ) (W₀ : Finset (Idx ℓ)) (W : ℕ → Finset (Idx ℓ)) :
    (ℓ ⇝[S]{q} f ⇒ g @ (W₀ ∪ (Finset.range n).biUnion W) : sProp 𝕄)
      ⊣⊢ iprop((ℓ ⇝[S]{shareDrop q n} f ⇒ g @ W₀) ∗ bigSep Finset.univ fun i : Fin n => ℓ ⇝[S]{shareTok q n i} f ⇒ g @ (W i.val)) := by
  rw [show (bigSep Finset.univ fun i : Fin n => (ℓ ⇝[S]{shareTok q n i} f ⇒ g @ (W i.val) : sProp 𝕄))
      = bigSep (Finset.range n) (fun i => ℓ ⇝[S]{shareTokN q i} f ⇒ g @ (W i))
    by rw [← Nat.Iio_eq_range, ← Fin.map_valEmbedding_univ, bigSep_map]; rfl]
  exact willBeTo_toks_range emb q n W₀ W

end

section
variable {nD : Nat} {τ : Topo} {sig : RefSig} {Ix : Type} [DecidableEq Ix] {Val : EltTy → Type} {Name : Type} [DecidableEq Name]
variable {U : Type} [URA U] {Lvl : Type} [Preorder Lvl] {Λ : Labels}
variable (emb : UEmb (WmRA nD τ sig Val) U)

local notation "𝕄" => MT nD τ sig Ix Val Name U Lvl
local notation:60 ℓ " ⇝[" I "]{" q "} " f:max " ⇒ " g:max " @ " W:max => willBeTo emb ℓ I q f g W

variable {defs : Defs nD τ sig Val Λ} (𝒱 : Variants) {ιwm : Name} (EC : UEmb Counters (MT nD τ sig Ix Val Name U Lvl))
variable (c : Thread nD τ) (bd : Option 𝒱.V) {α : Type} {Q : α → sProp (MT nD τ sig Ix Val Name U Lvl)}

theorem wp_batchIssue [Infinite Name] [EC.LandsIn (upEmb : UEmb _ (MT nD τ sig Ix Val Name U Lvl))] {n : ℕ} {sp sp' : Space} {s : Shape} {e : EltTy}
    {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig Val Λ c.2) α} {q : PosShare TreeShare} {fs : Buf Val (src.view.loc c)}
    {qd : PosShare TreeShare} {fd : Buf Val (dst.view.loc c)} {g : Tgt Val (dst.view.loc c)} {W : Finset (Idx (dst.view.loc c))}
    {D : Fin n → sProp 𝕄} {j u : ℕ}
    (ι : Ix) (N : ℕ) (hN : dst.view.amount sm = N) (hj : j < n) (hu : u ≤ j * N)
    (hadm : dst.view.Admitted Val g (src.view.read Val fs) Finset.univ)
    (hD : iprop((dst.view.loc c ⇝[Finset.univ]{qd} fd ⇒ g @ (W ∪ dst.view.set)) ∗ (src.view.loc c ↦[Finset.univ]{q} fs)) ⊢ D ⟨j, hj⟩) :
    iprop((src.view.loc c ↦[Finset.univ]{q} fs) ∗ wmInv emb ιwm ∗ (dst.view.loc c ⇝[Finset.univ]{qd} fd ⇒ g @ W) ∗ Batch EC c sm ι N D j u)
      ⊢ iprop((Batch EC c sm ι N D (j + 1) u -∗ wp frame (wpE defs 𝒱 c bd) Set.univ (k ⟨⟩) Q)
          -∗ wp frame (wpE defs 𝒱 c bd) Set.univ (.op (.enqueueDma src (.here dst) sm hsrc hdst hsem) k) Q) := by
  have hsplit : (src.view.loc c ↦[Finset.univ]{q} fs : sProp 𝕄)
      ⊣⊢ iprop((src.view.loc c ↦[src.view.set]{q} fs) ∗ (src.view.loc c ↦[Finset.univ \ src.view.set]{q} fs)) :=
    BI.Region.is_split_subset (Finset.subset_univ _)
  unfold Batch
  iintro ⟨Hs, Hwm, Hd, ⟨%γ, %γ₀, %κ, #Hinv, HI, H0, Hcred⟩⟩ Hk
  ihave HI' := (show bigSep (pending j) (fun t => count EC (γ t) 0) ⊢ iprop(count EC (γ ⟨j, hj⟩) 0 ∗ bigSep (pending (j + 1)) (fun t => count EC (γ t) 0))
    from Entails.of_eq (by rw [pending_succ hj, bigSep_insert (not_mem_pending_succ hj)]; rfl)) $$ HI
  icases HI' with ⟨Ht, HI⟩
  ihave Hs' := hsplit.1 $$ Hs
  icases Hs' with ⟨Hs, Hrest⟩
  iapply (wp_enqueueDma 𝒱 c bd Set.univ ι N hN) $$ [Hs Hd Hwm] [Ht Hrest]
  · isplitl [Hs]; · iexact Hs
    iapply (willBeTo_writeUpdate (emb := emb) (ιwm := ιwm) c (v := dst.view) (S := Finset.univ) (Finset.subset_univ _) hadm)
    isplitl [Hwm] <;> iassumption
  · iapply (batch_creditUpdate_with EC ⟨j, hj⟩ (put := (src.view.loc c ↦[Finset.univ \ src.view.set]{q} fs : sProp 𝕄))
      (R₀ := iprop((dst.view.loc c ⇝[Finset.univ]{qd} fd ⇒ g @ (W ∪ dst.view.set)) ∗ (src.view.loc c ↦[src.view.set]{q} fs))) (by
        refine Entails.trans ?_ hD
        iintro ⟨Hr, Hd, Hs⟩
        isplitl [Hd]; · iexact Hd
        iapply hsplit.2
        isplitl [Hs] <;> iassumption))
    isplitr; · iexact Hinv
    isplitl [Ht] <;> iassumption
  iintro Hcred'
  iapply Hk
  iexists γ, γ₀, κ
  isplitr; · iexact Hinv
  isplitl [HI]; · iexact HI
  isplitl [H0]; · iexact H0
  rw [show (j + 1) * N - u = (j * N - u) + N by rw [Nat.succ_mul]; omega, ← tallyAt_add]
  icombine Hcred Hcred' as H
  iexact H

end

end Cert.Proof

end
-- ==== Proof.Loops.lean ====
/-
  The two loops of a stage: the clearing loop leaves a half of the histograms at zero (`wp_clear`), and the pixel loop
  leaves it at the counts of the group that half of the fetched frames holds (`wp_count`). The fetched frames are held
  in write mode by some share throughout the pixel loop, as the next group may be arriving in the other half meanwhile.
-/
module

public import proofs.«01_k».proof.Proof.Count
public import proofs.«01_k».proof.Proof.Shares
public import Idealize.ShloMosaic.Lib.SparseCore.Ops
public import Idealize.ShloMosaic.Lib.Scf

@[expose] public section

noncomputable section

namespace Cert.Proof

open Idealize.ShloMosaic
open Idealize.ShloMosaic.Transfers
open Idealize.SL Idealize.SL.RA
open Idealize.SL.BI (sProp Storable bigSep bigSep_insert bigSep_empty bigSep_singleton bigSep_map)
open scoped Idealize.SL.BI
open Idealize.SL.BI.BIBase Idealize.SL.BI.Laws Idealize.SL.ProofMode Idealize.SL.Sem
open Cert.KernelIdeal Cert.KernelIdeal.Gen

variable {F : FTy → Type} [FloatOps F]
variable {Ix : Type} [DecidableEq Ix] {Name : Type} [DecidableEq Name] {U : Type} [URA U] {Lvl : Type} [Preorder Lvl]
variable (emb : UEmb (WmRA nD τ sig (Elt F)) U)

local notation "𝕄" => MT nD τ sig Ix (Elt F) Name U Lvl
local notation:60 ℓ " ⇝[" I "]{" q "} " f:max " ⇒ " g:max " @ " W:max => willBeTo emb ℓ I q f g W

variable {defs : Defs nD τ sig (Elt F) Λ₀} (𝒱 : Variants) {ιwm : Name} (bd : Option 𝒱.V) {α : Type}
variable (d : Dev nD) (i : grid0.Coords)

/-- The tile's thread on device `d`. -/
abbrev thr : Thread nD τ := (d, .scVector ((i 0).castLE hcore0) ((i 1).castLE hsub0))

abbrev bufLoc : Loc nD τ sig := bufV.view.loc (thr d i)
abbrev histLoc : Loc nD τ sig := histV.view.loc (thr d i)

variable {Q : α → sProp (MT nD τ sig Ix (Elt F) Name U Lvl)}

/-! ## Clearing -/

theorem wp_zStep (h : Fin 2) (t : Fin k0_t1_loop.trips) (r : Fin 16) {k : PUnit → Prog (TileEff F i) α} {fh : S16384.Idx → Elt F .f32}
    (hc : Cleared h.val (256 * t.val + 16 * r.val) fh) :
    (histLoc d i ↦[Finset.univ]{fullShare} fh : sProp 𝕄)
      ⊢ iprop((∀ fh' : S16384.Idx → Elt F .f32, ⌜Cleared h.val (256 * t.val + 16 * (r.val + 1)) fh'⌝ -∗ (histLoc d i ↦[Finset.univ]{fullShare} fh')
          -∗ wp frame (wpE defs 𝒱 (thr d i) bd) Set.univ (k ⟨⟩) Q)
        -∗ wp frame (wpE defs 𝒱 (thr d i) bd) Set.univ (zStep i histV (k0_pay225 (F := F)) h t r >>= k) Q) := by
  have hs := cleared_step h t r hc
  iintro H Hk
  iapply (wp_load_rect (defs := defs) 𝒱 (thr d i) bd Set.univ (Q := Q) (m := histV)
    (r := Rect.unit (s := S16384) (zOff (hz h) t (BitVec.ofNat 32 (16 * r.val))) S16.size (zOff_inb h t r)) (hl := View.loadsAt_vmem h_S16)
    (q := fullShare) (f := fh) (Finset.subset_univ _)) $$ H
  iintro H
  iapply (wp_store (defs := defs) 𝒱 (thr d i) bd Set.univ (Q := Q) (m := histV)
    (r := Rect.unit (s := S16384) (zOff (hz h) t (BitVec.ofNat 32 (16 * r.val))) S16.size (zOff_inb h t r)) (Mk := Finset.univ) (f := fh) (Finset.subset_univ _)) $$ H
  iintro H
  iapply Hk $$ %_ %hs H

theorem wp_zBody (h : Fin 2) (t : Fin k0_t1_loop.trips) (acc : BitVec 32) :
    (iprop(∃ fh : S16384.Idx → Elt F .f32, ⌜Cleared h.val (256 * t.val) fh⌝ ∗ (histLoc d i ↦[Finset.univ]{fullShare} fh)) : sProp 𝕄)
      ⊢ wp frame (wpE defs 𝒱 (thr d i) bd) Set.univ (zBody i histV (k0_pay225 (F := F)) h t acc)
          fun _ => iprop(∃ fh : S16384.Idx → Elt F .f32, ⌜Cleared h.val (256 * (t.val + 1)) fh⌝ ∗ (histLoc d i ↦[Finset.univ]{fullShare} fh)) := by
  unfold zBody
  iintro ⟨%fh, %hc, H⟩
  iapply (wp_zStep 𝒱 bd d i h t 0 hc) $$ H
  iintro %fh %hc H
  iapply (wp_zStep 𝒱 bd d i h t 1 hc) $$ H
  iintro %fh %hc H
  iapply (wp_zStep 𝒱 bd d i h t 2 hc) $$ H
  iintro %fh %hc H
  iapply (wp_zStep 𝒱 bd d i h t 3 hc) $$ H
  iintro %fh %hc H
  iapply (wp_zStep 𝒱 bd d i h t 4 hc) $$ H
  iintro %fh %hc H
  iapply (wp_zStep 𝒱 bd d i h t 5 hc) $$ H
  iintro %fh %hc H
  iapply (wp_zStep 𝒱 bd d i h t 6 hc) $$ H
  iintro %fh %hc H
  iapply (wp_zStep 𝒱 bd d i h t 7 hc) $$ H
  iintro %fh %hc H
  iapply (wp_zStep 𝒱 bd d i h t 8 hc) $$ H
  iintro %fh %hc H
  iapply (wp_zStep 𝒱 bd d i h t 9 hc) $$ H
  iintro %fh %hc H
  iapply (wp_zStep 𝒱 bd d i h t 10 hc) $$ H
  iintro %fh %hc H
  iapply (wp_zStep 𝒱 bd d i h t 11 hc) $$ H
  iintro %fh %hc H
  iapply (wp_zStep 𝒱 bd d i h t 12 hc) $$ H
  iintro %fh %hc H
  iapply (wp_zStep 𝒱 bd d i h t 13 hc) $$ H
  iintro %fh %hc H
  iapply (wp_zStep 𝒱 bd d i h t 14 hc) $$ H
  iintro %fh %hc H
  iapply (wp_zStep 𝒱 bd d i h t 15 hc) $$ H
  iintro %fh %hc H
  rw [wp_pure]
  imodintro
  iexists fh
  isplitr
  · ipureintro; exact hc
  · iexact H

/-- The clearing loop. -/
theorem wp_clear (h : Fin 2) {k : PUnit → Prog (TileEff F i) α} (fh : S16384.Idx → Elt F .f32) :
    (histLoc d i ↦[Finset.univ]{fullShare} fh : sProp 𝕄)
      ⊢ iprop((∀ fh' : S16384.Idx → Elt F .f32, ⌜Cleared h.val 8192 fh'⌝ -∗ (histLoc d i ↦[Finset.univ]{fullShare} fh')
          -∗ wp frame (wpE defs 𝒱 (thr d i) bd) Set.univ (k ⟨⟩) Q)
        -∗ wp frame (wpE defs 𝒱 (thr d i) bd) Set.univ (clear i histV h >>= k) Q) := by
  unfold clear
  rw [bind_assoc]
  iintro H Hk
  iapply (Scf.wp_for_bind frame (wpE defs 𝒱 (thr d i) bd) Set.univ _ _ _ k0_t1_ok 0#32 (zBody i histV (k0_pay225 (F := F)) h)
    (fun n _ => iprop(∃ fh : S16384.Idx → Elt F .f32, ⌜Cleared h.val (256 * n) fh⌝ ∗ (histLoc d i ↦[Finset.univ]{fullShare} fh)))
    (fun t acc => wp_zBody 𝒱 bd d i h t acc) (kk := fun _ => k ⟨⟩)) $$ [H]
  · iexists fh
    isplitr
    · ipureintro; intro x h1 h2; omega
    · iexact H
  · iintro %_ ⟨%fh, %hc, H⟩
    iapply Hk $$ %fh %hc H

/-! ## Counting -/

theorem read_bufWhole (cur : S31104.Idx → BitVec 32) : bufV.view.readAt (Elt F) (LoadRect.whole S31104) cur = cur := by
  funext x
  show cur _ = cur x
  congr 1
  funext a
  exact Fin.ext (by show 0 + 1 * (x a).val = (x a).val; omega)

/-- Loading all of the fetched frames while the other half may be changing: half `h` is read as it is. -/
theorem wp_loadBuf {X : S16x3x129600.Idx → BitVec 32} {g : ℕ} (h : Fin 2) {q : PosShare TreeShare} {f T : S31104.Idx → BitVec 32}
    (hf : BufHas X g h.val f) (hT : BufHas X g h.val T) (a : IVec S16 32) (ha : ∀ e x, ((![a] : Fin 1 → IVec S16 32) e x).toNat < S31104.size e)
    (ch n : ℕ) (hch : ch < 3) (hn : n < 324)
    (hv : ∀ x : S16.Idx, (a x).toNat = h.val * 15552 + ch * 5184 + ((x 0).val / 4 * 1296 + (x 0).val % 4 + 4 * n))
    {k : Vec F S16 .i32 → Prog (TileEff F i) α} :
    iprop(wmInv emb ιwm ∗ (bufLoc d i ⇝[Finset.univ]{q} f ⇒ (fun x => some (T x)) @ ∅) : sProp 𝕄)
      ⊢ iprop((∀ v : Vec F S16 .i32, ⌜∀ x : S16.Idx, v x = xAt X (g / 25) ch ((g % 25 * 4 + (x 0).val / 4) * 1296 + 4 * n + (x 0).val % 4)⌝
            -∗ (bufLoc d i ⇝[Finset.univ]{q} f ⇒ (fun x => some (T x)) @ ∅) -∗ wp frame (wpE defs 𝒱 (thr d i) bd) Set.univ (k v) Q)
        -∗ wp frame (wpE defs 𝒱 (thr d i) bd) Set.univ (SparseCore.vectorLoadIdx bufV ![a] ha (View.loads_vmem h_S31104) >>= k) Q) := by
  iintro H Hk
  iapply (wp_load_willBeTo (emb := emb) 𝒱 (thr d i) bd Set.univ (Q := Q) (m := bufV) (r := .whole S31104) (S := Finset.univ)
    (f := f) (g := fun x => some (T x)) (W := ∅) (Finset.subset_univ _)) $$ H
  iintro %cur %W' %hcur H
  iapply Hk $$ %_ [] H
  ipureintro
  intro x
  have hc : BufHas X g h.val cur := fun y c j hc hj hy => by
    have := (hcur.2 y (Finset.mem_univ _))
    by_cases hm : y ∈ W'
    · exact (this.2 hm _ rfl).trans (hT y c j hc hj hy)
    · exact (this.1 hm).trans (hf y c j hc hj hy)
  have hl : (x 0).val < 16 := (x 0).isLt
  refine (congrFun (read_bufWhole cur) _).trans ((hc (idxAt (s := S31104) ![a] ha x) ch ((x 0).val / 4 * 1296 + (x 0).val % 4 + 4 * n) hch (by omega) (hv x)).trans ?_)
  congr 1
  omega

/-- Read one channel at the sixteen lanes' pixels, the indices checked first. -/
def chan (s : BitVec 32) (k : Vec F S16 .i32 → Prog (TileEff F i) α) : Prog (TileEff F i) α :=
  .op (.assume (k0_chk1 (chanVec k0_pay222 s)) (k0_chk1.dec (chanVec k0_pay222 s))) fun w =>
    SparseCore.vectorLoadIdx bufV ![chanVec k0_pay222 s] (k0_idx1_inb (chanVec k0_pay222 s) w.down) (View.loads_vmem h_S31104) >>= k

/-- Add one at the sixteen lanes' bins, the indices checked first. -/
def bump (h : Fin 2) (r g b : Vec F S16 .i32) (k : PUnit → Prog (TileEff F i) α) : Prog (TileEff F i) α :=
  .op (.assume (k0_chk4 (binVec k0_pay223 r g b h)) (k0_chk4.dec (binVec k0_pay223 r g b h))) fun w =>
    SparseCore.vectorStoreIdx histV ![binVec k0_pay223 r g b h] (k0_pay224 (F := F)) (fun _ => 1#1) true
      (k0_idx4_inb (binVec k0_pay223 r g b h) w.down) (View.stores_vmem_bits_univ h_S16384 rfl) >>= k

theorem pxStep_bind (h : Fin 2) (s : BitVec 32) (k : PUnit → Prog (TileEff F i) α) :
    (pxStep i bufV histV k0_pay222 k0_pay223 (k0_pay224 (F := F)) h s >>= k)
      = chan i s fun r => chan i (Scalar.addi s 5184#32) fun g => chan i (Scalar.addi s 10368#32) fun b => bump i h r g b k := rfl

theorem wp_chan {X : S16x3x129600.Idx → BitVec 32} {g : ℕ} (h : Fin 2) {q : PosShare TreeShare} {f T : S31104.Idx → BitVec 32}
    (hf : BufHas X g h.val f) (hT : BufHas X g h.val T) (s : BitVec 32) (ch n : ℕ) (hch : ch < 3) (hn : n < 324)
    (hs : s.toNat = h.val * 15552 + ch * 5184 + 4 * n)
    {k : Vec F S16 .i32 → Prog (TileEff F i) α} :
    iprop(wmInv emb ιwm ∗ (bufLoc d i ⇝[Finset.univ]{q} f ⇒ (fun x => some (T x)) @ ∅) : sProp 𝕄)
      ⊢ iprop((∀ v : Vec F S16 .i32, ⌜∀ x : S16.Idx, v x = xAt X (g / 25) ch ((g % 25 * 4 + (x 0).val / 4) * 1296 + 4 * n + (x 0).val % 4)⌝
            -∗ (bufLoc d i ⇝[Finset.univ]{q} f ⇒ (fun x => some (T x)) @ ∅) -∗ wp frame (wpE defs 𝒱 (thr d i) bd) Set.univ (k v) Q)
        -∗ wp frame (wpE defs 𝒱 (thr d i) bd) Set.univ (chan i s k) Q) := by
  have hh2 : h.val < 2 := h.isLt
  have hv : ∀ x : S16.Idx, (chanVec k0_pay222 s x).toNat = h.val * 15552 + ch * 5184 + ((x 0).val / 4 * 1296 + (x 0).val % 4 + 4 * n) := fun x => by
    rw [chanVec_toNat s (by omega) x]; omega
  have hc : k0_chk1 (chanVec k0_pay222 s) := by
    intro e x
    have hl : (x 0).val < 16 := (x 0).isLt
    match e with
    | 0 => show (chanVec k0_pay222 s x).toNat < 31104; rw [hv x]; omega
  unfold chan
  iintro H Hk
  iapply (wp_assume (defs := defs) 𝒱 (thr d i) bd Set.univ hc)
  iapply (wp_loadBuf emb 𝒱 bd d i h hf hT (chanVec k0_pay222 s) (k0_idx1_inb _ hc) ch n hch hn hv) $$ H Hk

/-- The scatter's store, over the whole of the histograms. -/
theorem wp_storeHist (fh : S16384.Idx → Elt F .f32) (a : IVec S16 32) (ha : ∀ e x, ((![a] : Fin 1 → IVec S16 32) e x).toNat < S16384.size e)
    {k : PUnit → Prog (TileEff F i) α} :
    (histLoc d i ↦[Finset.univ]{fullShare} fh : sProp 𝕄)
      ⊢ iprop(((histLoc d i ↦[Finset.univ]{fullShare} (storeIdx (F := F) (e := .f32) fh ![a] (k0_pay224 (F := F)) (fun _ => 1#1) true ha))
            -∗ wp frame (wpE defs 𝒱 (thr d i) bd) Set.univ (k ⟨⟩) Q)
        -∗ wp frame (wpE defs 𝒱 (thr d i) bd) Set.univ
            (SparseCore.vectorStoreIdx histV ![a] (k0_pay224 (F := F)) (fun _ => 1#1) true ha (View.stores_vmem_bits_univ h_S16384 rfl) >>= k) Q) := by
  have := SparseCore.wp_vectorStoreIdx (defs := defs) 𝒱 (thr d i) bd Set.univ (base := histV) (f := fh) (idxs := ![a]) (v := k0_pay224 (F := F))
    (mask := fun _ => 1#1) (add := true) (h := ha) (hs := View.stores_vmem_bits_univ h_S16384 rfl) (k := k) (Q := Q) (Ix := Ix) (Name := Name) (U := U) (Lvl := Lvl)
  have e1 : (histV.access (Rect.whole S16384)).set = Finset.univ := Memref.set_access_whole cc0_scratch1
  have e2 : (histV.access (Rect.whole S16384)).read (Elt F) fh = fh := Memref.read_access_whole (Elt F) cc0_scratch1 fh
  have e3 : ∀ w : S16384.Idx → Elt F .f32, (histV.access (Rect.whole S16384)).write (Elt F) fh w Finset.univ = w :=
    Memref.write_access_whole_univ (Elt F) cc0_scratch1 fh
  rw [e1, e2, e3] at this
  exact this

theorem wp_bump {X : S16x3x129600.Idx → BitVec 32} (hX : InRange X) {g : ℕ} (h : Fin 2) (n : ℕ)
    {fh : S16384.Idx → Elt F .f32} (hh : HistAt X g h.val n fh) (r gg b : Vec F S16 .i32)
    (hr : ∀ x : S16.Idx, r x = xAt X (g / 25) 0 ((g % 25 * 4 + (x 0).val / 4) * 1296 + 4 * n + (x 0).val % 4))
    (hg : ∀ x : S16.Idx, gg x = xAt X (g / 25) 1 ((g % 25 * 4 + (x 0).val / 4) * 1296 + 4 * n + (x 0).val % 4))
    (hb : ∀ x : S16.Idx, b x = xAt X (g / 25) 2 ((g % 25 * 4 + (x 0).val / 4) * 1296 + 4 * n + (x 0).val % 4))
    {k : PUnit → Prog (TileEff F i) α} :
    (histLoc d i ↦[Finset.univ]{fullShare} fh : sProp 𝕄)
      ⊢ iprop((∀ fh' : S16384.Idx → Elt F .f32, ⌜HistAt X g h.val (n + 1) fh'⌝
            -∗ (histLoc d i ↦[Finset.univ]{fullShare} fh') -∗ wp frame (wpE defs 𝒱 (thr d i) bd) Set.univ (k ⟨⟩) Q)
        -∗ wp frame (wpE defs 𝒱 (thr d i) bd) Set.univ (bump i h r gg b k) Q) := by
  have hh2 : h.val < 2 := h.isLt
  have hbin : ∀ x : S16.Idx, (binVec k0_pay223 r gg b h x).toNat
      = h.val * 8192 + (x 0).val * 512 + binAt X (g / 25) ((g % 25 * 4 + (x 0).val / 4) * 1296 + 4 * n + (x 0).val % 4) := fun x => by
    rw [binVec_toNat r gg b h x (by rw [hr]; exact xAt_lt hX _ _ _) (by rw [hg]; exact xAt_lt hX _ _ _) (by rw [hb]; exact xAt_lt hX _ _ _), hr, hg, hb]
    rfl
  have hchk : k0_chk4 (binVec k0_pay223 r gg b h) := by
    intro e x
    have hl : (x 0).val < 16 := (x 0).isLt
    have := binAt_lt hX (g / 25) ((g % 25 * 4 + (x 0).val / 4) * 1296 + 4 * n + (x 0).val % 4)
    match e with
    | 0 => show (binVec k0_pay223 r gg b h x).toNat < 16384; rw [hbin x]; omega
  have hstep := histAt_step hX hh _ hchk hbin
  unfold bump
  iintro Hh Hk
  iapply (wp_assume (defs := defs) 𝒱 (thr d i) bd Set.univ hchk)
  iapply (wp_storeHist 𝒱 bd d i fh (binVec k0_pay223 r gg b h) (k0_idx4_inb _ hchk)) $$ Hh
  iintro Hh
  iapply Hk $$ %_ %hstep Hh

theorem wp_pxStep {X : S16x3x129600.Idx → BitVec 32} (hX : InRange X) {g : ℕ} (h : Fin 2) (n : ℕ) (hn : n < 324) (s : BitVec 32)
    (hs : s.toNat = h.val * 15552 + 4 * n) {q : PosShare TreeShare} {f T : S31104.Idx → BitVec 32}
    (hf : BufHas X g h.val f) (hT : BufHas X g h.val T) {fh : S16384.Idx → Elt F .f32} (hh : HistAt X g h.val n fh)
    {k : PUnit → Prog (TileEff F i) α} :
    iprop(wmInv emb ιwm ∗ (bufLoc d i ⇝[Finset.univ]{q} f ⇒ (fun x => some (T x)) @ ∅) ∗ (histLoc d i ↦[Finset.univ]{fullShare} fh) : sProp 𝕄)
      ⊢ iprop((∀ fh' : S16384.Idx → Elt F .f32, ⌜HistAt X g h.val (n + 1) fh'⌝ -∗ (bufLoc d i ⇝[Finset.univ]{q} f ⇒ (fun x => some (T x)) @ ∅)
            -∗ (histLoc d i ↦[Finset.univ]{fullShare} fh') -∗ wp frame (wpE defs 𝒱 (thr d i) bd) Set.univ (k ⟨⟩) Q)
        -∗ wp frame (wpE defs 𝒱 (thr d i) bd) Set.univ (pxStep i bufV histV k0_pay222 k0_pay223 (k0_pay224 (F := F)) h s >>= k) Q) := by
  have hh2 : h.val < 2 := h.isLt
  have sadd : ∀ (c : BitVec 32), c.toNat < 20000 → (Scalar.addi s c).toNat = s.toNat + c.toNat := fun c hc => by
    show (s + c).toNat = _; rw [BitVec.toNat_add]; omega
  have v1 : (Scalar.addi s 5184#32).toNat = h.val * 15552 + 1 * 5184 + 4 * n := by
    rw [sadd 5184#32 (by decide), hs]; have e' : (5184#32 : BitVec 32).toNat = 5184 := rfl
    omega
  have v2 : (Scalar.addi s 10368#32).toNat = h.val * 15552 + 2 * 5184 + 4 * n := by
    rw [sadd 10368#32 (by decide), hs]; have e' : (10368#32 : BitVec 32).toNat = 10368 := rfl
    omega
  have v0 : s.toNat = h.val * 15552 + 0 * 5184 + 4 * n := by rw [hs, Nat.zero_mul, Nat.add_zero]
  rw [pxStep_bind]
  iintro ⟨#Hwm, Hb, Hh⟩ Hk
  iapply (wp_chan emb 𝒱 bd d i h hf hT s 0 n (by omega) hn v0) $$ [Hb]
  · isplitr
    · iexact Hwm
    · iexact Hb
  iintro %r %hr Hb
  iapply (wp_chan emb 𝒱 bd d i h hf hT _ 1 n (by omega) hn v1) $$ [Hb]
  · isplitr
    · iexact Hwm
    · iexact Hb
  iintro %gg %hg Hb
  iapply (wp_chan emb 𝒱 bd d i h hf hT _ 2 n (by omega) hn v2) $$ [Hb]
  · isplitr
    · iexact Hwm
    · iexact Hb
  iintro %b %hb Hb
  iapply (wp_bump 𝒱 bd d i hX h n hh r gg b hr hg hb) $$ Hh
  iintro %fh' %hfh' Hh
  iapply Hk $$ %fh' %hfh' Hb Hh

theorem wp_pxBody {X : S16x3x129600.Idx → BitVec 32} (hX : InRange X) {g : ℕ} (h : Fin 2) {q : PosShare TreeShare} {f T : S31104.Idx → BitVec 32}
    (hf : BufHas X g h.val f) (hT : BufHas X g h.val T) (t : Fin k0_t2_loop.trips) (acc : BitVec 32) :
    (iprop(wmInv emb ιwm ∗ (bufLoc d i ⇝[Finset.univ]{q} f ⇒ (fun x => some (T x)) @ ∅)
        ∗ ∃ fh : S16384.Idx → Elt F .f32, ⌜HistAt X g h.val (4 * t.val) fh⌝ ∗ (histLoc d i ↦[Finset.univ]{fullShare} fh)) : sProp 𝕄)
      ⊢ wp frame (wpE defs 𝒱 (thr d i) bd) Set.univ (pxBody i bufV histV k0_pay222 k0_pay223 (k0_pay224 (F := F)) h t acc)
          fun _ => iprop(wmInv emb ιwm ∗ (bufLoc d i ⇝[Finset.univ]{q} f ⇒ (fun x => some (T x)) @ ∅)
            ∗ ∃ fh : S16384.Idx → Elt F .f32, ⌜HistAt X g h.val (4 * (t.val + 1)) fh⌝ ∗ (histLoc d i ↦[Finset.univ]{fullShare} fh)) := by
  have ht : t.val < 81 := t.isLt
  have hs : ∀ k : Fin 4, (pxScalar h t k).toNat = h.val * 15552 + 4 * (4 * t.val + k.val) := fun k => by
    rw [pxScalar_toNat]; omega
  unfold pxBody
  iintro ⟨#Hwm, Hb, %fh, %hh, Hh⟩
  iapply (wp_pxStep emb 𝒱 bd d i hX h (4 * t.val + 0) (by omega) _ (hs 0) hf hT hh) $$ [Hb Hh]
  · isplitr
    · iexact Hwm
    isplitl [Hb] <;> iassumption
  iintro %fh %hh Hb Hh
  iapply (wp_pxStep emb 𝒱 bd d i hX h (4 * t.val + 1) (by omega) _ (hs 1) hf hT hh) $$ [Hb Hh]
  · isplitr
    · iexact Hwm
    isplitl [Hb] <;> iassumption
  iintro %fh %hh Hb Hh
  iapply (wp_pxStep emb 𝒱 bd d i hX h (4 * t.val + 2) (by omega) _ (hs 2) hf hT hh) $$ [Hb Hh]
  · isplitr
    · iexact Hwm
    isplitl [Hb] <;> iassumption
  iintro %fh %hh Hb Hh
  iapply (wp_pxStep emb 𝒱 bd d i hX h (4 * t.val + 3) (by omega) _ (hs 3) hf hT hh) $$ [Hb Hh]
  · isplitr
    · iexact Hwm
    isplitl [Hb] <;> iassumption
  iintro %fh %hh Hb Hh
  rw [wp_pure]
  imodintro
  isplitr
  · iexact Hwm
  isplitl [Hb]
  · iexact Hb
  iexists fh
  isplitr
  · ipureintro; exact hh
  · iexact Hh

/-- The pixel loop. -/
theorem wp_count {X : S16x3x129600.Idx → BitVec 32} (hX : InRange X) {g : ℕ} (h : Fin 2) {q : PosShare TreeShare} {f T : S31104.Idx → BitVec 32}
    (hf : BufHas X g h.val f) (hT : BufHas X g h.val T) {fh : S16384.Idx → Elt F .f32} (hz : Cleared h.val 8192 fh)
    {k : PUnit → Prog (TileEff F i) α} :
    iprop(wmInv emb ιwm ∗ (bufLoc d i ⇝[Finset.univ]{q} f ⇒ (fun x => some (T x)) @ ∅) ∗ (histLoc d i ↦[Finset.univ]{fullShare} fh) : sProp 𝕄)
      ⊢ iprop((∀ fh' : S16384.Idx → Elt F .f32, ⌜HistAt X g h.val 324 fh'⌝ -∗ (bufLoc d i ⇝[Finset.univ]{q} f ⇒ (fun x => some (T x)) @ ∅)
            -∗ (histLoc d i ↦[Finset.univ]{fullShare} fh') -∗ wp frame (wpE defs 𝒱 (thr d i) bd) Set.univ (k ⟨⟩) Q)
        -∗ wp frame (wpE defs 𝒱 (thr d i) bd) Set.univ (count i bufV histV h >>= k) Q) := by
  unfold count
  rw [bind_assoc]
  iintro ⟨Hwm, Hb, Hh⟩ Hk
  iapply (Scf.wp_for_bind frame (wpE defs 𝒱 (thr d i) bd) Set.univ _ _ _ k0_t2_ok 0#32 (pxBody i bufV histV k0_pay222 k0_pay223 (k0_pay224 (F := F)) h)
    (fun n _ => iprop(wmInv emb ιwm ∗ (bufLoc d i ⇝[Finset.univ]{q} f ⇒ (fun x => some (T x)) @ ∅)
        ∗ ∃ fh : S16384.Idx → Elt F .f32, ⌜HistAt X g h.val (4 * n) fh⌝ ∗ (histLoc d i ↦[Finset.univ]{fullShare} fh)))
    (fun t acc => wp_pxBody emb 𝒱 bd d i hX h hf hT t acc) (kk := fun _ => k ⟨⟩)) $$ [Hwm Hb Hh]
  · isplitl [Hwm]
    · iexact Hwm
    isplitl [Hb]
    · iexact Hb
    iexists fh
    isplitr
    · ipureintro; exact histAt_zero hz
    · iexact Hh
  · iintro %_ ⟨Hwm, Hb, %fh', %hh, Hh⟩
    iapply Hk $$ %fh' %hh Hb Hh

end Cert.Proof

end
-- ==== Proof.Stage.lean ====
/-
  A stage's transfers. The three fetches of a stage land in one half of the fetched frames, which are held in write mode
  from the fetches' issue to the last of their waits (`wp_fetch`, `wp_fetched`); the four rows of histograms are sent to
  the result, which several tiles hold in write mode by shares (`wp_send`).
-/
module

public import proofs.«01_k».proof.Proof.Loops
public import Idealize.ShloMosaic.Lib.Pipeline.Kit

@[expose] public section

noncomputable section

namespace Cert.Proof

open Idealize.ShloMosaic
open Idealize.ShloMosaic.Transfers
open Idealize.SL Idealize.SL.RA
open Idealize.SL.BI (sProp Storable bigSep bigSep_insert bigSep_empty bigSep_singleton bigSep_map)
open scoped Idealize.SL.BI
open Idealize.SL.BI.BIBase Idealize.SL.BI.Laws Idealize.SL.ProofMode Idealize.SL.Sem
open Cert.KernelIdeal Cert.KernelIdeal.Gen

variable {F : FTy → Type} [FloatOps F]
variable {Ix : Type} [DecidableEq Ix] {Name : Type} [DecidableEq Name] {U : Type} [URA U] {Lvl : Type} [Preorder Lvl]
variable (emb : UEmb (WmRA nD τ sig (Elt F)) U)

local notation "𝕄" => MT nD τ sig Ix (Elt F) Name U Lvl
local notation:60 ℓ " ⇝[" I "]{" q "} " f:max " ⇒ " g:max " @ " W:max => willBeTo emb ℓ I q f g W

variable {defs : Defs nD τ sig (Elt F) Λ₀} (𝒱 : Variants) {ιwm : Name} (EC : UEmb Counters (MT nD τ sig Ix (Elt F) Name U Lvl))
variable (bd : Option 𝒱.V) {α : Type} (d : Dev nD) (i : grid0.Coords)
variable {Q : α → sProp (MT nD τ sig Ix (Elt F) Name U Lvl)}

abbrev srcLoc : Loc nD τ sig := srcV.view.loc (thr d i)
abbrev outLoc : Loc nD τ sig := outV.view.loc (thr d i)

/-- What the tile owes, with waits at index `ι` recorded beyond `W`. -/
def OwesAt (ι : Ix) (O : CellTallies nD τ sig Ix) (W : Waits sig Ix) : sProp 𝕄 :=
  iprop(∃ W', ⌜∀ p ∈ W', p ∈ W ∨ p.2 = ι⌝ ∗ owes (thr d i) O W')

/-- The credit of one channel's fetch, and of one row's sending. -/
abbrev NI : ℕ := (bufSl bufV (0 * 15552 + 0 * 5184) (buf_inb 0 0)).view.dmaCredit
abbrev NO : ℕ := sig.dmaCredit .scVector (Kind.scVector.table .hbm) (main_v1_scv : Ref sig .scVector).idx S2048 .f32
theorem NI_pos : 0 < NI := View.dmaCredit_pos _ (by decide)
theorem NO_pos : 0 < NO := sig.dmaCredit_pos _ _ _ _ _ (by decide)

/-- The words channel `ch`'s fetch into half `h` writes. -/
abbrev bufSet (h : Fin 2) (ch : Fin 3) : Finset S31104.Idx := (bufSl bufV (h.val * 15552 + ch.val * 5184) (buf_inb h ch)).view.set

/-- What channel `ch`'s fetch into half `h` delivers. -/
def Din (X : S16x3x129600.Idx → BitVec 32) (qv : PosShare TreeShare) (f T : S31104.Idx → BitVec 32) (h : Fin 2) (ch : Fin 3) : sProp 𝕄 :=
  iprop((bufLoc d i ⇝[Finset.univ]{fourth fullShare ch.succ} f ⇒ (fun x => some (T x)) @ (∅ ∪ bufSet h ch))
    ∗ (srcLoc d i ↦[Finset.univ]{fourth qv ch.succ} X))

instance (X : S16x3x129600.Idx → BitVec 32) (qv : PosShare TreeShare) (f T : S31104.Idx → BitVec 32) (h : Fin 2) (ch : Fin 3) :
    Storable (upEmb : UEmb _ 𝕄) (Din emb d i X qv f T h ch) := by
  unfold Din; infer_instance

/-- A channel's window of the frames is what half `h` is to hold. -/
theorem in_admitted {X : S16x3x129600.Idx → BitVec 32} {T : S31104.Idx → BitVec 32} (gi : Fin 13) (h : Fin 2) (ch : Fin 3)
    (hT : BufHas X (grp (wid i) gi.val) h.val T) :
    (bufSl bufV (h.val * 15552 + ch.val * 5184) (buf_inb h ch)).view.Admitted (Elt F) (fun x : S31104.Idx => some (T x))
      ((srcSl srcV (inOff i gi ch) (inOff_inb i gi ch)).view.read (Elt F) X) Finset.univ := by
  intro j _ u hu
  have hj : (j 0).val < 5184 := (j 0).isLt
  have e1 : T ((bufSl bufV (h.val * 15552 + ch.val * 5184) (buf_inb h ch)).view.emb j) = u := Option.some.inj hu
  rw [← e1]
  have hs := srcSl_emb (inOff i gi ch) (inOff_inb i gi ch) j
  refine Eq.trans ?_ (hT _ ch.val (j 0).val ch.isLt hj (bufSl_emb _ _ j)).symm
  refine xAt_of X _ (hs.1.trans ?_) (hs.2.1.trans ?_) (hs.2.2.trans ?_)
  · rw [inOff_eq]; rfl
  · rw [inOff_eq]; rfl
  · rw [inOff_eq]; rfl

/-- The three fetches of stage `gi` into half `h`, issued. -/
theorem wp_fetch [Infinite Name] [EC.LandsIn (upEmb : UEmb _ (MT nD τ sig Ix (Elt F) Name U Lvl))]
    {X : S16x3x129600.Idx → BitVec 32} (ι : Ix) (gi : Fin 13) (h : Fin 2) {f T : S31104.Idx → BitVec 32} (qv : PosShare TreeShare)
    (hT : BufHas X (grp (wid i) gi.val) h.val T) {k : PUnit → Prog (TileEff F i) α} :
    iprop(wmInv emb ιwm ∗ semVal (thr d i, .dma cc0_scratch2.sem) 0
        ∗ ((bufLoc d i ⇝[Finset.univ]{fourth fullShare 1} f ⇒ (fun x => some (T x)) @ ∅) ∗ (bufLoc d i ⇝[Finset.univ]{fourth fullShare 2} f ⇒ (fun x => some (T x)) @ ∅)
          ∗ (bufLoc d i ⇝[Finset.univ]{fourth fullShare 3} f ⇒ (fun x => some (T x)) @ ∅))
        ∗ (srcLoc d i ↦[Finset.univ]{fourth qv 1} X) ∗ (srcLoc d i ↦[Finset.univ]{fourth qv 2} X) ∗ (srcLoc d i ↦[Finset.univ]{fourth qv 3} X) : sProp 𝕄)
      ⊢ iprop((Batch EC (thr d i) (.dma cc0_scratch2.sem) ι NI (Din emb d i X qv f T h) 3 0 -∗ wp frame (wpE defs 𝒱 (thr d i) bd) Set.univ (k ⟨⟩) Q)
        -∗ wp frame (wpE defs 𝒱 (thr d i) bd) Set.univ (fetch i srcV bufV cc0_scratch2 gi h >>= k) Q) := by
  unfold fetch
  iintro ⟨#Hwm, Hsem, ⟨Hb1, Hb2, Hb3⟩, Hs1, Hs2, Hs3⟩ Hk
  imod (batch_alloc' EC (thr d i) ι NI (Din emb d i X qv f T h)) $$ Hsem with HB
  iapply (wp_batchIssue emb 𝒱 EC (thr d i) bd (src := srcSl srcV (inOff i gi 0) (inOff_inb i gi 0)) (dst := bufSl bufV (h.val * 15552 + (0 : Fin 3).val * 5184) (buf_inb h 0))
    (j := 0) (u := 0) (q := fourth qv 1) (qd := fourth fullShare 1) (fd := f) (g := fun x : S31104.Idx => some (T x)) (W := ∅) (fs := X) (D := Din emb d i X qv f T h) ι NI rfl (by decide) (by decide) (in_admitted i gi h 0 hT) .rfl) $$ [Hs1 Hb1 HB]
  · isplitl [Hs1]; · iexact Hs1
    isplitr; · iexact Hwm
    isplitl [Hb1]; · iexact Hb1
    iexact HB
  iintro HB
  iapply (wp_batchIssue emb 𝒱 EC (thr d i) bd (src := srcSl srcV (inOff i gi 1) (inOff_inb i gi 1)) (dst := bufSl bufV (h.val * 15552 + (1 : Fin 3).val * 5184) (buf_inb h 1))
    (j := 1) (u := 0) (q := fourth qv 2) (qd := fourth fullShare 2) (fd := f) (g := fun x : S31104.Idx => some (T x)) (W := ∅) (fs := X) (D := Din emb d i X qv f T h) ι NI rfl (by decide) (Nat.zero_le _) (in_admitted i gi h 1 hT) .rfl) $$ [Hs2 Hb2 HB]
  · isplitl [Hs2]; · iexact Hs2
    isplitr; · iexact Hwm
    isplitl [Hb2]; · iexact Hb2
    iexact HB
  iintro HB
  iapply (wp_batchIssue emb 𝒱 EC (thr d i) bd (src := srcSl srcV (inOff i gi 2) (inOff_inb i gi 2)) (dst := bufSl bufV (h.val * 15552 + (2 : Fin 3).val * 5184) (buf_inb h 2))
    (j := 2) (u := 0) (q := fourth qv 3) (qd := fourth fullShare 3) (fd := f) (g := fun x : S31104.Idx => some (T x)) (W := ∅) (fs := X) (D := Din emb d i X qv f T h) ι NI rfl (by decide) (Nat.zero_le _) (in_admitted i gi h 2 hT) .rfl) $$ [Hs3 Hb3 HB]
  · isplitl [Hs3]; · iexact Hs3
    isplitr; · iexact Hwm
    isplitl [Hb3]; · iexact Hb3
    iexact HB
  iintro HB
  iapply Hk $$ HB

theorem owesAt_open (ι : Ix) (O : CellTallies nD τ sig Ix) (W : Waits sig Ix) :
    OwesAt d i ι O W ⊢ (iprop(∃ W', ⌜∀ p ∈ W', p ∈ W ∨ p.2 = ι⌝ ∗ owes (thr d i) O W') : sProp 𝕄) := .rfl

/-- One more wait, at index `ι`. -/
theorem owesAt_insert (ι : Ix) (O : CellTallies nD τ sig Ix) (W W' : Waits sig Ix) (sm : SemLoc sig) (hW : ∀ p ∈ W', p ∈ W ∨ p.2 = ι) :
    (owes (thr d i) O (insert (sm, ι) W') : sProp 𝕄) ⊢ OwesAt d i ι O W := by
  unfold OwesAt
  iintro H
  iexists (insert (sm, ι) W')
  isplitr
  · ipureintro
    intro p hp
    rcases Finset.mem_insert.mp hp with rfl | hp
    · exact .inr rfl
    · exact hW p hp
  · iexact H

theorem bufSets_cover (h : Fin 2) (x : S31104.Idx) (hx : h.val * 15552 ≤ (x 0).val) (hx' : (x 0).val < h.val * 15552 + 15552) :
    x ∈ (∅ ∪ ((∅ ∪ bufSet h 0) ∪ ((∅ ∪ bufSet h 1) ∪ (∅ ∪ bufSet h 2))) : Finset S31104.Idx) := by
  have e0 := mem_bufSl (h.val * 15552 + (0 : Fin 3).val * 5184) (buf_inb h 0) x
  have e1 := mem_bufSl (h.val * 15552 + (1 : Fin 3).val * 5184) (buf_inb h 1) x
  have e2 := mem_bufSl (h.val * 15552 + (2 : Fin 3).val * 5184) (buf_inb h 2) x
  simp only [Finset.empty_union, Finset.mem_union]
  rw [e0, e1, e2]
  simp only [Fin.val_zero, Fin.val_one, Fin.val_two]
  omega

theorem bufHas_piecewise {X : S16x3x129600.Idx → BitVec 32} {g : ℕ} (h : Fin 2) {f T : S31104.Idx → BitVec 32} (hT : BufHas X g h.val T)
    (W : Finset S31104.Idx) (hW : ∀ x : S31104.Idx, h.val * 15552 ≤ (x 0).val → (x 0).val < h.val * 15552 + 15552 → x ∈ W) :
    BufHas X g h.val (W.piecewise T f) := fun x ch j hch hj hx => by
  rw [Finset.piecewise_eq_of_mem _ _ _ (hW x (by omega) (by omega))]
  exact hT x ch j hch hj hx

theorem buf_join (f T : S31104.Idx → BitVec 32) (h : Fin 2) :
    iprop((bufLoc d i ⇝[Finset.univ]{fourth fullShare 0} f ⇒ (fun x => some (T x)) @ ∅)
        ∗ (bufLoc d i ⇝[Finset.univ]{fourth fullShare 1} f ⇒ (fun x => some (T x)) @ (∅ ∪ bufSet h 0))
        ∗ (bufLoc d i ⇝[Finset.univ]{fourth fullShare 2} f ⇒ (fun x => some (T x)) @ (∅ ∪ bufSet h 1))
        ∗ (bufLoc d i ⇝[Finset.univ]{fourth fullShare 3} f ⇒ (fun x => some (T x)) @ (∅ ∪ bufSet h 2)) : sProp 𝕄)
      ⊢ bufLoc d i ⇝[Finset.univ]{fullShare} f ⇒ (fun x => some (T x)) @ (∅ ∪ ((∅ ∪ bufSet h 0) ∪ ((∅ ∪ bufSet h 1) ∪ (∅ ∪ bufSet h 2)))) := by
  have e := (willBeTo_fourths (Ix := Ix) (Name := Name) (Lvl := Lvl) (ℓ := bufLoc d i) (S := Finset.univ) (f := f) (g := fun x => some (T x)) emb fullShare
    (fun j => (j.cases ∅ (fun j => ∅ ∪ bufSet h j) : Finset S31104.Idx))).2
  exact e

/-- The three fetches waited for: half `h` holds its group, and the buffer is plain again. -/
theorem wp_fetched [Infinite Name] [EC.LandsIn (upEmb : UEmb _ (MT nD τ sig Ix (Elt F) Name U Lvl))]
    {X : S16x3x129600.Idx → BitVec 32} (ι : Ix) {O : CellTallies nD τ sig Ix} {W : Waits sig Ix} (gi : Fin 13) (h : Fin 2) {f T : S31104.Idx → BitVec 32} (qv : PosShare TreeShare)
    (hT : BufHas X (grp (wid i) gi.val) h.val T) {k : PUnit → Prog (TileEff F i) α} :
    iprop(wmInv emb ιwm ∗ MayWaits (thr d i) ι O ∗ Batch EC (thr d i) (.dma cc0_scratch2.sem) ι NI (Din emb d i X qv f T h) 3 0
        ∗ (bufLoc d i ⇝[Finset.univ]{fourth fullShare 0} f ⇒ (fun x => some (T x)) @ ∅) ∗ (srcLoc d i ↦[Finset.univ]{fourth qv 0} X) ∗ OwesAt d i ι O W : sProp 𝕄)
      ⊢ iprop((∀ f' : S31104.Idx → BitVec 32, ⌜BufHas X (grp (wid i) gi.val) h.val f'⌝ -∗ semVal (thr d i, .dma cc0_scratch2.sem) 0
            -∗ (bufLoc d i ↦[Finset.univ]{fullShare} f') -∗ (srcLoc d i ↦[Finset.univ]{qv} X) -∗ OwesAt d i ι O W
            -∗ wp frame (wpE defs 𝒱 (thr d i) bd) Set.univ (k ⟨⟩) Q)
        -∗ wp frame (wpE defs 𝒱 (thr d i) bd) Set.univ (fetched i srcV bufV cc0_scratch2 gi h >>= k) Q) := by
  unfold fetched
  iintro ⟨#Hwm, #Hmw, HB, Hb0, Hs0, HO⟩ Hk
  ihave HO := (owesAt_open d i ι O W) $$ HO
  icases HO with ⟨%W₁, %hW₁, HO⟩
  iapply (wp_waitBatchO EC 𝒱 (thr d i) bd (srcw := srcSl srcV (inOff i gi 0) (inOff_inb i gi 0)) (dstw := bufSl bufV (h.val * 15552 + (0 : Fin 3).val * 5184) (buf_inb h 0))
    ι (N := NI) rfl (D := Din emb d i X qv f T h) (u := 0) (by have := NI_pos; omega)) $$ [HB HO]
  · isplitl [HB]; · iexact HB
    isplitl [HO]; · iexact HO
    iapply (MayWaits.elim (.dma cc0_scratch2.sem)); iexact Hmw
  iintro ⟨HB, HO⟩
  ihave HO := (owesAt_insert d i ι O W W₁ (.dma cc0_scratch2.sem) hW₁) $$ HO
  ihave HO := (owesAt_open d i ι O W) $$ HO
  icases HO with ⟨%W₂, %hW₂, HO⟩
  iapply (wp_waitBatchO EC 𝒱 (thr d i) bd (srcw := srcSl srcV (inOff i gi 1) (inOff_inb i gi 1)) (dstw := bufSl bufV (h.val * 15552 + (1 : Fin 3).val * 5184) (buf_inb h 1))
    ι (N := NI) rfl (D := Din emb d i X qv f T h) (u := 0 + NI) (by have := NI_pos; omega)) $$ [HB HO]
  · isplitl [HB]; · iexact HB
    isplitl [HO]; · iexact HO
    iapply (MayWaits.elim (.dma cc0_scratch2.sem)); iexact Hmw
  iintro ⟨HB, HO⟩
  ihave HO := (owesAt_insert d i ι O W W₂ (.dma cc0_scratch2.sem) hW₂) $$ HO
  ihave HO := (owesAt_open d i ι O W) $$ HO
  icases HO with ⟨%W₃, %hW₃, HO⟩
  iapply (wp_waitBatchLastO EC 𝒱 (thr d i) bd (srcw := srcSl srcV (inOff i gi 2) (inOff_inb i gi 2)) (dstw := bufSl bufV (h.val * 15552 + (2 : Fin 3).val * 5184) (buf_inb h 2))
    ι (N := NI) rfl NI_pos (D := Din emb d i X qv f T h) (u := 0 + NI + NI) (by omega)) $$ [HB HO]
  · isplitl [HB]; · iexact HB
    isplitl [HO]; · iexact HO
    iapply (MayWaits.elim (.dma cc0_scratch2.sem)); iexact Hmw
  iintro ⟨HD, Hsem, HO⟩
  ihave HO := (owesAt_insert d i ι O W W₃ (.dma cc0_scratch2.sem) hW₃) $$ HO
  ihave HD := (show bigSep Finset.univ (Din emb d i X qv f T h : Fin 3 → sProp 𝕄) ⊢ iprop(Din emb d i X qv f T h 0 ∗ Din emb d i X qv f T h 1 ∗ Din emb d i X qv f T h 2)
    from Entails.of_eq (Idealize.SL.BI.bigSep_univ_eq_bigSepL [(0 : Fin 3), (1 : Fin 3), (2 : Fin 3)] (by decide) (by decide) _)) $$ HD
  unfold Din
  icases HD with ⟨⟨Hb1, Hs1⟩, ⟨Hb2, Hs2⟩, ⟨Hb3, Hs3⟩⟩
  ihave Hs := (pointsTo_fourths (ℓ := srcLoc d i) (S := Finset.univ) (f := X) qv).2 $$ [Hs0 Hs1 Hs2 Hs3]
  · isplitl [Hs0]; · iexact Hs0
    isplitl [Hs1]; · iexact Hs1
    isplitl [Hs2]; · iexact Hs2
    iexact Hs3
  ihave Hb := (buf_join emb d i f T h) $$ [Hb0 Hb1 Hb2 Hb3]
  · isplitl [Hb0]; · iexact Hb0
    isplitl [Hb1]; · iexact Hb1
    isplitl [Hb2]; · iexact Hb2
    iexact Hb3
  imod (willBeTo_castOut_some (emb := emb) (E := Set.univ)) $$ [Hb] with Hb
  · isplitr; · iexact Hwm
    iexact Hb
  iapply Hk $$ %_ [] Hsem Hb Hs HO
  ipureintro
  exact bufHas_piecewise h hT _ (bufSets_cover h)

/-! ## Sending -/

/-- The words frame `f` of stage `gi`'s group has in the result. -/
abbrev outSet (gi : Fin 13) (f : Fin 4) : Finset S16x100x2048.Idx :=
  (outSl outV (k0_off5 i (BitVec.ofNat 32 (32 * gi.val)) (BitVec.ofNat 32 f.val)) (k0_off5_inb i gi f)).view.set

/-- What the sending of frame `f`'s row delivers. -/
def Dout (X : S16x3x129600.Idx → BitVec 32) (qo : PosShare TreeShare) (fo : S16x100x2048.Idx → Elt F .f32) (fh : S16384.Idx → Elt F .f32)
    (gi : Fin 13) (Wo : Finset S16x100x2048.Idx) (f : Fin 4) : sProp 𝕄 :=
  iprop((outLoc d i ⇝[Finset.univ]{fourth qo f} fo ⇒ (fun x => some (outVal X x)) @ (Wo ∪ outSet i gi f))
    ∗ (histLoc d i ↦[Finset.univ]{fourth fullShare f} fh))

instance (X : S16x3x129600.Idx → BitVec 32) (qo : PosShare TreeShare) (fo : S16x100x2048.Idx → Elt F .f32) (fh : S16384.Idx → Elt F .f32)
    (gi : Fin 13) (Wo : Finset S16x100x2048.Idx) (f : Fin 4) : Storable (upEmb : UEmb _ 𝕄) (Dout emb d i X qo fo fh gi Wo f) := by
  unfold Dout; infer_instance

/-- The rows of group `g` in the result. -/
def rowsOf (g : ℕ) : Finset S16x100x2048.Idx := Finset.univ.filter fun x => (100 * (x 0).val + (x 1).val) / 4 = g

theorem outSets_union (gi : Fin 13) (Wo : Finset S16x100x2048.Idx) :
    ((Wo ∪ outSet i gi 0) ∪ ((Wo ∪ outSet i gi 1) ∪ ((Wo ∪ outSet i gi 2) ∪ (Wo ∪ outSet i gi 3)))) = Wo ∪ rowsOf (grp (wid i) gi.val) := by
  ext x
  have hg := grp_lt (wid i) gi.val
  have h1 : (x 1).val < 100 := (x 1).isLt
  have key : ∀ f : Fin 4, x ∈ outSet i gi f ↔ (x 0).val = grp (wid i) gi.val / 25 ∧ (x 1).val = grp (wid i) gi.val % 25 * 4 + f.val := fun f => by
    have e := outOff_eq i gi f
    refine (mem_outSl _ (by rw [e]; rfl) (k0_off5_inb i gi f) x).trans ?_
    rw [e]; rfl
  have k0 := key 0; have k1 := key 1; have k2 := key 2; have k3 := key 3
  simp only [Finset.mem_union]
  rw [k0, k1, k2, k3]
  simp only [rowsOf, Finset.mem_filter, Finset.mem_univ, true_and, Fin.val_zero, Fin.val_one, Fin.val_two, show ((3 : Fin 4).val = 3) from rfl]
  by_cases hx : x ∈ Wo
  · simp [hx]
  · simp only [hx, false_or]; omega

/-- A frame's histograms are what its row of the result is to hold. -/
theorem out_admitted {X : S16x3x129600.Idx → BitVec 32} {fh : S16384.Idx → Elt F .f32} (gi : Fin 13) (h : Fin 2) (f : Fin 4)
    (hh : HistAt X (grp (wid i) gi.val) h.val 324 fh) :
    (outSl outV (k0_off5 i (BitVec.ofNat 32 (32 * gi.val)) (BitVec.ofNat 32 f.val)) (k0_off5_inb i gi f)).view.Admitted (Elt F)
      (fun x : S16x100x2048.Idx => some (outVal X x))
      ((histSl histV (h.val * 8192 + f.val * 2048) (hist_inb h f)).view.read (Elt F) fh) Finset.univ := by
  intro j _ u hu
  have hj : (j 0).val < 2048 := (j 0).isLt
  have hf : f.val < 4 := f.isLt
  have e1 : outVal X ((outSl outV (k0_off5 i (BitVec.ofNat 32 (32 * gi.val)) (BitVec.ofNat 32 f.val)) (k0_off5_inb i gi f)).view.emb j) = u := Option.some.inj hu
  rw [← e1]
  have ho := outSl_emb _ (k0_off5_inb i gi f) j
  have e := outOff_eq i gi f
  have ho0 := ho.1.trans (congrFun e 0)
  have ho1 := ho.2.1.trans (congrFun e 1)
  have ho2 := ho.2.2.trans (congrArg (· + (j 0).val) (congrFun e 2))
  change _ = grp (wid i) gi.val / 25 at ho0
  change _ = grp (wid i) gi.val % 25 * 4 + f.val at ho1
  change _ = 0 + (j 0).val at ho2
  refine (hh _ (f.val * 4 + (j 0).val / 512) ((j 0).val % 512) (by omega) (Nat.mod_lt _ (by norm_num))
    ((histSl_emb _ (hist_inb h f) j).trans (by omega))).trans ?_
  unfold outVal
  rw [ho0, ho1, ho2]
  have a1 : (f.val * 4 + (j 0).val / 512) / 4 = f.val := by omega
  have a2 : (f.val * 4 + (j 0).val / 512) % 4 = (0 + (j 0).val) / 512 := by omega
  have a3 : (j 0).val % 512 = (0 + (j 0).val) % 512 := by omega
  rw [a1, a2, a3]

/-- The four rows of stage `gi` sent, and waited for. -/
theorem wp_send [Infinite Name] [EC.LandsIn (upEmb : UEmb _ (MT nD τ sig Ix (Elt F) Name U Lvl))]
    {X : S16x3x129600.Idx → BitVec 32} (ι : Ix) {O : CellTallies nD τ sig Ix} {W : Waits sig Ix} (gi : Fin 13) (h : Fin 2) {fh : S16384.Idx → Elt F .f32}
    (qo : PosShare TreeShare) (fo : S16x100x2048.Idx → Elt F .f32) (Wo : Finset S16x100x2048.Idx)
    (hh : HistAt X (grp (wid i) gi.val) h.val 324 fh) {k : PUnit → Prog (TileEff F i) α} :
    iprop(wmInv emb ιwm ∗ MayWaits (thr d i) ι O ∗ semVal (thr d i, .dma cc0_scratch3.sem) 0
        ∗ (histLoc d i ↦[Finset.univ]{fullShare} fh) ∗ (outLoc d i ⇝[Finset.univ]{qo} fo ⇒ (fun x => some (outVal X x)) @ Wo) ∗ OwesAt d i ι O W : sProp 𝕄)
      ⊢ iprop((semVal (thr d i, .dma cc0_scratch3.sem) 0 -∗ (histLoc d i ↦[Finset.univ]{fullShare} fh)
            -∗ (outLoc d i ⇝[Finset.univ]{qo} fo ⇒ (fun x => some (outVal X x)) @ (Wo ∪ rowsOf (grp (wid i) gi.val))) -∗ OwesAt d i ι O W
            -∗ wp frame (wpE defs 𝒱 (thr d i) bd) Set.univ (k ⟨⟩) Q)
        -∗ wp frame (wpE defs 𝒱 (thr d i) bd) Set.univ (send i outV histV cc0_scratch3 gi h >>= k) Q) := by
  unfold send
  iintro ⟨#Hwm, #Hmw, Hsem, Hh, Ho, HO⟩ Hk
  imod (batch_alloc' EC (thr d i) ι NO (Dout emb d i X qo fo fh gi Wo)) $$ Hsem with HB
  ihave Hh := (pointsTo_fourths (ℓ := histLoc d i) (S := Finset.univ) (f := fh) fullShare).1 $$ Hh
  icases Hh with ⟨Hh0, Hh1, Hh2, Hh3⟩
  ihave Ho := (Entails.trans (Entails.of_eq (by rw [Finset.union_self, Finset.union_self, Finset.union_self])) (willBeTo_fourths (ℓ := outLoc d i) emb qo (fun _ => Wo)).1) $$ Ho
  icases Ho with ⟨Ho0, Ho1, Ho2, Ho3⟩
  iapply (wp_batchIssue emb 𝒱 EC (thr d i) bd (src := histSl histV (h.val * 8192 + (0 : Fin 4).val * 2048) (hist_inb h 0))
    (dst := outSl outV (k0_off5 i (BitVec.ofNat 32 (32 * gi.val)) (BitVec.ofNat 32 (0 : Fin 4).val)) (k0_off5_inb i gi 0))
    (j := 0) (u := 0) (q := fourth fullShare 0) (qd := fourth qo 0) (fd := fo) (g := fun x : S16x100x2048.Idx => some (outVal X x)) (W := Wo) (fs := fh) (D := Dout emb d i X qo fo fh gi Wo)
    ι NO rfl (by decide) (Nat.zero_le _) (out_admitted i gi h 0 hh) .rfl) $$ [Hh0 Ho0 HB]
  · isplitl [Hh0]; · iexact Hh0
    isplitr; · iexact Hwm
    isplitl [Ho0]; · iexact Ho0
    iexact HB
  iintro HB
  iapply (wp_batchIssue emb 𝒱 EC (thr d i) bd (src := histSl histV (h.val * 8192 + (1 : Fin 4).val * 2048) (hist_inb h 1))
    (dst := outSl outV (k0_off5 i (BitVec.ofNat 32 (32 * gi.val)) (BitVec.ofNat 32 (1 : Fin 4).val)) (k0_off5_inb i gi 1))
    (j := 1) (u := 0) (q := fourth fullShare 1) (qd := fourth qo 1) (fd := fo) (g := fun x : S16x100x2048.Idx => some (outVal X x)) (W := Wo) (fs := fh) (D := Dout emb d i X qo fo fh gi Wo)
    ι NO rfl (by decide) (Nat.zero_le _) (out_admitted i gi h 1 hh) .rfl) $$ [Hh1 Ho1 HB]
  · isplitl [Hh1]; · iexact Hh1
    isplitr; · iexact Hwm
    isplitl [Ho1]; · iexact Ho1
    iexact HB
  iintro HB
  iapply (wp_batchIssue emb 𝒱 EC (thr d i) bd (src := histSl histV (h.val * 8192 + (2 : Fin 4).val * 2048) (hist_inb h 2))
    (dst := outSl outV (k0_off5 i (BitVec.ofNat 32 (32 * gi.val)) (BitVec.ofNat 32 (2 : Fin 4).val)) (k0_off5_inb i gi 2))
    (j := 2) (u := 0) (q := fourth fullShare 2) (qd := fourth qo 2) (fd := fo) (g := fun x : S16x100x2048.Idx => some (outVal X x)) (W := Wo) (fs := fh) (D := Dout emb d i X qo fo fh gi Wo)
    ι NO rfl (by decide) (Nat.zero_le _) (out_admitted i gi h 2 hh) .rfl) $$ [Hh2 Ho2 HB]
  · isplitl [Hh2]; · iexact Hh2
    isplitr; · iexact Hwm
    isplitl [Ho2]; · iexact Ho2
    iexact HB
  iintro HB
  iapply (wp_batchIssue emb 𝒱 EC (thr d i) bd (src := histSl histV (h.val * 8192 + (3 : Fin 4).val * 2048) (hist_inb h 3))
    (dst := outSl outV (k0_off5 i (BitVec.ofNat 32 (32 * gi.val)) (BitVec.ofNat 32 (3 : Fin 4).val)) (k0_off5_inb i gi 3))
    (j := 3) (u := 0) (q := fourth fullShare 3) (qd := fourth qo 3) (fd := fo) (g := fun x : S16x100x2048.Idx => some (outVal X x)) (W := Wo) (fs := fh) (D := Dout emb d i X qo fo fh gi Wo)
    ι NO rfl (by decide) (Nat.zero_le _) (out_admitted i gi h 3 hh) .rfl) $$ [Hh3 Ho3 HB]
  · isplitl [Hh3]; · iexact Hh3
    isplitr; · iexact Hwm
    isplitl [Ho3]; · iexact Ho3
    iexact HB
  iintro HB
  ihave HO := (owesAt_open d i ι O W) $$ HO
  icases HO with ⟨%W0, %hW0, HO⟩
  iapply (wp_waitBatchO EC 𝒱 (thr d i) bd (srcw := histSl histV (h.val * 8192 + (0 : Fin 4).val * 2048) (hist_inb h 0))
    (dstw := outSl outV (k0_off5 i (BitVec.ofNat 32 (32 * gi.val)) (BitVec.ofNat 32 (0 : Fin 4).val)) (k0_off5_inb i gi 0))
    ι (N := NO) rfl (D := Dout emb d i X qo fo fh gi Wo) (u := 0) (by have := NO_pos; omega)) $$ [HB HO]
  · isplitl [HB]; · iexact HB
    isplitl [HO]; · iexact HO
    iapply (MayWaits.elim (.dma cc0_scratch3.sem)); iexact Hmw
  iintro ⟨HB, HO⟩
  ihave HO := (owesAt_insert d i ι O W W0 (.dma cc0_scratch3.sem) hW0) $$ HO
  ihave HO := (owesAt_open d i ι O W) $$ HO
  icases HO with ⟨%W1, %hW1, HO⟩
  iapply (wp_waitBatchO EC 𝒱 (thr d i) bd (srcw := histSl histV (h.val * 8192 + (1 : Fin 4).val * 2048) (hist_inb h 1))
    (dstw := outSl outV (k0_off5 i (BitVec.ofNat 32 (32 * gi.val)) (BitVec.ofNat 32 (1 : Fin 4).val)) (k0_off5_inb i gi 1))
    ι (N := NO) rfl (D := Dout emb d i X qo fo fh gi Wo) (u := 0 + NO) (by have := NO_pos; omega)) $$ [HB HO]
  · isplitl [HB]; · iexact HB
    isplitl [HO]; · iexact HO
    iapply (MayWaits.elim (.dma cc0_scratch3.sem)); iexact Hmw
  iintro ⟨HB, HO⟩
  ihave HO := (owesAt_insert d i ι O W W1 (.dma cc0_scratch3.sem) hW1) $$ HO
  ihave HO := (owesAt_open d i ι O W) $$ HO
  icases HO with ⟨%W2, %hW2, HO⟩
  iapply (wp_waitBatchO EC 𝒱 (thr d i) bd (srcw := histSl histV (h.val * 8192 + (2 : Fin 4).val * 2048) (hist_inb h 2))
    (dstw := outSl outV (k0_off5 i (BitVec.ofNat 32 (32 * gi.val)) (BitVec.ofNat 32 (2 : Fin 4).val)) (k0_off5_inb i gi 2))
    ι (N := NO) rfl (D := Dout emb d i X qo fo fh gi Wo) (u := 0 + NO + NO) (by have := NO_pos; omega)) $$ [HB HO]
  · isplitl [HB]; · iexact HB
    isplitl [HO]; · iexact HO
    iapply (MayWaits.elim (.dma cc0_scratch3.sem)); iexact Hmw
  iintro ⟨HB, HO⟩
  ihave HO := (owesAt_insert d i ι O W W2 (.dma cc0_scratch3.sem) hW2) $$ HO
  ihave HO := (owesAt_open d i ι O W) $$ HO
  icases HO with ⟨%W3, %hW3, HO⟩
  iapply (wp_waitBatchLastO EC 𝒱 (thr d i) bd (srcw := histSl histV (h.val * 8192 + (3 : Fin 4).val * 2048) (hist_inb h 3))
    (dstw := outSl outV (k0_off5 i (BitVec.ofNat 32 (32 * gi.val)) (BitVec.ofNat 32 (3 : Fin 4).val)) (k0_off5_inb i gi 3))
    ι (N := NO) rfl NO_pos (D := Dout emb d i X qo fo fh gi Wo) (u := 0 + NO + NO + NO) (by have := NO_pos; omega)) $$ [HB HO]
  · isplitl [HB]; · iexact HB
    isplitl [HO]; · iexact HO
    iapply (MayWaits.elim (.dma cc0_scratch3.sem)); iexact Hmw
  iintro ⟨HD, Hsem, HO⟩
  ihave HO := (owesAt_insert d i ι O W W3 (.dma cc0_scratch3.sem) hW3) $$ HO
  ihave HD := (show bigSep Finset.univ (Dout emb d i X qo fo fh gi Wo : Fin 4 → sProp 𝕄)
      ⊢ iprop(Dout emb d i X qo fo fh gi Wo 0 ∗ Dout emb d i X qo fo fh gi Wo 1 ∗ Dout emb d i X qo fo fh gi Wo 2 ∗ Dout emb d i X qo fo fh gi Wo 3)
    from Entails.of_eq (Idealize.SL.BI.bigSep_univ_eq_bigSepL [(0 : Fin 4), (1 : Fin 4), (2 : Fin 4), (3 : Fin 4)] (by decide) (by decide) _)) $$ HD
  unfold Dout
  icases HD with ⟨⟨Ho0, Hh0⟩, ⟨Ho1, Hh1⟩, ⟨Ho2, Hh2⟩, ⟨Ho3, Hh3⟩⟩
  ihave Hh := (pointsTo_fourths (ℓ := histLoc d i) (S := Finset.univ) (f := fh) fullShare).2 $$ [Hh0 Hh1 Hh2 Hh3]
  · isplitl [Hh0]; · iexact Hh0
    isplitl [Hh1]; · iexact Hh1
    isplitl [Hh2]; · iexact Hh2
    iexact Hh3
  ihave Ho := (willBeTo_fourths (ℓ := outLoc d i) emb qo (fun f => Wo ∪ outSet i gi f)).2 $$ [Ho0 Ho1 Ho2 Ho3]
  · isplitl [Ho0]; · iexact Ho0
    isplitl [Ho1]; · iexact Ho1
    isplitl [Ho2]; · iexact Ho2
    iexact Ho3
  rw [outSets_union]
  iapply Hk $$ Hsem Hh Ho HO

end Cert.Proof

end
-- ==== Proof.Stages.lean ====
/-
  The tile task, stage by stage. Between stages the next group's fetch is in flight (`Ahead`) and the rest is held
  plainly (`Beside`); a stage (`wp_stage`) takes one such state to the next with its group's rows known written, and the
  task (`wp_tileProg`) is thirteen of them.
-/
module

public import proofs.«01_k».proof.Proof.Stage

@[expose] public section

noncomputable section

namespace Cert.Proof

open Idealize.ShloMosaic
open Idealize.ShloMosaic.Transfers
open Idealize.SL Idealize.SL.RA
open Idealize.SL.BI (sProp Storable bigSep bigSep_insert bigSep_empty bigSep_singleton bigSep_map)
open scoped Idealize.SL.BI
open Idealize.SL.BI.BIBase Idealize.SL.BI.Laws Idealize.SL.ProofMode Idealize.SL.Sem
open Cert.KernelIdeal Cert.KernelIdeal.Gen

variable {F : FTy → Type} [FloatOps F]
variable {Ix : Type} [DecidableEq Ix] {Name : Type} [DecidableEq Name] {U : Type} [URA U] {Lvl : Type} [Preorder Lvl]
variable (emb : UEmb (WmRA nD τ sig (Elt F)) U)

local notation "𝕄" => MT nD τ sig Ix (Elt F) Name U Lvl
local notation:60 ℓ " ⇝[" I "]{" q "} " f:max " ⇒ " g:max " @ " W:max => willBeTo emb ℓ I q f g W

variable {defs : Defs nD τ sig (Elt F) Λ₀} (𝒱 : Variants) {ιwm : Name} (EC : UEmb Counters (MT nD τ sig Ix (Elt F) Name U Lvl))
variable (bd : Option 𝒱.V) {α : Type} (d : Dev nD) (i : grid0.Coords)
variable {Q : α → sProp (MT nD τ sig Ix (Elt F) Name U Lvl)}

/-- The fetched frames once group `g` has landed in half `h` over `f`. -/
def landed (X : S16x3x129600.Idx → BitVec 32) (g : ℕ) (h : Fin 2) (f : S31104.Idx → BitVec 32) : S31104.Idx → BitVec 32 := fun x =>
  if h.val * 15552 ≤ (x 0).val ∧ (x 0).val < h.val * 15552 + 15552 then
    xAt X (g / 25) (((x 0).val - h.val * 15552) / 5184) (g % 25 * 5184 + ((x 0).val - h.val * 15552) % 5184)
  else f x

theorem landed_has (X : S16x3x129600.Idx → BitVec 32) (g : ℕ) (h : Fin 2) (f : S31104.Idx → BitVec 32) : BufHas X g h.val (landed X g h f) := by
  intro x ch j hch hj hx
  unfold landed
  rw [if_pos ⟨by omega, by omega⟩]
  have e1 : ((x 0).val - h.val * 15552) / 5184 = ch := by omega
  have e2 : ((x 0).val - h.val * 15552) % 5184 = j := by omega
  rw [e1, e2]

theorem landed_other {X : S16x3x129600.Idx → BitVec 32} {g g' : ℕ} {h h' : Fin 2} (hne : h.val ≠ h'.val) {f : S31104.Idx → BitVec 32}
    (hf : BufHas X g h.val f) : BufHas X g h.val (landed X g' h' f) := by
  intro x ch j hch hj hx
  unfold landed
  have := h.isLt; have := h'.isLt
  rw [if_neg (by omega)]
  exact hf x ch j hch hj hx

/-- The fetched frames taken into write mode towards `T`, in quarters. -/
theorem buf_cast (f T : S31104.Idx → BitVec 32) :
    iprop(wmInv emb ιwm ∗ (bufLoc d i ↦[Finset.univ]{fullShare} f) : sProp 𝕄)
      ⊢ |={Set.univ}=> iprop((bufLoc d i ⇝[Finset.univ]{fourth fullShare 0} f ⇒ (fun x => some (T x)) @ ∅)
        ∗ (bufLoc d i ⇝[Finset.univ]{fourth fullShare 1} f ⇒ (fun x => some (T x)) @ ∅)
        ∗ (bufLoc d i ⇝[Finset.univ]{fourth fullShare 2} f ⇒ (fun x => some (T x)) @ ∅)
        ∗ (bufLoc d i ⇝[Finset.univ]{fourth fullShare 3} f ⇒ (fun x => some (T x)) @ ∅)) := by
  have e := (willBeTo_fourths (Ix := Ix) (Name := Name) (Lvl := Lvl) (ℓ := bufLoc d i) (S := Finset.univ) (f := f) (g := fun x => some (T x)) emb fullShare
    (fun _ => ∅)).1
  simp only [Finset.empty_union] at e
  iintro ⟨#Hwm, Hb⟩
  imod (pointsTo_castIn (emb := emb) (ℓ := bufLoc d i) (E := Set.univ) (fun x => some (T x))) $$ [Hb] with Hb
  · isplitr; · iexact Hwm
    iexact Hb
  imodintro
  iapply e
  iexact Hb

/-- The fetch of stage `gi` into half `h` in flight; the frames are readable meanwhile. -/
def Ahead (X : S16x3x129600.Idx → BitVec 32) (ι : Ix) (qv : PosShare TreeShare) (gi : Fin 13) (h : Fin 2) : sProp 𝕄 :=
  iprop(∃ f T : S31104.Idx → BitVec 32, ⌜BufHas X (grp (wid i) gi.val) h.val T⌝
    ∗ Batch EC (thr d i) (.dma cc0_scratch2.sem) ι NI (Din emb d i X qv f T h) 3 0
    ∗ (bufLoc d i ⇝[Finset.univ]{fourth fullShare 0} f ⇒ (fun x => some (T x)) @ ∅) ∗ (srcLoc d i ↦[Finset.univ]{fourth qv 0} X))

/-- The rest of what the task holds between stages: the rows of `Wo` are known written. -/
def Beside (X : S16x3x129600.Idx → BitVec 32) (ι : Ix) (O : CellTallies nD τ sig Ix) (W : Waits sig Ix) (qo : PosShare TreeShare)
    (fo : S16x100x2048.Idx → Elt F .f32) (Wo : Finset S16x100x2048.Idx) : sProp 𝕄 :=
  iprop((∃ fh : S16384.Idx → Elt F .f32, histLoc d i ↦[Finset.univ]{fullShare} fh)
    ∗ (outLoc d i ⇝[Finset.univ]{qo} fo ⇒ (fun x => some (outVal X x)) @ Wo)
    ∗ semVal (thr d i, .dma cc0_scratch3.sem) 0 ∗ OwesAt d i ι O W)

variable {X : S16x3x129600.Idx → BitVec 32} (hX : InRange X) (ι : Ix) {O : CellTallies nD τ sig Ix} {W : Waits sig Ix}
variable (qv qo : PosShare TreeShare) {fo : S16x100x2048.Idx → Elt F .f32}

include hX in
/-- A stage: its group is counted and its rows written, the next group's fetch left in flight. -/
theorem wp_stage [Infinite Name] [EC.LandsIn (upEmb : UEmb _ (MT nD τ sig Ix (Elt F) Name U Lvl))]
    (Wo : Finset S16x100x2048.Idx) (gi gi' : Fin 13) (h h' : Fin 2) (hne : h.val ≠ h'.val) {k : PUnit → Prog (TileEff F i) α} :
    iprop(wmInv emb ιwm ∗ MayWaits (thr d i) ι O ∗ Ahead emb EC d i X ι qv gi h ∗ Beside emb d i X ι O W qo fo Wo : sProp 𝕄)
      ⊢ iprop((Ahead emb EC d i X ι qv gi' h' -∗ Beside emb d i X ι O W qo fo (Wo ∪ rowsOf (grp (wid i) gi.val))
            -∗ wp frame (wpE defs 𝒱 (thr d i) bd) Set.univ (k ⟨⟩) Q)
        -∗ wp frame (wpE defs 𝒱 (thr d i) bd) Set.univ
          (stage i srcV outV bufV histV cc0_scratch2 cc0_scratch3 gi gi' h h' >>= k) Q) := by
  unfold Ahead Beside
  iintro ⟨#Hwm, #Hmw, ⟨%f, %T, %hT, HB, Hb0, Hs0⟩, ⟨%fh, Hh⟩, Ho, Hso, HO⟩ Hk
  simp only [stage, bind_assoc]
  iapply (wp_clear 𝒱 bd d i h fh) $$ Hh
  iintro %fh1 %hz Hh
  iapply (wp_fetched emb 𝒱 EC bd d i ι gi h qv hT) $$ [HB Hb0 Hs0 HO]
  · isplitr; · iexact Hwm
    isplitr; · iexact Hmw
    isplitl [HB]; · iexact HB
    isplitl [Hb0]; · iexact Hb0
    isplitl [Hs0]; · iexact Hs0
    iexact HO
  iintro %f1 %hf1 Hsi Hb Hs HO
  imod (buf_cast emb d i f1 (landed X (grp (wid i) gi'.val) h' f1)) $$ [Hb] with ⟨Hb0, Hb1, Hb2, Hb3⟩
  · isplitr; · iexact Hwm
    iexact Hb
  ihave Hs := (pointsTo_fourths (ℓ := srcLoc d i) (S := Finset.univ) (f := X) qv).1 $$ Hs
  icases Hs with ⟨Hs0, Hs1, Hs2, Hs3⟩
  iapply (wp_fetch emb 𝒱 EC bd d i ι gi' h' (f := f1) qv (landed_has X (grp (wid i) gi'.val) h' f1)) $$ [Hsi Hb1 Hb2 Hb3 Hs1 Hs2 Hs3]
  · isplitr; · iexact Hwm
    isplitl [Hsi]; · iexact Hsi
    isplitl [Hb1 Hb2 Hb3]
    · isplitl [Hb1]; · iexact Hb1
      isplitl [Hb2]; · iexact Hb2
      iexact Hb3
    isplitl [Hs1]; · iexact Hs1
    isplitl [Hs2]; · iexact Hs2
    iexact Hs3
  iintro HB
  iapply (wp_count emb 𝒱 bd d i hX h hf1 (landed_other hne hf1) hz) $$ [Hb0 Hh]
  · isplitr; · iexact Hwm
    isplitl [Hb0]; · iexact Hb0
    iexact Hh
  iintro %fh2 %hh Hb0 Hh
  iapply (wp_send emb 𝒱 EC bd d i ι gi h qo fo Wo hh) $$ [Hso Hh Ho HO]
  · isplitr; · iexact Hwm
    isplitr; · iexact Hmw
    isplitl [Hso]; · iexact Hso
    isplitl [Hh]; · iexact Hh
    isplitl [Ho]; · iexact Ho
    iexact HO
  iintro Hso Hh Ho HO
  iapply Hk $$ [HB Hb0 Hs0] [Hso Hh Ho HO]
  · iexists f1
    iexists (landed X (grp (wid i) gi'.val) h' f1)
    isplitr; · ipureintro; exact landed_has X (grp (wid i) gi'.val) h' f1
    isplitl [HB]; · iexact HB
    isplitl [Hb0]; · iexact Hb0
    iexact Hs0
  · isplitl [Hh]; · iexists fh2; iexact Hh
    isplitl [Ho]; · iexact Ho
    isplitl [Hso]; · iexact Hso
    iexact HO

/-- What the task holds when it returns. -/
def Done (X : S16x3x129600.Idx → BitVec 32) (ι : Ix) (O : CellTallies nD τ sig Ix) (W : Waits sig Ix) (qv qo : PosShare TreeShare)
    (fo : S16x100x2048.Idx → Elt F .f32) (Wo : Finset S16x100x2048.Idx) : sProp 𝕄 :=
  iprop(Beside emb d i X ι O W qo fo Wo ∗ semVal (thr d i, .dma cc0_scratch2.sem) 0
    ∗ (∃ f : S31104.Idx → BitVec 32, bufLoc d i ↦[Finset.univ]{fullShare} f) ∗ (srcLoc d i ↦[Finset.univ]{qv} X))

include hX in
/-- The last stage: nothing more is fetched. -/
theorem wp_lastStage [Infinite Name] [EC.LandsIn (upEmb : UEmb _ (MT nD τ sig Ix (Elt F) Name U Lvl))]
    (Wo : Finset S16x100x2048.Idx) (gi : Fin 13) (h : Fin 2) {k : PUnit → Prog (TileEff F i) α} :
    iprop(wmInv emb ιwm ∗ MayWaits (thr d i) ι O ∗ Ahead emb EC d i X ι qv gi h ∗ Beside emb d i X ι O W qo fo Wo : sProp 𝕄)
      ⊢ iprop((Done emb d i X ι O W qv qo fo (Wo ∪ rowsOf (grp (wid i) gi.val))
            -∗ wp frame (wpE defs 𝒱 (thr d i) bd) Set.univ (k ⟨⟩) Q)
        -∗ wp frame (wpE defs 𝒱 (thr d i) bd) Set.univ
          (lastStage i srcV outV bufV histV cc0_scratch2 cc0_scratch3 gi h >>= k) Q) := by
  unfold Done Ahead Beside
  iintro ⟨#Hwm, #Hmw, ⟨%f, %T, %hT, HB, Hb0, Hs0⟩, ⟨%fh, Hh⟩, Ho, Hso, HO⟩ Hk
  simp only [lastStage, bind_assoc]
  iapply (wp_clear 𝒱 bd d i h fh) $$ Hh
  iintro %fh1 %hz Hh
  iapply (wp_fetched emb 𝒱 EC bd d i ι gi h qv hT) $$ [HB Hb0 Hs0 HO]
  · isplitr; · iexact Hwm
    isplitr; · iexact Hmw
    isplitl [HB]; · iexact HB
    isplitl [Hb0]; · iexact Hb0
    isplitl [Hs0]; · iexact Hs0
    iexact HO
  iintro %f1 %hf1 Hsi Hb Hs HO
  imod (pointsTo_castIn (emb := emb) (ℓ := bufLoc d i) (fun x => some (f1 x))) $$ [Hb] with Hb
  · isplitr; · iexact Hwm
    iexact Hb
  iapply (wp_count emb 𝒱 bd d i hX h hf1 hf1 hz) $$ [Hb Hh]
  · isplitr; · iexact Hwm
    isplitl [Hb]; · iexact Hb
    iexact Hh
  iintro %fh2 %hh Hb Hh
  imod (willBeTo_castOut_some (emb := emb) (E := Set.univ)) $$ [Hb] with Hb
  · isplitr; · iexact Hwm
    iexact Hb
  iapply (wp_send emb 𝒱 EC bd d i ι gi h qo fo Wo hh) $$ [Hso Hh Ho HO]
  · isplitr; · iexact Hwm
    isplitr; · iexact Hmw
    isplitl [Hso]; · iexact Hso
    isplitl [Hh]; · iexact Hh
    isplitl [Ho]; · iexact Ho
    iexact HO
  iintro Hso Hh Ho HO
  iapply Hk
  isplitl [Hso Hh Ho HO]
  · isplitl [Hh]; · iexists fh2; iexact Hh
    isplitl [Ho]; · iexact Ho
    isplitl [Hso]; · iexact Hso
    iexact HO
  isplitl [Hsi]; · iexact Hsi
  isplitl [Hb]; · iexists _; iexact Hb
  iexact Hs

/-- The rows the first `n` stages of a tile write. -/
def rowsTo (w n : ℕ) : Finset S16x100x2048.Idx := Finset.univ.filter fun x => ∃ gi < n, grp w gi = (100 * (x 0).val + (x 1).val) / 4

theorem rowsTo_zero (w : ℕ) : rowsTo w 0 = ∅ := by
  ext x; simp [rowsTo]

theorem rowsTo_succ (w n : ℕ) : rowsTo w n ∪ rowsOf (grp w n) = rowsTo w (n + 1) := by
  ext x
  simp only [rowsTo, rowsOf, Finset.mem_union, Finset.mem_filter, Finset.mem_univ, true_and]
  constructor
  · rintro (⟨g, hg, e⟩ | e)
    · exact ⟨g, by omega, e⟩
    · exact ⟨n, by omega, e.symm⟩
  · rintro ⟨g, hg, e⟩
    rcases Nat.lt_succ_iff_lt_or_eq.mp hg with h | rfl
    · exact .inl ⟨g, h, e⟩
    · exact .inr e.symm

include hX in
/-- Stage `n` of the twelve, over the rows written so far. -/
theorem wp_stageN [Infinite Name] [EC.LandsIn (upEmb : UEmb _ (MT nD τ sig Ix (Elt F) Name U Lvl))]
    (n : ℕ) (hn : n + 1 < 13) (h h' : Fin 2) (hne : h.val ≠ h'.val) {k : PUnit → Prog (TileEff F i) α} :
    iprop(wmInv emb ιwm ∗ MayWaits (thr d i) ι O ∗ Ahead emb EC d i X ι qv ⟨n, by omega⟩ h ∗ Beside emb d i X ι O W qo fo (rowsTo (wid i) n) : sProp 𝕄)
      ⊢ iprop((Ahead emb EC d i X ι qv ⟨n + 1, hn⟩ h' -∗ Beside emb d i X ι O W qo fo (rowsTo (wid i) (n + 1))
            -∗ wp frame (wpE defs 𝒱 (thr d i) bd) Set.univ (k ⟨⟩) Q)
        -∗ wp frame (wpE defs 𝒱 (thr d i) bd) Set.univ
          (stage i srcV outV bufV histV cc0_scratch2 cc0_scratch3 ⟨n, by omega⟩ ⟨n + 1, hn⟩ h h' >>= k) Q) := by
  have e := wp_stage (Q := Q) emb (defs := defs) 𝒱 (ιwm := ιwm) EC bd d i hX ι (O := O) (W := W) qv qo (fo := fo) (rowsTo (wid i) n) ⟨n, by omega⟩ ⟨n + 1, hn⟩ h h' hne (k := k)
  rw [rowsTo_succ] at e
  exact e

include hX in
/-- The tile task: from everything plain to everything plain, its thirteen groups' rows written. -/
theorem wp_tileProg [Infinite Name] [EC.LandsIn (upEmb : UEmb _ (MT nD τ sig Ix (Elt F) Name U Lvl))] :
    iprop(wmInv emb ιwm ∗ MayWaits (thr d i) ι O ∗ Done emb d i X ι O W qv qo fo ∅ : sProp 𝕄)
      ⊢ wp frame (wpE defs 𝒱 (thr d i) bd) Set.univ (tileProg (F := F) i srcV outV bufV histV cc0_scratch2 cc0_scratch3)
          fun _ => Done emb d i X ι O W qv qo fo (rowsTo (wid i) 13) := by
  iintro ⟨#Hwm, #Hmw, HD⟩
  ihave HD := (show Done emb d i X ι O W qv qo fo ∅ ⊢ (iprop(Beside emb d i X ι O W qo fo (rowsTo (wid i) 0) ∗ semVal (thr d i, .dma cc0_scratch2.sem) 0
    ∗ (∃ f : S31104.Idx → BitVec 32, bufLoc d i ↦[Finset.univ]{fullShare} f) ∗ (srcLoc d i ↦[Finset.univ]{qv} X)) : sProp 𝕄) by
      rw [rowsTo_zero]; exact .rfl) $$ HD
  icases HD with ⟨Hr, Hsi, ⟨%f1, Hb⟩, Hs⟩
  unfold tileProg
  imod (buf_cast emb d i f1 (landed X (grp (wid i) 0) 0 f1)) $$ [Hb] with ⟨Hb0, Hb1, Hb2, Hb3⟩
  · isplitr; · iexact Hwm
    iexact Hb
  ihave Hs := (pointsTo_fourths (ℓ := srcLoc d i) (S := Finset.univ) (f := X) qv).1 $$ Hs
  icases Hs with ⟨Hs0, Hs1, Hs2, Hs3⟩
  iapply (wp_fetch emb 𝒱 EC bd d i ι 0 0 (f := f1) qv (landed_has X (grp (wid i) 0) 0 f1)) $$ [Hsi Hb1 Hb2 Hb3 Hs1 Hs2 Hs3]
  · isplitr; · iexact Hwm
    isplitl [Hsi]; · iexact Hsi
    isplitl [Hb1 Hb2 Hb3]
    · isplitl [Hb1]; · iexact Hb1
      isplitl [Hb2]; · iexact Hb2
      iexact Hb3
    isplitl [Hs1]; · iexact Hs1
    isplitl [Hs2]; · iexact Hs2
    iexact Hs3
  iintro HB
  ihave Ha := (show iprop(Batch EC (thr d i) (.dma cc0_scratch2.sem) ι NI (Din emb d i X qv f1 (landed X (grp (wid i) 0) 0 f1) 0) 3 0
      ∗ (bufLoc d i ⇝[Finset.univ]{fourth fullShare 0} f1 ⇒ (fun x => some ((landed X (grp (wid i) 0) 0 f1) x)) @ ∅) ∗ (srcLoc d i ↦[Finset.univ]{fourth qv 0} X) : sProp 𝕄)
      ⊢ Ahead emb EC d i X ι qv ⟨0, by omega⟩ 0 by
    unfold Ahead
    iintro ⟨HB, Hb0, Hs0⟩
    iexists f1
    iexists (landed X (grp (wid i) 0) 0 f1)
    isplitr; · ipureintro; exact landed_has X (grp (wid i) 0) 0 f1
    isplitl [HB]; · iexact HB
    isplitl [Hb0]; · iexact Hb0
    iexact Hs0) $$ [HB Hb0 Hs0]
  · isplitl [HB]; · iexact HB
    isplitl [Hb0]; · iexact Hb0
    iexact Hs0
  iapply (wp_stageN emb 𝒱 EC bd d i hX ι qv qo 0 (by decide) 0 1 (by decide)) $$ [Ha Hr]
  · isplitr; · iexact Hwm
    isplitr; · iexact Hmw
    isplitl [Ha]; · iexact Ha
    iexact Hr
  iintro Ha Hr
  iapply (wp_stageN emb 𝒱 EC bd d i hX ι qv qo 1 (by decide) 1 0 (by decide)) $$ [Ha Hr]
  · isplitr; · iexact Hwm
    isplitr; · iexact Hmw
    isplitl [Ha]; · iexact Ha
    iexact Hr
  iintro Ha Hr
  iapply (wp_stageN emb 𝒱 EC bd d i hX ι qv qo 2 (by decide) 0 1 (by decide)) $$ [Ha Hr]
  · isplitr; · iexact Hwm
    isplitr; · iexact Hmw
    isplitl [Ha]; · iexact Ha
    iexact Hr
  iintro Ha Hr
  iapply (wp_stageN emb 𝒱 EC bd d i hX ι qv qo 3 (by decide) 1 0 (by decide)) $$ [Ha Hr]
  · isplitr; · iexact Hwm
    isplitr; · iexact Hmw
    isplitl [Ha]; · iexact Ha
    iexact Hr
  iintro Ha Hr
  iapply (wp_stageN emb 𝒱 EC bd d i hX ι qv qo 4 (by decide) 0 1 (by decide)) $$ [Ha Hr]
  · isplitr; · iexact Hwm
    isplitr; · iexact Hmw
    isplitl [Ha]; · iexact Ha
    iexact Hr
  iintro Ha Hr
  iapply (wp_stageN emb 𝒱 EC bd d i hX ι qv qo 5 (by decide) 1 0 (by decide)) $$ [Ha Hr]
  · isplitr; · iexact Hwm
    isplitr; · iexact Hmw
    isplitl [Ha]; · iexact Ha
    iexact Hr
  iintro Ha Hr
  iapply (wp_stageN emb 𝒱 EC bd d i hX ι qv qo 6 (by decide) 0 1 (by decide)) $$ [Ha Hr]
  · isplitr; · iexact Hwm
    isplitr; · iexact Hmw
    isplitl [Ha]; · iexact Ha
    iexact Hr
  iintro Ha Hr
  iapply (wp_stageN emb 𝒱 EC bd d i hX ι qv qo 7 (by decide) 1 0 (by decide)) $$ [Ha Hr]
  · isplitr; · iexact Hwm
    isplitr; · iexact Hmw
    isplitl [Ha]; · iexact Ha
    iexact Hr
  iintro Ha Hr
  iapply (wp_stageN emb 𝒱 EC bd d i hX ι qv qo 8 (by decide) 0 1 (by decide)) $$ [Ha Hr]
  · isplitr; · iexact Hwm
    isplitr; · iexact Hmw
    isplitl [Ha]; · iexact Ha
    iexact Hr
  iintro Ha Hr
  iapply (wp_stageN emb 𝒱 EC bd d i hX ι qv qo 9 (by decide) 1 0 (by decide)) $$ [Ha Hr]
  · isplitr; · iexact Hwm
    isplitr; · iexact Hmw
    isplitl [Ha]; · iexact Ha
    iexact Hr
  iintro Ha Hr
  iapply (wp_stageN emb 𝒱 EC bd d i hX ι qv qo 10 (by decide) 0 1 (by decide)) $$ [Ha Hr]
  · isplitr; · iexact Hwm
    isplitr; · iexact Hmw
    isplitl [Ha]; · iexact Ha
    iexact Hr
  iintro Ha Hr
  iapply (wp_stageN emb 𝒱 EC bd d i hX ι qv qo 11 (by decide) 1 0 (by decide)) $$ [Ha Hr]
  · isplitr; · iexact Hwm
    isplitr; · iexact Hmw
    isplitl [Ha]; · iexact Ha
    iexact Hr
  iintro Ha Hr
  rw [← bind_pure (lastStage i srcV outV bufV histV cc0_scratch2 cc0_scratch3 12 0)]
  iapply (wp_lastStage emb 𝒱 EC bd d i hX ι qv qo (rowsTo (wid i) 12) 12 0) $$ [Ha Hr]
  · isplitr; · iexact Hwm
    isplitr; · iexact Hmw
    isplitl [Ha]; · iexact Ha
    iexact Hr
  iintro HD
  rw [wp_pure]
  imodintro
  iapply (Entails.of_eq (show Done emb d i X ι O W qv qo fo (rowsTo (wid i) 12 ∪ rowsOf (grp (wid i) (12 : Fin 13).val)) = _ by
    rw [show (12 : Fin 13).val = 12 from rfl, rowsTo_succ]))
  iexact HD

end Cert.Proof

end
-- ==== Proof.TailBody.lean ====
/-
  The body of the second kernel at one grid point: from its three input blocks it leaves in the output's block
  `tailBlk` of them, the inputs as they were.
-/
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.FrameBody
public import Idealize.ShloMosaic.Lib.Pipeline.Regions
public import Idealize.ShloMosaic.Lib.Tactic

@[expose] public section

noncomputable section

namespace Cert.Proof

open Idealize.ShloMosaic
open Idealize.ShloMosaic.TcCoe Idealize.ShloMosaic.Tactic
open Idealize.SL Idealize.SL.RA
open Idealize.SL.BI (sProp Storable bigSep bigSep_insert bigSep_empty bigSep_singleton bigSep_map)
open scoped Idealize.SL.BI
open Idealize.SL.BI.BIBase Idealize.SL.BI.Laws Idealize.SL.ProofMode Idealize.SL.Sem
open Cert.KernelIdeal Cert.KernelIdeal.Gen
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- The block the body leaves, of the histogram's, the weights' and the bias's blocks. -/
def tailBlk (H : Vec F S1x100x2048 .f32) (P : Vec F S128x128 .f32) (B : Vec F S1x128 .f32) : FVec F S1x100x128 .f32 :=
  k1_pay4 (iota .tc S100x256 32 [0] iota_S100x256_d0_w32) (k1_pay1 H) (k1_pay2 H) (k1_pay3 H) P B

theorem unit3_idx (n : Fin 3 → ℕ) (h : ∀ a : Fin 3, ![0, 0, 0] a + n a ≤ n a) (x : (⟨3, n⟩ : Shape).Idx) :
    (Rect.unit (s := ⟨3, n⟩) ![0, 0, 0] n h).emb x = x := by
  funext a; apply Fin.ext; fin_cases a <;> simp [Rect.emb, Rect.unit]

theorem unit2_idx (n : Fin 2 → ℕ) (h : ∀ a : Fin 2, ![0, 0] a + n a ≤ n a) (x : (⟨2, n⟩ : Shape).Idx) :
    (Rect.unit (s := ⟨2, n⟩) ![0, 0] n h).emb x = x := by
  funext a; apply Fin.ext; fin_cases a <;> simp [Rect.emb, Rect.unit]

theorem tail_run (c : Dev nD) (i : grid1.Coords) (M1 : Memref sig .tc .vmem S1x100x2048 .f32) (h1 : M1.IsWhole) (M2 : Memref sig .tc .vmem S128x128 .f32) (h2 : M2.IsWhole)
    (M3 : Memref sig .tc .vmem S1x128 .f32) (h3 : M3.IsWhole) (M4 : Memref sig .tc .vmem S1x100x128 .f32) (h4 : M4.IsWhole)
    (f1 : Buf (Elt F) (M1.view.loc (c : Thread nD τ))) (f2 : Buf (Elt F) (M2.view.loc (c : Thread nD τ))) (f3 : Buf (Elt F) (M3.view.loc (c : Thread nD τ)))
    (f4 : Buf (Elt F) (M4.view.loc (c : Thread nD τ))) (E : Set Name) (Q : PUnit → sProp 𝕄) :
    iprop((M1.view.loc (c : Thread nD τ) ↦{fullShare} f1) ∗ (M2.view.loc (c : Thread nD τ) ↦{fullShare} f2) ∗ (M3.view.loc (c : Thread nD τ) ↦{fullShare} f3)
        ∗ (M4.view.loc (c : Thread nD τ) ↦{fullShare} f4)
        ∗ (∀ g4 : Buf (Elt F) (M4.view.loc (c : Thread nD τ)),
            ⌜M4.view.read (Elt F) g4 = tailBlk (M1.view.read (Elt F) f1) (M2.view.read (Elt F) f2) (M3.view.read (Elt F) f3)⌝ -∗
            (M1.view.loc (c : Thread nD τ) ↦{fullShare} f1) -∗ (M2.view.loc (c : Thread nD τ) ↦{fullShare} f2) -∗ (M3.view.loc (c : Thread nD τ) ↦{fullShare} f3) -∗
            (M4.view.loc (c : Thread nD τ) ↦{fullShare} g4) -∗ Q ⟨⟩))
      ⊢ wp frame (wpE (defs₀ (F := F)) Variants.none (c : Thread nD τ) none) E (cc1__tail_body i M1 h1 M2 h2 M3 h3 M4 h4) Q := by
  iintro ⟨H1, H2, H3, H4, Hk⟩
  rw [cc1__tail_body_eq_skeleton]
  unfold cc1__tail_body_skel
  rw [k1_part1_eq_skeleton, k1_part2_eq_skeleton]
  unfold k1_part1_skel k1_part2_skel
  sl_exec!
  sl_step
  iapply Hk $$ [] H1 H2 H3 H4
  ipureintro
  funext y
  obtain ⟨y, rfl⟩ : ∃ z, (Rect.unit (s := S1x100x128) ![0, 0, 0] S1x100x128.size inb_S1x100x128_S1x100x128_0_0_0).emb z = y := ⟨y, unit3_idx _ _ y⟩
  unfold tail_run.sl.H4_1
  rw [View.read_writes_cons_emb, unit3_idx]
  unfold tailBlk
  have e1 : M1.view.readAt (Elt F) (Rect.unit (s := S1x100x2048) ![0, 0, 0] S1x100x2048.size inb_S1x100x2048_S1x100x2048_0_0_0).toLoadRect f1 = M1.view.read (Elt F) f1 :=
    funext fun x => congrArg (M1.view.read (Elt F) f1) (unit3_idx _ _ x)
  have e2 : M2.view.readAt (Elt F) (Rect.unit (s := S128x128) ![0, 0] S128x128.size inb_S128x128_S128x128_0_0).toLoadRect f2 = M2.view.read (Elt F) f2 :=
    funext fun x => congrArg (M2.view.read (Elt F) f2) (unit2_idx _ _ x)
  have e3 : M3.view.readAt (Elt F) (Rect.unit (s := S1x128) ![0, 0] S1x128.size inb_S1x128_S1x128_0_0).toLoadRect f3 = M3.view.read (Elt F) f3 :=
    funext fun x => congrArg (M3.view.read (Elt F) f3) (unit2_idx _ _ x)
  rw [e1, e2, e3]
  rfl

/-- The body's run in terms of what the blocks read as. -/
theorem tail_triple (c : Dev nD) (i : grid1.Coords) (M1 : Memref sig .tc .vmem S1x100x2048 .f32) (h1 : M1.IsWhole) (M2 : Memref sig .tc .vmem S128x128 .f32) (h2 : M2.IsWhole)
    (M3 : Memref sig .tc .vmem S1x128 .f32) (h3 : M3.IsWhole) (M4 : Memref sig .tc .vmem S1x100x128 .f32) (h4 : M4.IsWhole)
    (X1 : Vec F S1x100x2048 .f32) (X2 : Vec F S128x128 .f32) (X3 : Vec F S1x128 .f32) (X4 : Vec F S1x100x128 .f32) (E : Set Name) (Q : PUnit → sProp 𝕄) :
    iprop(owns (c : Thread nD τ) M1 fullShare X1 ∗ owns (c : Thread nD τ) M2 fullShare X2 ∗ owns (c : Thread nD τ) M3 fullShare X3
        ∗ owns (c : Thread nD τ) M4 fullShare X4
        ∗ (owns (c : Thread nD τ) M1 fullShare X1 -∗ owns (c : Thread nD τ) M2 fullShare X2 -∗ owns (c : Thread nD τ) M3 fullShare X3
            -∗ owns (c : Thread nD τ) M4 fullShare (tailBlk X1 X2 X3) -∗ Q ⟨⟩))
      ⊢ wp frame (wpE (defs₀ (F := F)) Variants.none (c : Thread nD τ) none) E (cc1__tail_body i M1 h1 M2 h2 M3 h3 M4 h4) Q := by
  unfold owns
  rw [h1.set_eq_univ, h2.set_eq_univ, h3.set_eq_univ, h4.set_eq_univ]
  iintro ⟨⟨%f1, %e1, H1⟩, ⟨%f2, %e2, H2⟩, ⟨%f3, %e3, H3⟩, ⟨%f4, -, H4⟩, Hk⟩
  subst e1 e2 e3
  iapply (tail_run c i M1 h1 M2 h2 M3 h3 M4 h4 f1 f2 f3 f4 E Q)
  isplitl [H1]; · iexact H1
  isplitl [H2]; · iexact H2
  isplitl [H3]; · iexact H3
  isplitl [H4]; · iexact H4
  iintro %g4 %e4 H1 H2 H3 H4
  iapply Hk $$ [H1] [H2] [H3] [H4]
  · iexists f1; isplitr; · ipureintro; rfl
    iexact H1
  · iexists f2; isplitr; · ipureintro; rfl
    iexact H2
  · iexists f3; isplitr; · ipureintro; rfl
    iexact H3
  · iexists g4; isplitr; · ipureintro; exact e4
    iexact H4

end Cert.Proof
end
-- ==== Proof.Tail.lean ====
/-
  The second kernel over its grid: what its four windows hold at each of the sixteen points, and its call taken from any
  contents `V` of the program's arrays to those contents with the result's array written back point by point.
-/
module

public import proofs.«01_k».proof.Proof.TailBody
public import Idealize.ShloMosaic.Lib.Pipeline.RegionsLoop

@[expose] public section

noncomputable section

namespace Cert.Proof

open Idealize.ShloMosaic
open Idealize.ShloMosaic.TcCoe Idealize.ShloMosaic.Tactic
open Idealize.SL Idealize.SL.RA
open Idealize.SL.BI (sProp Storable bigSep bigSep_insert bigSep_empty bigSep_singleton bigSep_map)
open scoped Idealize.SL.BI
open Idealize.SL.BI.BIBase Idealize.SL.BI.Laws Idealize.SL.ProofMode Idealize.SL.Sem
open Cert.KernelIdeal Cert.KernelIdeal.Gen
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable (ι : Ix) (B : Set (SemLoc sig × Ix))
variable (V : (c : Dev nD) → (b : Ref sig .tc) → Buf (Elt F) ((c : Thread nD τ).loc b))

/-- The histogram's, the weights' and the bias's blocks at a point. -/
abbrev hBlk (c : Dev nD) (t : Fin cfg1.N) : Vec F S1x100x2048 .f32 := ((cfg1.win 0).blk t).view.read (Elt F) (V c main_v1)
abbrev pBlk (c : Dev nD) (t : Fin cfg1.N) : Vec F S128x128 .f32 := ((cfg1.win 1).blk t).view.read (Elt F) (V c main_v4)
abbrev bBlk (c : Dev nD) (t : Fin cfg1.N) : Vec F S1x128 .f32 := ((cfg1.win 2).blk t).view.read (Elt F) (V c main_v5)

/-- The windows' contents: the arrays at `V`, each input's block as fetched, the output's at the body's value. -/
def tdat (c : Dev nD) : Dat τ (Elt F) Ix Name U Lvl cfg1 c where
  A w := V c (Pipeline.arrRef spec1 w)
  after w t := match w with
    | ⟨0, _⟩ => hBlk V c t
    | ⟨1, _⟩ => pBlk V c t
    | ⟨2, _⟩ => bBlk V c t
    | ⟨3, _⟩ => tailBlk (hBlk V c t) (pBlk V c t) (bBlk V c t)
  Φ _ := BI.emp
  q _ := fullShare
  owed _ := 0
  recorded _ := B

/-- The second kernel takes no prefetched tables. -/
abbrev adm : (p : Fin 1) → (pcfgs (F := F) p).Adm := fun p => (cfgs p).toPCfg_adm

abbrev tdats : (p : Fin 1) → (c : Dev nD) → Dat τ (Elt F) Ix Name U Lvl (Pipeline.pin (pcfgs (F := F)) adm p) c
  | ⟨0, _⟩ => fun c => tdat B V c

theorem tbefore0 (c : Dev nD) (t : Fin cfg1.N) (d : (cfg1.win 0).block.Idx → Elt F (cfg1.win 0).elt) :
    (tdat (Name := Name) (U := U) (Lvl := Lvl) B V c).before 0 t d = hBlk V c t :=
  (tdat B V c).before_in_eq_fetched 0 rfl (fun _ => rfl) (fun _ _ _ => rfl) (fun _ => rfl) t d

theorem tbefore1 (c : Dev nD) (t : Fin cfg1.N) (d : (cfg1.win 1).block.Idx → Elt F (cfg1.win 1).elt) :
    (tdat (Name := Name) (U := U) (Lvl := Lvl) B V c).before 1 t d = pBlk V c t :=
  (tdat B V c).before_in_eq_fetched 1 rfl (fun _ => rfl) (fun _ _ _ => rfl) (fun _ => rfl) t d

theorem tbefore2 (c : Dev nD) (t : Fin cfg1.N) (d : (cfg1.win 2).block.Idx → Elt F (cfg1.win 2).elt) :
    (tdat (Name := Name) (U := U) (Lvl := Lvl) B V c).before 2 t d = bBlk V c t :=
  (tdat B V c).before_in_eq_fetched 2 rfl (fun _ => rfl) (fun _ _ _ => rfl) (fun _ => rfl) t d

/-- The body at every point. -/
theorem tail_body (c : Dev nD) : BodyObligation (tdat (Name := Name) (U := U) (Lvl := Lvl) B V c) (defs₀ (F := F)) Variants.none ι Set.univ := fun t => by
  rw [bigSep_W1, bigSep_W1]
  rw [show (tdat (Name := Name) (U := U) (Lvl := Lvl) B V c).Φ t.castSucc = BI.emp from rfl,
    show (tdat (Name := Name) (U := U) (Lvl := Lvl) B V c).Φ t.succ = BI.emp from rfl,
    show (tdat (Name := Name) (U := U) (Lvl := Lvl) B V c).owesAt ι t.succ = (tdat B V c).owesAt ι t.castSucc from rfl]
  simp only [tbefore0, tbefore1, tbefore2]
  iintro ⟨HΦ, Howes, ⟨%d0, H0⟩, ⟨%d1, H1⟩, ⟨%d2, H2⟩, ⟨%d3, H3⟩⟩
  iapply (tail_triple c (grid1.coords t) (st1_0 t) (hstage1_0 ((cfg1.slots t 0).cast nbuf1_0)) (st1_1 t) (hstage1_1 ((cfg1.slots t 1).cast nbuf1_1))
    (st1_2 t) (hstage1_2 ((cfg1.slots t 2).cast nbuf1_2)) (st1_3 t) (hstage1_3 ((cfg1.slots t 3).cast nbuf1_3)))
  isplitl [H0]; · iexact H0
  isplitl [H1]; · iexact H1
  isplitl [H2]; · iexact H2
  isplitl [H3]; · iexact H3
  iintro H0 H1 H2 H3
  isplitl [HΦ]; · iexact HΦ
  isplitl [Howes]; · iexact Howes
  isplitl [H0]; · iexact H0
  isplitl [H1]; · iexact H1
  isplitl [H2]; · iexact H2
  iexact H3

/-- The result's array after the call. -/
def tailOut (c : Dev nD) : Buf (Elt F) ((c : Thread nD τ).loc main_v6) := (tdat (Ix := Unit) (Name := ℕ) (U := Counters) (Lvl := ℕ) ∅ V c).arrAt 3 cfg1.N

theorem tailOut_eq (c : Dev nD) : (tdat (Name := Name) (U := U) (Lvl := Lvl) B V c).arrAt 3 cfg1.N = tailOut V c := rfl

variable (L : GSem nD τ sig → Finset Ix) (lv : GSem nD τ sig → Ix → Lvl)
variable (Vp : (c : Dev nD) → (b : Ref sig .tc) → Buf (Elt F) ((c : Thread nD τ).loc b))

theorem tarr (hVp_out : ∀ c, Vp c main_v6 = tailOut V c) (hVp_ne : ∀ c (b : Ref sig .tc), b ≠ main_v6 → Vp c b = V c b) (c : Dev nD) :
    ∀ w, (tdat (Name := Name) (U := U) (Lvl := Lvl) B V c).arrAt w cfg1.N = Vp c (Pipeline.arrRef spec1 w)
  | ⟨0, _⟩ => ((tdat B V c).arrAt_in 0 rfl _).trans (hVp_ne c main_v1 (by decide)).symm
  | ⟨1, _⟩ => ((tdat B V c).arrAt_in 1 rfl _).trans (hVp_ne c main_v4 (by decide)).symm
  | ⟨2, _⟩ => ((tdat B V c).arrAt_in 2 rfl _).trans (hVp_ne c main_v5 (by decide)).symm
  | ⟨3, _⟩ => (hVp_out c).symm

omit [FloatOps F] in
theorem waitPairs_snd (p : SemLoc sig × Ix) (h : p ∈ cfg1.waitPairs ι) : p.2 = ι := by
  obtain ⟨w, s, rfl⟩ := h; rfl

set_option backward.isDefEq.respectTransparency.types false in
/-- The second kernel's call: from the program's arrays at `V` to them at `Vp`, which is `V` but for the result. -/
def treg (hVp_out : ∀ c, Vp c main_v6 = tailOut V c) (hVp_ne : ∀ c (b : Ref sig .tc), b ≠ main_v6 → Vp c b = V c b) :
    Pipeline.RegionSeg (pcfgs (F := F)) adm (tdats (Name := Name) (U := U) (Lvl := Lvl) B V) ι defs₀ Variants.none L lv 0 where
  win := launch1.win.to₀
  block_pos := launch1.block_pos
  stage_whole := launch1.stage_whole
  K := PEmpty
  osem k := k.elim
  ho := Pipeline.OwnSemFacts.none _
  hbody c := (tail_body ι B V c).loose
  hwaits := Pipeline.hwaits_of_owed_zero _ _ _ _ L lv 0 fun _ _ => rfl
  pre c := iprop(unscopedBufs c (V c) ∗ ∃ W : Waits sig Ix, ⌜∀ p ∈ W, p ∈ B⌝ ∗ owes (c : Thread nD τ) (0 : CellTallies nD τ sig Ix) W)
  post c := iprop(unscopedBufs c (Vp c) ∗ ∃ W : Waits sig Ix, ⌜∀ p ∈ W, p ∈ B ∨ p.2 = ι⌝ ∗ owes (c : Thread nD τ) (0 : CellTallies nD τ sig Ix) W)
  X _ := BI.emp
  Y _ := BI.emp
  Z c := Pipeline.unscopedRest (Ix := Ix) (Name := Name) (U := U) (Lvl := Lvl) spec1 c (V c)
  hentry c := by
    rw [Pipeline.ownSems0_none]
    have hsplit := Pipeline.arrays_of_unscopedBufs (p := 0) (pcfgs (F := F)) adm (tdats (Name := Name) (U := U) (Lvl := Lvl) B V) launch1.win launch1.arr_whole c
      ((tdats B V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [scopedRest1_eq]
    iintro ⟨-, -, -⟩; iempintro
  hout c := by
    rw [Pipeline.ownSems0_none, scopedRest1_eq]
    iintro -
    isplitr; · iempintro
    isplitr <;> iempintro
  hexit c := by
    have hjoin := Pipeline.unscopedBufs_of_arrays (p := 0) (pcfgs (F := F)) adm (Ix := Ix) (Name := Name) (U := U) (Lvl := Lvl) launch1.win launch1.arr_whole c
      (tdats B V) ((tdats B V 0 c).share_full fun _ => rfl) (V c) (Vp c) (fun w => (tdat (Name := Name) (U := U) (Lvl := Lvl) B V c).arrAt w cfg1.N)
      (tarr B V Vp hVp_out hVp_ne c)
      (fun b hb => hVp_ne c b fun h => hb (h ▸ Finset.mem_image.mpr ⟨3, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro; exact fun p hp => Or.imp_right (waitPairs_snd ι p) (hW hp)
    iexact HO

end Cert.Proof
end
-- ==== Proof.Launch.lean ====
/-
  The program as its launch sees it: the ghost state of the run, what the SparseCore call carries to each core and each
  tile and back, the tile task as the launch asks for it, and a core's share dealt to its sixteen tiles. The frames are
  held by shares, for reading; the partial histograms' array is held by shares in write mode, because the groups of the
  last stage are several tiles' at once and each of them writes those rows.
-/
module

public import proofs.«01_k».proof.Proof.Same
public import proofs.«01_k».proof.Proof.Stages
public import proofs.«01_k».proof.Proof.Tail
public import Idealize.ShloMosaic.Lib.SparseCore.Quiescent
public import Idealize.ShloMosaic.Lib.SparseCore.Ops
public import Idealize.ShloMosaic.Lib.StableHlo.Run
public import Idealize.ShloMosaic.Lib.Tactic

@[expose] public section

noncomputable section

namespace Cert.Proof

open Idealize.ShloMosaic
open Idealize.ShloMosaic.Transfers
open Idealize.ShloMosaic.SparseCore (S V T)
open Idealize.ShloMosaic.SparseCore.Cfg (HIx Pay tileRest ownBufs ownSems0 ownCells ownRefs mem_ownCells mem_ownRefs)
open Idealize.SL Idealize.SL.RA
open Idealize.SL.BI (sProp Storable bigSep bigSep_insert bigSep_empty bigSep_singleton bigSep_map bigSep_congr bigSep_sep')
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type}

/-! ## The program and its ghost state -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds; the write mode's and the batches' counters; the second kernel's windows' rounds. -/
abbrev UH : Type := URounds (GSem nD τ sig) ℕ
abbrev UT (F : FTy → Type) : Type := WmRA nD τ sig (Elt F) × Counters
abbrev UP : Type := URounds (GSem nD τ sig) Unit
abbrev UU (F : FTy → Type) : Type := UH × (UT F × UP)

local notation "𝕄" => MT nD τ sig (HIx 1) (Elt F) ℕ (UU F) ℕ

abbrev embU : UEmb (UU F) 𝕄 := uEmb (nD := nD) (sig := sig) (Ix := HIx 1) (Val := Elt F) (Name := ℕ) (U := UU F) (Lvl := ℕ)
abbrev embW : UEmb (WmRA nD τ sig (Elt F)) (UU F) := (UEmb.inl : UEmb _ (UT F)).trans ((UEmb.inl : UEmb (UT F) (UT F × UP)).trans UEmb.inr)
def EC : UEmb Counters 𝕄 := ((UEmb.inr : UEmb Counters (UT F)).trans ((UEmb.inl : UEmb (UT F) (UT F × UP)).trans (UEmb.inr : UEmb _ (UU F)))).trans embU
def EH : Emb UH 𝕄 := (Emb.inl : Emb UH (UU F)).trans (embU (F := F)).toEmb
def EP : Emb UP 𝕄 := ((Emb.inr : Emb UP (UT F × UP)).trans (Emb.inr : Emb (UT F × UP) (UU F))).trans (embU (F := F)).toEmb

instance EC_landsIn : (EC (F := F)).LandsIn (upEmb : UEmb _ 𝕄) := by unfold EC; infer_instance
instance EH_landsIn : (EH : Emb UH 𝕄).LandsIn (upEmb : UEmb _ 𝕄) := by unfold EH; infer_instance
instance EP_landsIn : (EP : Emb UP 𝕄).LandsIn (upEmb : UEmb _ 𝕄) := by unfold EP; infer_instance

variable [FloatOps F]

/-! ## What the call carries -/

variable (m : (ℓ : Loc nD τ sig) → Buf (Elt F) ℓ) (ρ : Dev nD → PrngReg)

/-- The frames as the program reshapes them for the tiles. -/
abbrev opFrames : HloOp τ sig (Elt F) := StableHlo.reshape main_arg0 main_v0 (rfl : (.i32 : EltTy) = .i32) shapeCasts_S16x3x100x27x48_S16x3x129600

def frames (d : Dev nD) : S16x3x129600.Idx → BitVec 32 := (opFrames (F := F)).result (fun b => m (d, b)) (Proc.devRef .tc main_v0)
def outInit (d : Dev nD) : S16x100x2048.Idx → Elt F .f32 := m ((SparseCore.T d).loc main_v1)

abbrev vLoc (d : Dev nD) : Loc nD τ sig := (SparseCore.T d).loc main_v0
abbrev oLoc (d : Dev nD) : Loc nD τ sig := (SparseCore.T d).loc main_v1

/-- A core's half, a tile's share of it. -/
def coreSh (c : ℕ) : PosShare TreeShare := if c = 0 then fullShare.left else fullShare.right
abbrev tileSh (c i : ℕ) : PosShare TreeShare := shareTokN (coreSh c) i

/-- The rows core `c`'s tiles write, together. -/
def rowsCore (c : ℕ) : Finset S16x100x2048.Idx := (Finset.range 16).biUnion fun i => rowsTo (2 * i + c) 13

abbrev vPts (d : Dev nD) (q : PosShare TreeShare) : sProp 𝕄 := vLoc d ↦[Finset.univ]{q} (frames m d)
abbrev oPts (d : Dev nD) (q : PosShare TreeShare) (W : Finset S16x100x2048.Idx) : sProp 𝕄 :=
  willBeTo (embW (F := F)) (oLoc d) Finset.univ q (outInit m d) (fun x => some (outVal (frames m d) x)) W

def P : (K (F := F)).Pay (nD := nD) (Val := Elt F) (Name := ℕ) (U := UU F) where
  st := fun q d c => match q with | 0 => iprop(vPts m d (coreSh c.val) ∗ oPts m d (coreSh c.val) ∅)
  dn := fun q d c => match q with | 0 => iprop(vPts m d (coreSh c.val) ∗ oPts m d (coreSh c.val) (rowsCore c.val))
  go := fun q d c i => match q with | 0 => iprop(vPts m d (tileSh c.val i.val) ∗ oPts m d (tileSh c.val i.val) ∅)
  td := fun q d c i => match q with | 0 => iprop(vPts m d (tileSh c.val i.val) ∗ oPts m d (tileSh c.val i.val) (rowsTo (2 * i.val + c.val) 13))
  x := fun _ _ => iprop(∃ ιwm : ℕ, wmInv (embW (F := F)) ιwm)

instance P_storable : (P (F := F) m).IsStorable where
  st q d c := match q with
    | 0 => (inferInstance : Storable (upEmb : UEmb _ 𝕄) iprop(vPts m d (coreSh c.val) ∗ oPts m d (coreSh c.val) ∅))
  dn q d c := match q with
    | 0 => (inferInstance : Storable (upEmb : UEmb _ 𝕄) iprop(vPts m d (coreSh c.val) ∗ oPts m d (coreSh c.val) (rowsCore c.val)))
  go q d c i := match q with
    | 0 => (inferInstance : Storable (upEmb : UEmb _ 𝕄) iprop(vPts m d (tileSh c.val i.val) ∗ oPts m d (tileSh c.val i.val) ∅))
  td q d c i := match q with
    | 0 => (inferInstance : Storable (upEmb : UEmb _ 𝕄)
        iprop(vPts m d (tileSh c.val i.val) ∗ oPts m d (tileSh c.val i.val) (rowsTo (2 * i.val + c.val) 13)))

/-! ## The task -/

section Tile

variable (d : Dev nD) (L : grid0.Coords)

abbrev cV (L : grid0.Coords) : Fin τ.nSC := (L 0).castLE hcore0
abbrev jV (L : grid0.Coords) : Fin τ.nSub := (L 1).castLE hsub0
abbrev cIn (d : Dev nD) (L : grid0.Coords) : GSem nD τ sig := (V d (cV L) (jV L), .dma cc0_scratch2.sem)
abbrev cOut (d : Dev nD) (L : grid0.Coords) : GSem nD τ sig := (V d (cV L) (jV L), .dma cc0_scratch3.sem)

theorem ownSems0_V :
    (ownSems0 (V d (cV L) (jV L)) : sProp 𝕄)
      = iprop(semVal (cIn d L) 0 ∗ semVal (cOut d L) 0
          ∗ bigSep (((ownCells (V d (cV L) (jV L))).erase (cIn d L)).erase (cOut d L)) fun g => semVal g 0) := by
  unfold SparseCore.Cfg.ownSems0
  rw [SparseCore.bigSep_erase' ((mem_ownCells (g := cIn d L)).mpr ⟨rfl, by
      show (SemLoc.dma cc0_scratch2.sem : SemLoc sig).isScoped .scVector = true; decide⟩),
    SparseCore.bigSep_erase' (Finset.mem_erase.mpr ⟨by simp [cIn, cOut]; decide, (mem_ownCells (g := cOut d L)).mpr ⟨rfl, by
      show (SemLoc.dma cc0_scratch3.sem : SemLoc sig).isScoped .scVector = true; decide⟩⟩)]

/-- The fetched frames and the histograms are among the tile's own buffers: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The task of tile `L`, from its shares and its own buffers and semaphores, to its rows known written. -/
theorem tile_body (hF : (K (F := F)).Facts) (hX : ∀ d, InRange (frames m d)) (O : CellTallies nD τ sig (HIx 1)) (W : Waits sig (HIx 1)) (hO : ∀ g, O g none = 0) :
    iprop(levAts (K (F := F)).L (K (F := F)).lev ∗ (∃ ιwm : ℕ, wmInv (embW (F := F)) ιwm)
        ∗ (vPts m d (tileSh (L 0).val (L 1).val) ∗ oPts m d (tileSh (L 0).val (L 1).val) ∅)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_sc_hist L srcV (Memref.isWhole_whole _) outV (Memref.isWhole_whole _) bufV (Memref.isWhole_whole _) histV (Memref.isWhole_whole _)
            cc0_scratch2 cc0_scratch3)
          fun _ => iprop((vPts m d (tileSh (L 0).val (L 1).val) ∗ oPts m d (tileSh (L 0).val (L 1).val) (rowsTo (2 * (L 1).val + (L 0).val) 13))
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [sc_hist_eq, (K (F := F)).scopedBufs_V hF d (cV L) (jV L), SparseCore.Cfg.scopedSems0_V (Val := Elt F) d (cV L) (jV L), ownSems0_V, ownBufs_V]
  generalize hb : tileProg (F := F) L srcV outV bufV histV cc0_scratch2 cc0_scratch3 = body
  iintro ⟨#Hlv, ⟨%ιwm, #Hwm⟩, ⟨Hv, Ho⟩, ⟨⟨%f0, Hs0⟩, ⟨%f1, Hs1⟩, Hbufs⟩, ⟨Hin, Hout, Hsems⟩, HO⟩
  ihave #Hmw := ((K (F := F)).mayWaits_none (thr := V d (cV L) (jV L)) hO) $$ Hlv
  have hwid : wid L = 2 * (L 1).val + (L 0).val := rfl
  have e := wp_tileProg (embW (F := F)) (defs := defs₀ (F := F)) 𝒱₀ (ιwm := ιwm) (EC (F := F)) none d L (hX d) (none : HIx 1) (O := O) (W := W)
    (tileSh (L 0).val (L 1).val) (tileSh (L 0).val (L 1).val) (fo := outInit m d)
  rw [hb, hwid] at e
  ihave Hwp := e $$ [Hv Ho Hs0 Hs1 Hin Hout HO]
  · isplitr; · iexact Hwm
    isplitr; · iexact Hmw
    unfold Done Beside OwesAt
    isplitl [Hs1 Ho Hout HO]
    · isplitl [Hs1]; · iexists f1; iexact Hs1
      isplitl [Ho]; · iexact Ho
      isplitl [Hout]; · iexact Hout
      iexists W; isplitr; · ipureintro; exact fun p hp => Or.inl hp
      iexact HO
    isplitl [Hin]; · iexact Hin
    isplitl [Hs0]; · iexists f0; iexact Hs0
    iexact Hv
  iapply (wp_wand frame _ _) $$ Hwp
  iintro %u HD
  unfold Done Beside OwesAt
  icases HD with ⟨⟨⟨%fh, Hs1⟩, Ho, Hout, HO⟩, Hin, ⟨%fb, Hs0⟩, Hv⟩
  isplitl [Hv Ho]; · isplitl [Hv]; · iexact Hv
                     iexact Ho
  isplitl [Hs0 Hs1 Hbufs]
  · isplitl [Hs0]; · iexists fb; iexact Hs0
    isplitl [Hs1]; · iexists fh; iexact Hs1
    iexact Hbufs
  isplitl [Hin Hout Hsems]
  · isplitl [Hin]; · iexact Hin
    isplitl [Hout]; · iexact Hout
    iexact Hsems
  iexact HO

end Tile

/-! ## The launch's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_sc_hist (coordsV c s) srcV (Memref.isWhole_whole _) outV (Memref.isWhole_whole _)
          bufV (Memref.isWhole_whole _) histV (Memref.isWhole_whole _) cc0_scratch2 cc0_scratch3) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 1024 in
theorem tileObl (hF : (K (F := F)).Facts) (hX : ∀ d, InRange (frames m d)) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have hb := tile_body m d (coordsV ⟨_, hc.1⟩ ⟨_, hc.2⟩) hF hX O W hO
  generalize cc0_sc_hist (F := F) (coordsV ⟨_, hc.1⟩ ⟨_, hc.2⟩) srcV (Memref.isWhole_whole _) outV (Memref.isWhole_whole _) bufV (Memref.isWhole_whole _)
    histV (Memref.isWhole_whole _) cc0_scratch2 cc0_scratch3 = body at hb ⊢
  exact hb.trans (wp_mono frame _ _ fun _ => obl_post)

/-- A core's share of the two arrays, dealt to its tiles and back; the rest of the share waits meanwhile. -/
theorem vecSplit : (K (F := F)).VecSplit' (P m) 0 := by
  intro d c
  show iprop(vPts m d (coreSh c.val) ∗ oPts m d (coreSh c.val) ∅) ⊢ |={Set.univ}=> iprop(
      (bigSep Finset.univ fun i : Fin 16 => iprop(vPts m d (tileSh c.val i.val) ∗ oPts m d (tileSh c.val i.val) ∅))
      ∗ ((bigSep Finset.univ fun i : Fin 16 => iprop(vPts m d (tileSh c.val i.val) ∗ oPts m d (tileSh c.val i.val) (rowsTo (2 * i.val + c.val) 13)))
          -∗ iprop(vPts m d (coreSh c.val) ∗ oPts m d (coreSh c.val) (rowsCore c.val))))
  rw [bigSep_sep', bigSep_sep']
  have hv := Transfers.pointsTo_toks (Val := Elt F) (Ix := HIx 1) (Name := ℕ) (U := UU F) (Lvl := ℕ) (ℓ := vLoc d) (S := Finset.univ) (f := frames m d) (coreSh c.val) 16
  have ho : ∀ W : ℕ → Finset S16x100x2048.Idx, _ := fun W => willBeTo_toks (Ix := HIx 1) (Name := ℕ) (Lvl := ℕ) (embW (F := F)) (ℓ := oLoc d) (S := Finset.univ) (f := outInit m d)
    (g := fun x => some (outVal (frames m d) x)) (coreSh c.val) 16 ∅ W
  have ho1 := ho fun _ => ∅
  have ho2 := ho fun i => rowsTo (2 * i + c.val) 13
  rw [show (∅ ∪ (Finset.range 16).biUnion fun _ => ∅ : Finset S16x100x2048.Idx) = ∅ by ext x; simp] at ho1
  rw [Finset.empty_union] at ho2
  iintro ⟨Hv, Ho⟩
  ihave Hv := hv.1 $$ Hv
  ihave Ho := ho1.1 $$ Ho
  icases Hv with ⟨Hvr, Hv⟩
  icases Ho with ⟨Hor, Ho⟩
  imodintro
  isplitl [Hv Ho]
  · isplitl [Hv]; · iexact Hv
    iexact Ho
  iintro ⟨Hv, Ho⟩
  isplitl [Hvr Hv]
  · iapply hv.2; isplitl [Hvr]; · iexact Hvr
    iexact Hv
  iapply ho2.2
  isplitl [Hor]; · iexact Hor
  iexact Ho

end Cert.Proof
end
-- ==== Proof.Main.lean ====
/-
  The program's run: the ghost state it starts from, @main step by step — the frames reshaped, the SparseCore call with
  the partial histograms' array in write mode, the padded weights and the bias, the second kernel's call — and what every
  run ends with: the arguments as they were, the result at the second kernel's value of the partial histograms, and every
  semaphore back at zero.
-/
module

public import proofs.«01_k».proof.Proof.Launch
public import Idealize.ShloMosaic.Lib.Pipeline.Frame

@[expose] public section

noncomputable section

namespace Cert.Proof

open Idealize.ShloMosaic
open Idealize.ShloMosaic.Transfers
open Idealize.ShloMosaic.SparseCore.Cfg (HIx Pay)
open Idealize.SL Idealize.SL.RA
open Idealize.SL.BI (sProp Storable bigSep bigSep_insert bigSep_empty bigSep_singleton bigSep_map bigSep_congr bigSep_sep' bigSep_intro_persistent)
open scoped Idealize.SL.BI
open Idealize.SL.BI.BIBase Idealize.SL.BI.Laws Idealize.SL.ProofMode Idealize.SL.Sem
open Idealize.ShloMosaic.Rounds
open Idealize.ShloMosaic.StableHlo (held held_sub_split held_congr)
open Idealize.ShloMosaic.Pipeline (ucRefs unscopedBufs_held sub_ucRefs)
open Cert.KernelIdeal Cert.KernelIdeal.Gen

variable {F : FTy → Type} [FloatOps F]

local notation "𝕄" => MT nD τ sig (HIx 1) (Elt F) ℕ (UU F) ℕ

variable (m : (ℓ : Loc nD τ sig) → Buf (Elt F) ℓ) (ρ : Dev nD → PrngReg)

/-! ## What the arrays hold, step by step -/

abbrev dv (b : Ref sig .tc) : DevRef τ sig := Proc.devRef .tc b

abbrev opZero : HloOp τ sig (Elt F) := StableHlo.nullary main_cst (constant S_ .f32 0x00000000#32)
abbrev opZeros : HloOp τ sig (Elt F) := StableHlo.unary main_cst main_v2 (broadcastInDim S128x128 ![] bcast_S_S128x128 : (⟨S_, .f32⟩ : BufTy).Contents (Elt F) → (⟨S128x128, .f32⟩ : BufTy).Contents (Elt F))
abbrev opAt : HloOp τ sig (Elt F) := StableHlo.nullary main_c (constantI S_ 32 0#32)
abbrev opAts : HloOp τ sig (Elt F) := StableHlo.unary main_c main_v3 (broadcastInDim S1 ![] bcast_S_S1 : (⟨S_, .i32⟩ : BufTy).Contents (Elt F) → (⟨S1, .i32⟩ : BufTy).Contents (Elt F))
abbrev opPad : HloOp τ sig (Elt F) := StableHlo.ternary main_v2 main_v3 main_arg1 main_v4 ((fun x i u => Host.scatter scatter_S128x128_S1_S128x101_01_n_1_0 (fun _ b => b) x i u) : (⟨S128x128, .f32⟩ : BufTy).Contents (Elt F) → (⟨S1, .i32⟩ : BufTy).Contents (Elt F) → (⟨S128x101, .f32⟩ : BufTy).Contents (Elt F) → (⟨S128x128, .f32⟩ : BufTy).Contents (Elt F))
abbrev opBias : HloOp τ sig (Elt F) := StableHlo.reshape main_arg2 main_v5 (rfl : (.f32 : EltTy) = .f32) shapeCasts_S128_S1x128

def val0 (d : Dev nD) : Valuation τ sig (Elt F) := fun b => m (d, b)
def val1 (d : Dev nD) : Valuation τ sig (Elt F) := (opFrames (F := F)).result (val0 m d)
/-- The partial histograms written. -/
def val2 (d : Dev nD) : Valuation τ sig (Elt F) := Function.update (val1 m d) (dv main_v1) (outVal (F := F) (frames m d))
def val3 (d : Dev nD) : Valuation τ sig (Elt F) := (opZero (F := F)).result (val2 m d)
def val4 (d : Dev nD) : Valuation τ sig (Elt F) := (opZeros (F := F)).result (val3 m d)
def val5 (d : Dev nD) : Valuation τ sig (Elt F) := (opAt (F := F)).result (val4 m d)
def val6 (d : Dev nD) : Valuation τ sig (Elt F) := (opAts (F := F)).result (val5 m d)
def val7 (d : Dev nD) : Valuation τ sig (Elt F) := (opPad (F := F)).result (val6 m d)
def val8 (d : Dev nD) : Valuation τ sig (Elt F) := (opBias (F := F)).result (val7 m d)

/-- The arrays as the second kernel's call finds them, and as it leaves them. -/
def valIn (d : Dev nD) (b : Ref sig .tc) : Buf (Elt F) ((d.tc : Thread nD τ).loc b) := val8 m d (dv b)
def valEnd (d : Dev nD) (b : Ref sig .tc) : Buf (Elt F) ((d.tc : Thread nD τ).loc b) :=
  Function.update (β := fun b : Ref sig .tc => Buf (Elt F) ((d.tc : Thread nD τ).loc b)) (valIn m d) main_v6 (tailOut (valIn m) d) b

theorem valEnd_out (d : Dev nD) : valEnd m d main_v6 = tailOut (valIn m) d := Function.update_self ..
theorem valEnd_ne (d : Dev nD) (b : Ref sig .tc) (h : b ≠ main_v6) : valEnd m d b = valIn m d b := Function.update_of_ne h ..

theorem val1_out (d : Dev nD) : val1 m d (dv main_v1) = outInit m d :=
  StableHlo.result_of_writes_ne (opFrames (F := F)) _ main_v0 main_v1 rfl (by decide)

/-! ## The ghost state of the launch -/

abbrev pipes (F : FTy → Type) [FloatOps F] := Pipeline.pin (pcfgs (F := F)) adm

def G (d : Dev nD) : sProp 𝕄 :=
  iprop((∃ ιwm : ℕ, wmInv (embW (F := F)) ιwm) ∗ Pipeline.cellsGhost (pipes F) EP 0 d ∗ Pipeline.toksInit (pipes F) EP 0 d)

def u₀ : UU F := (initOf (K (F := F)).hsCells (K (F := F)).hsToks, ((wm₀ nD τ sig (Elt F), 1),
  initOf (Pipeline.cells (pipes F) cellOf_inj) (Pipeline.launchToks (pipes F) cellOf_inj)))

omit [FloatOps F] in
theorem ownU_split (a : UH) (b : UT F) (c : UP) : (ownU (a, (b, c)) : sProp 𝕄) ⊢ iprop(BI.own (EH (F := F) a)
    ∗ BI.own ((((UEmb.inl : UEmb (UT F) (UT F × UP)).trans (UEmb.inr : UEmb _ (UU F))).trans (embU (F := F))) b) ∗ BI.own (EP (F := F) c)) := by
  have h1 : (ownU (a, (b, c)) : sProp 𝕄) ⊢ iprop(BI.own (EH (F := F) a) ∗ BI.own (((UEmb.inr : UEmb (UT F × UP) (UU F)).trans (embU (F := F))) (b, c))) :=
    BI.own_op_elim ((embU (F := F)).toEmb.op_of_mem (Prod.mk_mem_op (URA.mem_op_one a) (URA.mem_one_op (b, c))))
  have h2 : (BI.own (((UEmb.inr : UEmb (UT F × UP) (UU F)).trans (embU (F := F))) (b, c)) : sProp 𝕄) ⊢ iprop(
      BI.own ((((UEmb.inl : UEmb (UT F) (UT F × UP)).trans (UEmb.inr : UEmb _ (UU F))).trans (embU (F := F))) b) ∗ BI.own (EP (F := F) c)) :=
    BI.own_op_elim (((UEmb.inr : UEmb (UT F × UP) (UU F)).trans (embU (F := F))).toEmb.op_of_mem (Prod.mk_mem_op (URA.mem_op_one b) (URA.mem_one_op c)))
  exact h1.trans (sep_mono_right h2)

include ρ in
theorem hu₀ : (ownU (u₀ (F := F)) : sProp 𝕄)
    ⊢ |={Set.univ}=> iprop(BI.own (EH (F := F) (initOf (K (F := F)).hsCells (K (F := F)).hsToks)) ∗ (bigSep Finset.univ (G (F := F)))
        ∗ bigSep Finset.univ fun thr : Thread nD τ => bigSep Finset.univ fun q : Fin 1 => (P m).x q thr) := by
  unfold u₀
  iintro Hu
  ihave H := (ownU_split _ _ _) $$ Hu
  icases H with ⟨HH, HT, HP⟩
  have hT : (BI.own ((((UEmb.inl : UEmb (UT F) (UT F × UP)).trans (UEmb.inr : UEmb _ (UU F))).trans (embU (F := F))) (wm₀ nD τ sig (Elt F), 1)) : sProp 𝕄)
      ⊢ ownU (embW (F := F) (wm₀ nD τ sig (Elt F))) := .rfl
  ihave HW := hT $$ HT
  imod (wmInv_alloc (Ix := HIx 1) (Name := ℕ) (Lvl := ℕ) (emb := embW (F := F)) ⟨m, fun _ => 0, ρ⟩) $$ HW with ⟨%ιwm, -, #Hwm⟩
  imod (Pipeline.fund_ghost (pipes F) (EP (F := F)) cellOf_inj) $$ HP with ⟨Hg, Ht⟩
  imodintro
  isplitl [HH]; · iexact HH
  have hwm : (wmInv (embW (F := F)) ιwm : sProp 𝕄) ⊢ bigSep Finset.univ fun _ : Dev nD => iprop(∃ ιwm : ℕ, wmInv (embW (F := F)) ιwm) :=
    bigSep_intro_persistent fun _ _ => by iintro #H; iexists ιwm; iexact H
  have hwt : (wmInv (embW (F := F)) ιwm : sProp 𝕄) ⊢ bigSep Finset.univ fun thr : Thread nD τ => bigSep Finset.univ fun q : Fin 1 => (P m).x q thr :=
    bigSep_intro_persistent fun _ _ => bigSep_intro_persistent fun _ _ => by
      show _ ⊢ iprop(∃ ιwm : ℕ, wmInv (embW (F := F)) ιwm)
      iintro #H; iexists ιwm; iexact H
  have hg : (bigSep Finset.univ fun c : Dev nD => bigSep Finset.univ fun p => Pipeline.cellsGhost (pipes F) (EP (F := F)) p c)
      ⊢ (bigSep Finset.univ fun c : Dev nD => Pipeline.cellsGhost (pipes F) (EP (F := F)) 0 c : sProp 𝕄) :=
    BI.bigSep_mono fun _ _ => Entails.of_eq (BI.bigSep_univ_of_subsingleton (0 : Fin 1))
  have ht : (bigSep Finset.univ fun c : Dev nD => bigSep Finset.univ fun p => Pipeline.toksInit (pipes F) (EP (F := F)) p c)
      ⊢ (bigSep Finset.univ fun c : Dev nD => Pipeline.toksInit (pipes F) (EP (F := F)) 0 c : sProp 𝕄) :=
    BI.bigSep_mono fun _ _ => Entails.of_eq (BI.bigSep_univ_of_subsingleton (0 : Fin 1))
  isplitl [Hg Ht]
  · unfold G
    rw [bigSep_sep', bigSep_sep']
    isplitr
    · iapply hwm; iexact Hwm
    isplitl [Hg]
    · iapply hg; iexact Hg
    iapply ht; iexact Ht
  iapply hwt; iexact Hwm

/-! ## The second kernel's call -/

/-- The waits the TensorCore may have made by then: those of level `b` at most. -/
def seen (b : ℕ) (d : Dev nD) : Set (SemLoc sig × HIx 1) := {p | (K (F := F)).lev (SparseCore.T d, p.1) p.2 ≤ b}

theorem wp_second [∀ e, Nonempty (Elt F e)] (b : ℕ) (d : Dev nD) {Q : PUnit → sProp 𝕄} :
    iprop(levAts (K (F := F)).L (K (F := F)).lev ∗ boundary (SparseCore.T d) ∗ unscopedBufs d (valIn m d)
        ∗ (∃ W : Waits sig (HIx 1), ⌜(K (F := F)).WBelow (SparseCore.T d) W b⌝ ∗ owes (SparseCore.T d) (0 : CellTallies nD τ sig (HIx 1)) W)
        ∗ Pipeline.cellsGhost (pipes F) (EP (F := F)) 0 d ∗ Pipeline.toksInit (pipes F) (EP (F := F)) 0 d
        ∗ ((boundary (SparseCore.T d) ∗ unscopedBufs d (valEnd m d)
            ∗ (∃ W : Waits sig (HIx 1), ⌜(K (F := F)).WBelow (SparseCore.T d) W b⌝ ∗ owes (SparseCore.T d) (0 : CellTallies nD τ sig (HIx 1)) W)) -∗ Q ⟨⟩))
      ⊢ wp frame (wpE ((K (F := F)).defs (D (F := F))) 𝒱 (SparseCore.T d) none) Set.univ
          (Prog.lift (.customCall (SparseCore.inner (Pipeline.entry 0)) ())) Q := by
  have hr := Pipeline.RegionSeg.wp (pcfgs (F := F)) adm (tdats (Name := ℕ) (U := UU F) (Lvl := ℕ) (seen (F := F) b d) (valIn m)) (none : HIx 1) cellOf_inj (EP (F := F))
    defs₀ 𝒱₀ (K (F := F)).L (K (F := F)).lev (treg none (seen (F := F) b d) (valIn m) (K (F := F)).L (K (F := F)).lev (valEnd m) (valEnd_out m) (valEnd_ne m)) d none (fun _ h => nomatch h)
    (fun x => .ret x) Q
  have hpre : (treg none (seen (F := F) b d) (valIn m) (K (F := F)).L (K (F := F)).lev (valEnd m) (valEnd_out m) (valEnd_ne m) : Pipeline.RegionSeg (pcfgs (F := F)) adm (tdats (Name := ℕ) (U := UU F) (Lvl := ℕ) (seen (F := F) b d) (valIn m)) (none : HIx 1) defs₀ 𝒱₀ (K (F := F)).L (K (F := F)).lev 0).pre d
      = iprop(unscopedBufs d (valIn m d) ∗ ∃ W : Waits sig (HIx 1), ⌜∀ p ∈ W, p ∈ seen (F := F) b d⌝ ∗ owes (SparseCore.T d) (0 : CellTallies nD τ sig (HIx 1)) W) := rfl
  have hpost : (treg none (seen (F := F) b d) (valIn m) (K (F := F)).L (K (F := F)).lev (valEnd m) (valEnd_out m) (valEnd_ne m) : Pipeline.RegionSeg (pcfgs (F := F)) adm (tdats (Name := ℕ) (U := UU F) (Lvl := ℕ) (seen (F := F) b d) (valIn m)) (none : HIx 1) defs₀ 𝒱₀ (K (F := F)).L (K (F := F)).lev 0).post d
      = iprop(unscopedBufs d (valEnd m d) ∗ ∃ W : Waits sig (HIx 1), ⌜∀ p ∈ W, p ∈ seen (F := F) b d ∨ p.2 = none⌝ ∗ owes (SparseCore.T d) (0 : CellTallies nD τ sig (HIx 1)) W) := rfl
  rw [hpre, hpost] at hr
  have e : (Prog.lift (.customCall (SparseCore.inner (Pipeline.entry 0)) ()) : Prog (TpuEff nD τ sig (Elt F) (SparseCore.Sig (ΛP (F := F)) 1) .tc) PUnit)
     = SparseCore.liftProg (.op (.customCall (Pipeline.entry 0) ()) fun x => .ret x) := rfl
  rw [e]
  have hl := (K (F := F)).wp_liftProg (N := 1) (Name := ℕ) (U := UU F) (D (F := F)) 𝒱 (SparseCore.T d) Set.univ none (.op (.customCall (Pipeline.entry 0) ()) fun x => .ret x) Q
  refine BI.Entails.trans ?_ (hr.trans hl)
  show ((_ : sProp 𝕄) ⊢ _)
  iintro ⟨Hlv, Hb, Hv, HW, Hg, Ht, Hk⟩
  isplitl [Hk]
  · iintro ⟨Hb, Hv, %W, %hW, HO⟩
    rw [wp_ret]
    imodintro
    iapply Hk
    isplitl [Hb]; · iexact Hb
    isplitl [Hv]; · iexact Hv
    iexists W; isplitr
    · ipureintro
      intro p hp
      rcases hW p hp with h | h
      · exact h
      · rw [h]; exact Nat.zero_le _
    iexact HO
  isplitl [Hb]; · iexact Hb
  isplitl [Hv HW]
  · isplitl [Hv]; · iexact Hv
    iexact HW
  isplitl [Hlv]; · iexact Hlv
  isplitl [Hg]; · iexact Hg
  iexact Ht

/-! ## The SparseCore call -/

/-- Every row of the partial histograms is in some tile's groups. -/
theorem rowsCore_cover : rowsCore 0 ∪ rowsCore 1 = Finset.univ := by
  ext x
  have h0 : (x 0).val < 16 := (x 0).isLt
  have h1 : (x 1).val < 100 := (x 1).isLt
  simp only [rowsCore, rowsTo, Finset.mem_union, Finset.mem_biUnion, Finset.mem_range, Finset.mem_filter, Finset.mem_univ, true_and, iff_true]
  obtain ⟨r, hr⟩ : ∃ r, r = (100 * (x 0).val + (x 1).val) / 4 := ⟨_, rfl⟩
  rw [← hr]
  have hlt : r < 400 := by omega
  rcases Nat.mod_two_eq_zero_or_one r with h | h
  · exact Or.inl ⟨r % 32 / 2, by omega, r / 32, by omega, by unfold grp; omega⟩
  · exact Or.inr ⟨r % 32 / 2, by omega, r / 32, by omega, by unfold grp; omega⟩

theorem wp_first (κ : GSem nD τ sig → ℕ) (d : Dev nD) {ιwm : ℕ} {Q : PUnit → sProp 𝕄} :
    iprop((K (F := F)).ctx EH (P m) κ ∗ wmInv (embW (F := F)) ιwm ∗ (K (F := F)).tcSt EH d 0
        ∗ (vLoc d ↦{fullShare} (frames m d)) ∗ (oLoc d ↦{fullShare} (outInit m d))
        ∗ (((K (F := F)).tcSt EH d 1 ∗ (vLoc d ↦{fullShare} (frames m d)) ∗ (oLoc d ↦{fullShare} (outVal (F := F) (frames m d)))) -∗ Q ⟨⟩))
      ⊢ wp frame (wpE ((K (F := F)).defs (D (F := F))) 𝒱 (SparseCore.T d) none) Set.univ ((K (F := F)).run d 0) Q := by
  iintro ⟨#Hctx, #Hwm, Hst, Hv, Ho, Hk⟩
  imod (pointsTo_castIn (Ix := HIx 1) (Name := ℕ) (Lvl := ℕ) (emb := embW (F := F)) (ιwm := ιwm) (ℓ := oLoc d) (I := Finset.univ) (f := outInit m d)
    (E := Set.univ) (fun x => some (outVal (F := F) (frames m d) x))) $$ [Ho] with Ho
  · isplitr; · iexact Hwm
    iexact Ho
  have hh := willBeTo_halve (Ix := HIx 1) (Name := ℕ) (Lvl := ℕ) (embW (F := F)) (ℓ := oLoc d) (S := Finset.univ) (f := outInit m d)
    (g := fun x => some (outVal (F := F) (frames m d) x)) fullShare
  have h0 := hh ∅ ∅
  have h1 := hh (rowsCore 0) (rowsCore 1)
  rw [Finset.empty_union] at h0
  rw [rowsCore_cover] at h1
  have hv := pointsTo_share (Val := Elt F) (Ix := HIx 1) (Name := ℕ) (U := UU F) (Lvl := ℕ) (ℓ := vLoc d) (I := Finset.univ) (f := frames m d) (PosShare.mem_left_op_right fullShare)
  ihave Ho := h0.1 $$ Ho
  ihave Hv := hv.1 $$ Hv
  icases Ho with ⟨Ho0, Ho1⟩
  icases Hv with ⟨Hv0, Hv1⟩
  iapply (wp_fupd frame _ _ _)
  iapply ((K (F := F)).wp_run (D (F := F)) 𝒱 (EH := EH) (P := P m) κ d 0) $$ [Hst Ho0 Ho1 Hv0 Hv1 Hk]
  isplitr; · iexact Hctx
  isplitl [Hst]; · iexact Hst
  have e2 : (Finset.univ : Finset (Fin 2)) = {0, 1} := rfl
  have est : (bigSep Finset.univ fun c : Fin ((K (F := F)).nCore 0) => (P m).st 0 d c)
      = (iprop((vPts m d fullShare.left ∗ oPts m d fullShare.left ∅) ∗ (vPts m d fullShare.right ∗ oPts m d fullShare.right ∅)) : sProp 𝕄) := by
    show (bigSep (Finset.univ : Finset (Fin 2)) _) = _
    rw [e2, SparseCore.bigSep_insert' (by decide), bigSep_singleton]; rfl
  have edn : (bigSep Finset.univ fun c : Fin ((K (F := F)).nCore 0) => (P m).dn 0 d c)
      = (iprop((vPts m d fullShare.left ∗ oPts m d fullShare.left (rowsCore 0)) ∗ (vPts m d fullShare.right ∗ oPts m d fullShare.right (rowsCore 1))) : sProp 𝕄) := by
    show (bigSep (Finset.univ : Finset (Fin 2)) _) = _
    rw [e2, SparseCore.bigSep_insert' (by decide), bigSep_singleton]; rfl
  isplitl [Ho0 Ho1 Hv0 Hv1]
  · rw [est]
    isplitl [Ho0 Hv0]
    · isplitl [Hv0]; · iexact Hv0
      iexact Ho0
    isplitl [Hv1]; · iexact Hv1
    iexact Ho1
  iintro ⟨Hst, Hdn⟩
  ihave Hdn := (Entails.of_eq edn) $$ Hdn
  icases Hdn with ⟨⟨Hv0, Ho0⟩, ⟨Hv1, Ho1⟩⟩
  ihave Ho := h1.2 $$ [Ho0 Ho1]
  · isplitl [Ho0]; · iexact Ho0
    iexact Ho1
  ihave Hv := hv.2 $$ [Hv0 Hv1]
  · isplitl [Hv0]; · iexact Hv0
    iexact Hv1
  imod (willBeTo_castOut_some (Ix := HIx 1) (Name := ℕ) (Lvl := ℕ) (emb := embW (F := F)) (ιwm := ιwm) (ℓ := oLoc d) (I := Finset.univ) (f := outInit m d)
    (E := Set.univ) (g := outVal (F := F) (frames m d)) (W := Finset.univ)) $$ [Ho] with Ho
  · isplitr; · iexact Hwm
    iexact Ho
  imodintro
  iapply Hk
  isplitl [Hst]; · iexact Hst
  isplitl [Hv]; · iexact Hv
  have ep : (Finset.univ : Finset (Idx (oLoc d))).piecewise (outVal (F := F) (frames m d)) (outInit m d) = outVal (F := F) (frames m d) := Finset.piecewise_univ _ _
  rw [ep]
  iexact Ho

/-! ## @main -/

theorem wp_op (d : Dev nD) (op : HloOp τ sig (Elt F)) (hS : op.bufs ⊆ ucRefs τ sig) (hf : op.fresh = ∅) (W W' : Valuation τ sig (Elt F)) (hW : op.result W = W') {Q : PUnit → sProp 𝕄} :
    iprop(boundary (SparseCore.T d) ∗ held (SparseCore.T d) (ucRefs τ sig) W
        ∗ ((boundary (SparseCore.T d) ∗ held (SparseCore.T d) (ucRefs τ sig) W') -∗ Q ⟨⟩))
      ⊢ wp frame (wpE ((K (F := F)).defs (D (F := F))) 𝒱 (SparseCore.T d) none) Set.univ (hlo rfl op fun _ => .ret ⟨⟩) Q := by
  subst hW
  iintro ⟨Hb, Hh, Hk⟩
  iapply (StableHlo.wp_hlo_within 𝒱 (SparseCore.T d) none Set.univ (op := op) hS (V := W) hf) $$ [Hb Hh]
  · isplitl [Hb]; · iexact Hb
    iexact Hh
  iintro H
  rw [wp_ret]
  imodintro
  iapply Hk
  iexact H

theorem two_sub : ({dv main_v0, dv main_v1} : Finset (DevRef τ sig)) ⊆ ucRefs τ sig := by decide

theorem held_two (d : Dev nD) (W : Valuation τ sig (Elt F)) :
    (held (SparseCore.T d) (ucRefs τ sig) W : sProp 𝕄)
      = iprop((vLoc d ↦{fullShare} W (dv main_v0)) ∗ (oLoc d ↦{fullShare} W (dv main_v1)) ∗ held (SparseCore.T d) (ucRefs τ sig \ {dv main_v0, dv main_v1}) W) := by
  rw [held_sub_split (SparseCore.T d) two_sub W]
  have h : (held (SparseCore.T d) ({dv main_v0, dv main_v1} : Finset (DevRef τ sig)) W : sProp 𝕄)
      = iprop((vLoc d ↦{fullShare} W (dv main_v0)) ∗ (oLoc d ↦{fullShare} W (dv main_v1))) := by
    unfold StableHlo.held
    rw [SparseCore.bigSep_insert' (by decide), bigSep_singleton]
  rw [h]
  exact Idealize.SL.BI.equiv_iff.mp ⟨Idealize.SL.BI.sep_assoc, Idealize.SL.BI.sep_assoc'⟩

theorem val2_rest (d : Dev nD) : ∀ b ∈ ucRefs τ sig \ {dv main_v0, dv main_v1}, val1 m d b = val2 m d b := fun b hb =>
  (Function.update_of_ne (fun e => (Finset.mem_sdiff.mp hb).2 (Finset.mem_insert_of_mem (Finset.mem_singleton.mpr e))) _ _).symm

/-- What the run leaves the certificate: every array, the result at the second kernel's. -/
def FIN (d : Dev nD) : sProp 𝕄 := unscopedBufs d (valEnd m d)

theorem tcSt_open (d : Dev nD) : ∃ (b : ℕ) (R : sProp 𝕄), (K (F := F)).tcSt EH d 1
    = iprop((∃ W : Waits sig (HIx 1), ⌜(K (F := F)).WBelow (SparseCore.T d) W b⌝ ∗ owes (SparseCore.T d) (0 : CellTallies nD τ sig (HIx 1)) W) ∗ R) := by
  unfold SparseCore.Cfg.tcSt
  rw [(K (F := F)).Otc_end d le_rfl]
  exact ⟨_, _, rfl⟩

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd G
  simp only [main, wp_bind, wp_pure]
  have e0 : (unscopedBufs d (fun b => m ((SparseCore.T d).loc b)) : sProp 𝕄) = held (SparseCore.T d) (ucRefs τ sig) (val0 m d) := unscopedBufs_held d (val0 m d)
  have e8 : (held (SparseCore.T d) (ucRefs τ sig) (val8 m d) : sProp 𝕄) = unscopedBufs d (valIn m d) := (unscopedBufs_held d (val8 m d)).symm
  have e12 : (held (SparseCore.T d) (ucRefs τ sig \ {dv main_v0, dv main_v1}) (val1 m d) : sProp 𝕄)
      = held (SparseCore.T d) (ucRefs τ sig \ {dv main_v0, dv main_v1}) (val2 m d) := held_congr (SparseCore.T d) (val2_rest m d)
  have e20 : val2 m d (dv main_v0) = frames m d := Function.update_of_ne (by decide) _ _
  have e21 : val2 m d (dv main_v1) = outVal (F := F) (frames m d) := Function.update_self ..
  obtain ⟨bd, R, eR⟩ := tcSt_open (F := F) d
  rw [e0, eR]
  iintro ⟨#Hctx, Hst, ⟨Hb, Hu, Hts, -⟩, ⟨%ιwm, #Hwm⟩, Hg, Ht⟩
  iapply (wp_op d (opFrames (F := F)) (sub_ucRefs _ (StableHlo.reshape_bufs_sub ..)) rfl (val0 m d) (val1 m d) rfl) $$ [Hst Hb Hu Hts Hg Ht]
  isplitl [Hb]; · iexact Hb
  isplitl [Hu]; · iexact Hu
  iintro ⟨Hb, Hu⟩
  ihave Hu := (Entails.of_eq (held_two d (val1 m d))) $$ Hu
  icases Hu with ⟨Hv, Ho, Hu⟩
  rw [val1_out]
  iapply (wp_first m κ d (ιwm := ιwm)) $$ [Hst Hb Hu Hv Ho Hts Hg Ht]
  isplitr; · iexact Hctx
  isplitr; · iexact Hwm
  isplitl [Hst]; · iexact Hst
  isplitl [Hv]; · iexact Hv
  isplitl [Ho]; · iexact Ho
  iintro ⟨Hst, Hv, Ho⟩
  ihave Hu := (Entails.of_eq e12) $$ Hu
  ihave Hu := (Entails.of_eq (held_two d (val2 m d)).symm) $$ [Hv Ho Hu]
  · rw [e20, e21]
    isplitl [Hv]; · iexact Hv
    isplitl [Ho]; · iexact Ho
    iexact Hu
  iapply (wp_op d (opZero (F := F)) (sub_ucRefs _ (StableHlo.nullary_bufs_sub ..)) rfl (val2 m d) (val3 m d) rfl) $$ [Hst Hb Hu Hts Hg Ht]
  isplitl [Hb]; · iexact Hb
  isplitl [Hu]; · iexact Hu
  iintro ⟨Hb, Hu⟩
  iapply (wp_op d (opZeros (F := F)) (sub_ucRefs _ (StableHlo.unary_bufs_sub ..)) rfl (val3 m d) (val4 m d) rfl) $$ [Hst Hb Hu Hts Hg Ht]
  isplitl [Hb]; · iexact Hb
  isplitl [Hu]; · iexact Hu
  iintro ⟨Hb, Hu⟩
  iapply (wp_op d (opAt (F := F)) (sub_ucRefs _ (StableHlo.nullary_bufs_sub ..)) rfl (val4 m d) (val5 m d) rfl) $$ [Hst Hb Hu Hts Hg Ht]
  isplitl [Hb]; · iexact Hb
  isplitl [Hu]; · iexact Hu
  iintro ⟨Hb, Hu⟩
  iapply (wp_op d (opAts (F := F)) (sub_ucRefs _ (StableHlo.unary_bufs_sub ..)) rfl (val5 m d) (val6 m d) rfl) $$ [Hst Hb Hu Hts Hg Ht]
  isplitl [Hb]; · iexact Hb
  isplitl [Hu]; · iexact Hu
  iintro ⟨Hb, Hu⟩
  iapply (wp_op d (opPad (F := F)) (sub_ucRefs _ (StableHlo.ternary_bufs_sub ..)) rfl (val6 m d) (val7 m d) rfl) $$ [Hst Hb Hu Hts Hg Ht]
  isplitl [Hb]; · iexact Hb
  isplitl [Hu]; · iexact Hu
  iintro ⟨Hb, Hu⟩
  iapply (wp_op d (opBias (F := F)) (sub_ucRefs _ (StableHlo.reshape_bufs_sub ..)) rfl (val7 m d) (val8 m d) rfl) $$ [Hst Hb Hu Hts Hg Ht]
  isplitl [Hb]; · iexact Hb
  isplitl [Hu]; · iexact Hu
  iintro ⟨Hb, Hu⟩
  ihave Hu := (Entails.of_eq e8) $$ Hu
  ihave Hst := (Entails.of_eq eR) $$ Hst
  icases Hst with ⟨HW, HR⟩
  ihave #Hlv := ((K (F := F)).ctx_levAts κ) $$ Hctx
  iapply (wp_second m bd d) $$ [HW HR Hb Hu Hts Hg Ht]
  isplitr; · iexact Hlv
  isplitl [Hb]; · iexact Hb
  isplitl [Hu]; · iexact Hu
  isplitl [HW]; · iexact HW
  isplitl [Hg]; · iexact Hg
  isplitl [Ht]; · iexact Ht
  iintro ⟨Hb, Hu, HW⟩
  imodintro
  isplitl [HW HR]
  · isplitl [HW]; · iexact HW
    iexact HR
  isplitl [Hu]
  · unfold FIN; iexact Hu
  isplitl [Hb]; · iexact Hb
  iexact Hts

/-! ## The end of every run -/

theorem valIn_arg0 (d : Dev nD) : valIn m d main_arg0 = m ((SparseCore.T d).loc main_arg0) := by
  unfold valIn val8 val7 val6 val5 val4 val3
  rw [StableHlo.result_of_writes_ne (opBias (F := F)) _ main_v5 main_arg0 rfl (by decide), StableHlo.result_of_writes_ne (opPad (F := F)) _ main_v4 main_arg0 rfl (by decide),
    StableHlo.result_of_writes_ne (opAts (F := F)) _ main_v3 main_arg0 rfl (by decide), StableHlo.result_of_writes_ne (opAt (F := F)) _ main_c main_arg0 rfl (by decide),
    StableHlo.result_of_writes_ne (opZeros (F := F)) _ main_v2 main_arg0 rfl (by decide), StableHlo.result_of_writes_ne (opZero (F := F)) _ main_cst main_arg0 rfl (by decide)]
  exact (Function.update_of_ne (by decide) _ _).trans (StableHlo.result_of_writes_ne (opFrames (F := F)) _ main_v0 main_arg0 rfl (by decide))

theorem valIn_arg1 (d : Dev nD) : valIn m d main_arg1 = m ((SparseCore.T d).loc main_arg1) := by
  unfold valIn val8 val7 val6 val5 val4 val3
  rw [StableHlo.result_of_writes_ne (opBias (F := F)) _ main_v5 main_arg1 rfl (by decide), StableHlo.result_of_writes_ne (opPad (F := F)) _ main_v4 main_arg1 rfl (by decide),
    StableHlo.result_of_writes_ne (opAts (F := F)) _ main_v3 main_arg1 rfl (by decide), StableHlo.result_of_writes_ne (opAt (F := F)) _ main_c main_arg1 rfl (by decide),
    StableHlo.result_of_writes_ne (opZeros (F := F)) _ main_v2 main_arg1 rfl (by decide), StableHlo.result_of_writes_ne (opZero (F := F)) _ main_cst main_arg1 rfl (by decide)]
  exact (Function.update_of_ne (by decide) _ _).trans (StableHlo.result_of_writes_ne (opFrames (F := F)) _ main_v0 main_arg1 rfl (by decide))

theorem valIn_arg2 (d : Dev nD) : valIn m d main_arg2 = m ((SparseCore.T d).loc main_arg2) := by
  unfold valIn val8 val7 val6 val5 val4 val3
  rw [StableHlo.result_of_writes_ne (opBias (F := F)) _ main_v5 main_arg2 rfl (by decide), StableHlo.result_of_writes_ne (opPad (F := F)) _ main_v4 main_arg2 rfl (by decide),
    StableHlo.result_of_writes_ne (opAts (F := F)) _ main_v3 main_arg2 rfl (by decide), StableHlo.result_of_writes_ne (opAt (F := F)) _ main_c main_arg2 rfl (by decide),
    StableHlo.result_of_writes_ne (opZeros (F := F)) _ main_v2 main_arg2 rfl (by decide), StableHlo.result_of_writes_ne (opZero (F := F)) _ main_cst main_arg2 rfl (by decide)]
  exact (Function.update_of_ne (by decide) _ _).trans (StableHlo.result_of_writes_ne (opFrames (F := F)) _ main_v0 main_arg2 rfl (by decide))

def fq (d : Dev nD) (s' : Phys nD τ sig (Elt F)) : Prop :=
  s'.mem.mem ((SparseCore.T d).loc main_arg0) = m ((SparseCore.T d).loc main_arg0) ∧ s'.mem.mem ((SparseCore.T d).loc main_arg1) = m ((SparseCore.T d).loc main_arg1)
    ∧ s'.mem.mem ((SparseCore.T d).loc main_arg2) = m ((SparseCore.T d).loc main_arg2) ∧ s'.mem.mem ((SparseCore.T d).loc main_v6) = tailOut (valIn m) d

theorem fin_one (d : Dev nD) (s' : Phys nD τ sig (Elt F)) (b : Ref sig .tc) (hb : b ∈ Finset.univ.filter fun b : Ref sig .tc => ¬ b.isScoped) :
    iprop(FIN m d ∗ SI s') ⊢ (⌜s'.mem.mem ((SparseCore.T d).loc b) = valEnd m d b⌝ : sProp 𝕄) := by
  have h : (FIN m d : sProp 𝕄) ⊢ iprop((SparseCore.T d).loc b ↦{fullShare} valEnd m d b) := by
    unfold FIN unscopedBufs; exact BI.bigSep_elim hb
  iintro ⟨HF, HSI⟩
  ihave HF := h $$ HF
  ihave H := (SI_pointsTo_agree (st := s') (ℓ := (SparseCore.T d).loc b) (I := Finset.univ) (q := fullShare) (f := valEnd m d b)) $$ [HSI HF]
  · isplitl [HSI] <;> iassumption
  icases H with %h
  ipureintro; exact funext fun i => h i (Finset.mem_univ i)

theorem hfin (d : Dev nD) (s' : Phys nD τ sig (Elt F)) : iprop(FIN m d ∗ SI s') ⊢ (⌜fq m d s'⌝ : sProp 𝕄) := by
  have h0 := fin_one m d s' main_arg0 (by decide)
  have h1 := fin_one m d s' main_arg1 (by decide)
  have h2 := fin_one m d s' main_arg2 (by decide)
  have h3 := fin_one m d s' main_v6 (by decide)
  rw [valEnd_ne m d main_arg0 (by decide), valIn_arg0] at h0
  rw [valEnd_ne m d main_arg1 (by decide), valIn_arg1] at h1
  rw [valEnd_ne m d main_arg2 (by decide), valIn_arg2] at h2
  rw [valEnd_out] at h3
  unfold fq
  exact (and_intro h0 ((and_intro h1 ((and_intro h2 h3).trans pure_and.1)).trans pure_and.1)).trans pure_and.1

def QC : PUnit × MemSt nD τ sig (Elt F) → Prop := fun r => (∀ d : Dev nD,
  r.2.mem ((SparseCore.T d).loc main_arg0) = m ((SparseCore.T d).loc main_arg0) ∧ r.2.mem ((SparseCore.T d).loc main_arg1) = m ((SparseCore.T d).loc main_arg1)
    ∧ r.2.mem ((SparseCore.T d).loc main_arg2) = m ((SparseCore.T d).loc main_arg2) ∧ r.2.mem ((SparseCore.T d).loc main_v6) = tailOut (valIn m) d)
  ∧ r.2.sem = fun _ => 0

/-- Every run of the program ends with the arguments as they were, the result at `tailOut`, every semaphore at zero. -/
theorem run_main [∀ e, Nonempty (Elt F e)] (hX : ∀ d, InRange (frames m d)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hX)
    (fun q _ => match q with | 0 => SparseCore.Cfg.VecSplit.of_plain (vecSplit m))
    m ρ main (G (F := F)) (FIN m) (u₀ (F := F)) (sep_elim_left.trans (hu₀ m ρ)) (hmain m ρ) (fq m) (hfin m) (QC m) (fun _ h hz => ⟨h, hz⟩)

end Cert.Proof
end
-- ==== Proof.Frames.lean ====
/-
  The frame claims: both readings of the program end with their arguments as they were and every semaphore at zero, by the
  one run of `Main.lean`; the precondition gives the run what it asks of the frames. And the reference, whose run is its
  operations' one after another.
-/
module

public import proofs.«01_k».proof.Defs
public import proofs.«01_k».proof.Proof.Main
public import proofs.«01_k».proof.Proof.Gen.Kernel
public import proofs.«01_k».proof.Proof.Gen.ReferenceIdeal
public import proofs.«01_k».proof.Proof.Gen.ReferenceIdeal.Run

@[expose] public section

noncomputable section

namespace Cert.Proof

open Idealize.ShloMosaic
open Idealize.SL.Sem
open Cert.KernelIdeal Cert.KernelIdeal.Gen

/-- The precondition's one side condition. -/
theorem colours_facts : Cert.Pre_colours.Facts := ⟨by decide⟩

attribute [local instance] colours_facts

variable {F : FTy → Type} [FloatOps F]

/-- The precondition — `(0 ≤ x) & (x ≤ 255)` at every word, all ones — is the frames in range. -/
theorem inRange_of_pre (m : (ℓ : Loc nD τ sig) → Buf (Elt F) ℓ)
    (h : ∀ d : Dev nD, Cert.Pre_colours.fn (F := F) (m ((SparseCore.T d).loc main_arg0)) (m ((SparseCore.T d).loc main_arg1)) (m ((SparseCore.T d).loc main_arg2)) = (fun _ => 1#1))
    (d : Dev nD) : InRange (frames m d) := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have key : ∀ v : BitVec 32, IntOp.andi (IntOp.cmpi .sge v 0#32) (IntOp.cmpi .sle v 255#32) = 1#1 → v.toNat < 256 := by
    intro v e
    simp only [IntOp.cmpi, andi_ofBool, ofBool_eq_one, Bool.and_eq_true, BitVec.sle_eq_decide,
      decide_eq_true_eq, BitVec.toInt_eq_toNat_cond, BitVec.toNat_ofNat, Nat.reducePow, Nat.reduceMod] at e
    omega
  have hall : ∀ i, ((m ((SparseCore.T d).loc main_arg0)) i : BitVec 32).toNat < 256 := by
    intro i
    have e := congrFun (h d) i
    simp only [Pre_colours.fn, andi, cmpi, broadcastInDim, constantI] at e
    exact key _ e
  intro x
  have hx : frames m d = shapeCast S16x3x129600 (m ((SparseCore.T d).loc main_arg0)) shapeCasts_S16x3x100x27x48_S16x3x129600 := by
    unfold frames opFrames
    rw [StableHlo.reshape_result']
    rfl
  rw [hx]
  exact hall _

section Two

attribute [local instance] Cert.Kernel.Gen.facts Cert.KernelIdeal.Gen.facts

/-- The program read at its float operations and read over the reals are one text: so are their kernels' bodies. -/
theorem bodies_eq : Cert.Kernel.defs₀ (F := F) = Cert.KernelIdeal.defs₀ (F := F) := by
  funext pr l a
  cases pr with
  | tc =>
    match l, a with
    | 0, a => rfl
    | 1, (t, s) => rfl
  | scScalar c =>
    match l, a with
    | 0, a => rfl
    | 1, (t, s) => rfl
  | scVector c s =>
    match l, a with
    | 0, a => rfl
    | 1, (t, s) => rfl

theorem defs_eq : Cert.Kernel.defs (F := F) = Cert.KernelIdeal.defs (F := F) := by
  show SparseCore.Cfg.defs _ (Pipeline.defs _ _) = SparseCore.Cfg.defs _ (Pipeline.defs _ _)
  rw [bodies_eq]
  have hs : Cert.Kernel.sc (F := F) = Cert.KernelIdeal.sc (F := F) := rfl
  rw [hs]

end Two

/-- Every run keeps the arguments and ends with every semaphore at zero. -/
theorem run_kept [∀ e, Nonempty (Elt F e)] (m : (ℓ : Loc nD τ sig) → Buf (Elt F) ℓ) (ρ : Dev nD → PrngReg) (hX : ∀ d, InRange (frames m d)) :
    θ_run (Cert.KernelIdeal.defs (F := F)) (Cert.KernelIdeal.threads (F := F)) ⟨m, fun _ => 0, ρ⟩ fun r => (∀ c : Dev nD,
      r.2.mem ((SparseCore.T c).loc main_arg0) = m ((SparseCore.T c).loc main_arg0) ∧ r.2.mem ((SparseCore.T c).loc main_arg1) = m ((SparseCore.T c).loc main_arg1)
        ∧ r.2.mem ((SparseCore.T c).loc main_arg2) = m ((SparseCore.T c).loc main_arg2)) ∧ r.2.sem = fun _ => 0 :=
  (θ_run (Cert.KernelIdeal.defs (F := F)) _ _).mono (fun _ h => ⟨fun c => ⟨(h.1 c).1, (h.1 c).2.1, (h.1 c).2.2.1⟩, h.2⟩) (run_main (F := F) m ρ hX)

theorem frame_kernel : Cert.quiescent_Kernel (hKernel := Cert.Kernel.Gen.facts) := fun m ρ h => by
  rw [defs_eq]
  exact run_kept (F := Bits) m ρ (inRange_of_pre m h)

theorem frame_ideal : Cert.quiescent_KernelIdeal (hKernelIdeal := Cert.KernelIdeal.Gen.facts) := fun m ρ h =>
  run_kept (F := Ideal) m ρ (inRange_of_pre m h)

theorem frame_reference : Cert.quiescent_ReferenceIdeal (hReferenceIdeal := Cert.ReferenceIdeal.Gen.facts) := fun m ρ _ =>
  (θ_run (Cert.ReferenceIdeal.defs (F := Ideal)) _ _).mono (fun r h => ⟨fun c => (h c).2, sem_eq_zero_of_no_sems (by decide) r.2⟩)
    (Cert.ReferenceIdeal.Value.run (F := Ideal) m ρ)

end Cert.Proof
end
-- ==== Proof.TailShift.lean ====
/-
  The second kernel's row-dependent shift, read at an index: seven conditional rotations by 1, 2, 4, …, 64 columns, each
  taken by the rows in which that bit is set, move row `t` left by `t` columns.
-/
module

public import proofs.«01_k».proof.Proof.TailBody
public import Idealize.ShloMosaic.Lib.Pointwise

@[expose] public section

noncomputable section

namespace Cert.Proof

open Idealize.ShloMosaic Idealize.SL.Sem
open Cert.KernelIdeal Cert.KernelIdeal.Gen

variable {α : Type}

/-- A row rotated left by `a` columns: the columns from `a` on, then the first `a`. -/
theorem roll_at (a c : ℕ) (hac : c + a = 256) (x : S100x256.Idx → α) (h1 : S100x256.Slices ![0, a] ⟨2, ![100, c]⟩)
    (h2 : S100x256.Slices ![0, 0] ⟨2, ![100, a]⟩) (hc : Shape.Concatenates [⟨2, ![100, c]⟩, ⟨2, ![100, a]⟩] S100x256 1) (t : Fin 100) (j : Fin 256) :
    concatenate S100x256 1 [⟨⟨2, ![100, c]⟩, extractStridedSlice ⟨2, ![100, c]⟩ ![0, a] x h1⟩, ⟨⟨2, ![100, a]⟩, extractStridedSlice ⟨2, ![100, a]⟩ ![0, 0] x h2⟩] hc
        (ix2 t j : S100x256.Idx)
      = x (ix2 t ⟨(j.val + a) % 256, Nat.mod_lt _ (by omega)⟩) := by
  rw [concatenate_pair_apply]
  have hj := j.isLt
  split
  · next hlt =>
    have hlt' : j.val < c := hlt
    refine congrArg x (funext fun b => Fin.ext ?_)
    match b with
    | ⟨0, _⟩ => show 0 + t.val = t.val; omega
    | ⟨1, _⟩ => show a + j.val = (j.val + a) % 256; omega
  · next hlt =>
    have hlt' : ¬ j.val < c := hlt
    refine congrArg x (funext fun b => Fin.ext ?_)
    match b with
    | ⟨0, _⟩ => show 0 + t.val = t.val; omega
    | ⟨1, _⟩ => show 0 + (j.val - c) = (j.val + a) % 256; omega

/-- How far row `t` moves for the bit of weight `a`. -/
def amt (a t : ℕ) : ℕ := if t / a % 2 = 1 then a else 0

/-- One conditional rotation. -/
def shiftBy (a : ℕ) (x : S100x256.Idx → α) : S100x256.Idx → α :=
  fun i => x (ix2 (i 0) ⟨((i 1).val + amt a (i 0).val) % 256, Nat.mod_lt _ (by omega)⟩)

/-- Bit `e` of a row's number, as the kernel tests it. -/
theorem bit_test : ∀ e : Fin 7, ∀ t : Fin 100, IntOp.cmpi .ne (IntOp.andi (BitVec.ofNat 32 t.val) (BitVec.ofNat 32 (2 ^ e.val))) 0#32
    = if t.val / 2 ^ e.val % 2 = 1 then 1#1 else 0#1 := by decide +kernel

/-- The rows' numbers. -/
abbrev rows : IVec S100x256 32 := iota .tc S100x256 32 [0] iota_S100x256_d0_w32

theorem rows_at (t : Fin 100) (j : Fin 256) : rows (ix2 t j : S100x256.Idx) = BitVec.ofNat 32 t.val := by
  unfold rows; pointwise

/-- One conditional rotation as the kernel spells it. -/
def rotated (a c : ℕ) (x : S100x256.Idx → α) (h1 : S100x256.Slices ![0, a] ⟨2, ![100, c]⟩) (h2 : S100x256.Slices ![0, 0] ⟨2, ![100, a]⟩)
    (hc : Shape.Concatenates [⟨2, ![100, c]⟩, ⟨2, ![100, a]⟩] S100x256 1) : S100x256.Idx → α :=
  select (cmpi .ne (andi rows (broadcast S100x256 (BitVec.ofNat 32 a))) (broadcast S100x256 0#32))
    (concatenate S100x256 1 [⟨⟨2, ![100, c]⟩, extractStridedSlice ⟨2, ![100, c]⟩ ![0, a] x h1⟩, ⟨⟨2, ![100, a]⟩, extractStridedSlice ⟨2, ![100, a]⟩ ![0, 0] x h2⟩] hc) x

theorem rotated_eq (e : Fin 7) (a c : ℕ) (ha : a = 2 ^ e.val) (hac : c + a = 256) (x : S100x256.Idx → α) (h1 : S100x256.Slices ![0, a] ⟨2, ![100, c]⟩)
    (h2 : S100x256.Slices ![0, 0] ⟨2, ![100, a]⟩) (hc : Shape.Concatenates [⟨2, ![100, c]⟩, ⟨2, ![100, a]⟩] S100x256 1) :
    rotated a c x h1 h2 hc = shiftBy a x := by
  funext i
  obtain ⟨t, j, rfl⟩ : ∃ (t : Fin 100) (j : Fin 256), i = ix2 t j := ⟨i 0, i 1, eq_ix2 i⟩
  show Scalar.select (IntOp.cmpi .ne (IntOp.andi (rows (ix2 t j : S100x256.Idx)) (BitVec.ofNat 32 a)) 0#32) _ (x (ix2 t j))
    = x (ix2 t ⟨(j.val + amt a t.val) % 256, _⟩)
  rw [rows_at, roll_at a c hac, ha, bit_test]
  unfold amt
  by_cases hb : t.val / 2 ^ e.val % 2 = 1
  · simp only [if_pos hb]; rfl
  · simp only [if_neg hb]
    refine congrArg (fun q : Fin 256 => x (ix2 t q)) (Fin.ext ?_)
    show j.val = (j.val + 0) % 256
    have := j.isLt; omega

/-- The seven rotations of a row, at the first 128 columns: the row moved left by its own number. -/
theorem shifts_at (x : S100x256.Idx → α) (t : Fin 100) (j : Fin 128) :
    shiftBy 64 (shiftBy 32 (shiftBy 16 (shiftBy 8 (shiftBy 4 (shiftBy 2 (shiftBy 1 x)))))) (ix2 t ⟨j.val, by omega⟩ : S100x256.Idx)
      = x (ix2 t ⟨t.val + j.val, by omega⟩) := by
  refine congrArg (fun q : Fin 256 => x (ix2 t q)) (Fin.ext ?_)
  show (((((((j.val + amt 64 t.val) % 256 + amt 32 t.val) % 256 + amt 16 t.val) % 256 + amt 8 t.val) % 256 + amt 4 t.val) % 256 + amt 2 t.val) % 256
    + amt 1 t.val) % 256 = t.val + j.val
  have ht : ∀ t : Fin 100, amt 64 t.val + amt 32 t.val + amt 16 t.val + amt 8 t.val + amt 4 t.val + amt 2 t.val + amt 1 t.val = t.val := by decide +kernel
  have := ht t
  have := j.isLt
  omega

end Cert.Proof

end
-- ==== Proof.Spec.lean ====
/-
  The mathematics both programs compute: a frame's colour counts, the counts of a frame scaled to length one, and the
  products of a batch's frames with one another between zeros, a window of which goes through a linear layer.
-/
module

public import proofs.«01_k».proof.Proof.Count
public import Idealize.ShloMosaic.Lib.IdealHost
public import Mathlib.Order.Interval.Finset.Nat

@[expose] public section

noncomputable section

namespace Cert.Proof

open Idealize.ShloMosaic
open Cert.KernelIdeal

/-- How many of the 1296 pixels of frame `t` of batch `b` fall in bin `k`. -/
def hits (X : S16x3x129600.Idx → BitVec 32) (b t k : ℕ) : ℕ := Nat.count (fun p => binAt X b (t * 1296 + p) = k) 1296

/-- The same as an extended real. -/
def tally (X : S16x3x129600.Idx → BitVec 32) (b t : ℕ) (k : Fin 512) : EReal := ((hits X b t k.val : ℝ) : EReal)

/-- The sum of a frame's squared counts. -/
def norm2 (X : S16x3x129600.Idx → BitVec 32) (b t : ℕ) : EReal := ∑ k : Fin 512, tally X b t k * tally X b t k

/-- A frame's counts divided by their length. -/
def unit (X : S16x3x129600.Idx → BitVec 32) (b t : ℕ) (k : Fin 512) : EReal := Ideal.div (tally X b t k) (Ideal.sqrt (norm2 X b t))

/-- The product of two frames. -/
def sim (X : S16x3x129600.Idx → BitVec 32) (b t s : ℕ) : EReal := ∑ k : Fin 512, unit X b t k * unit X b s k

/-- A row of products between zeros, at any column. -/
def window (s : Fin 100 → EReal) (j : ℕ) : EReal := if h : 50 ≤ j ∧ j < 150 then s ⟨j - 50, by omega⟩ else 0

/-- Entry `o` of the result at frame `t` of batch `b`. -/
def answer (X : S16x3x129600.Idx → BitVec 32) (W : Fin 128 → Fin 101 → EReal) (B : Fin 128 → EReal) (b : ℕ) (t : Fin 100) (o : Fin 128) : EReal :=
  max (∑ w : Fin 101, window (fun s => sim X b t.val s.val) (t.val + w.val) * W o w + B o) 0

/-! ## Counting -/

/-- A sum of ones is a count. -/
theorem cnt_eq (X : S16x3x129600.Idx → BitVec 32) (b t sub bin n : ℕ) :
    (cnt (F := Ideal) X b t sub bin n : EReal) = ((Nat.count (fun i => binAt X b (t * 1296 + 4 * i + sub) = bin) n : ℝ) : EReal) := by
  induction n with
  | zero =>
    show Ideal.ofBits .f32 0x00000000#32 = _
    rw [Ideal.ofBits_zero_f32, Nat.count_zero]; simp
  | succ n ih =>
    rw [Nat.count_succ]
    show (if binAt X b (t * 1296 + 4 * n + sub) = bin then (cnt (F := Ideal) X b t sub bin n : EReal) + Ideal.ofBits .f32 0x3F800000#32
      else cnt (F := Ideal) X b t sub bin n) = _
    rw [ih, Ideal.ofBits_one_f32]
    split
    · push_cast; rfl
    · rw [Nat.add_zero]

/-- Counting by remainders of four. -/
theorem count_four (p : ℕ → Prop) [DecidablePred p] (n : ℕ) : Nat.count p (4 * n) = Nat.count (fun i => p (4 * i + 0)) n
    + Nat.count (fun i => p (4 * i + 1)) n + Nat.count (fun i => p (4 * i + 2)) n + Nat.count (fun i => p (4 * i + 3)) n := by
  induction n with
  | zero => simp
  | succ n ih =>
    rw [show 4 * (n + 1) = 4 * n + 1 + 1 + 1 + 1 from by omega]
    simp only [Nat.count_succ, ih]
    simp only [Nat.add_assoc, Nat.add_zero, Nat.reduceAdd]
    omega

/-- A frame's four partial counts add up to its count. -/
theorem four_eq (X : S16x3x129600.Idx → BitVec 32) (b t : ℕ) (k : Fin 512) :
    (cnt (F := Ideal) X b t 0 k.val 324 : EReal) + cnt (F := Ideal) X b t 1 k.val 324 + cnt (F := Ideal) X b t 2 k.val 324 + cnt (F := Ideal) X b t 3 k.val 324
      = tally X b t k := by
  unfold tally hits
  rw [show (1296 : ℕ) = 4 * 324 from rfl, count_four (fun p => binAt X b (t * (4 * 324) + p) = k.val) 324]
  simp only [cnt_eq]
  simp only [Nat.reduceMul, ← Nat.add_assoc]
  push_cast
  rfl

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem norm2_eq (X : S16x3x129600.Idx → BitVec 32) (b t : ℕ) :
    norm2 X b t = ((∑ k : Fin 512, (hits X b t k.val : ℝ) * (hits X b t k.val : ℝ) : ℝ) : EReal) := by
  unfold norm2 tally
  simp only [← EReal.coe_mul]
  exact (coe_sum _ _).symm

/-- Every frame has pixels, so its counts are not all zero. -/
theorem norm2_pos {X : S16x3x129600.Idx → BitVec 32} (hX : InRange X) (b t : ℕ) :
    0 < ∑ k : Fin 512, (hits X b t k.val : ℝ) * (hits X b t k.val : ℝ) := by
  refine Finset.sum_pos' (fun k _ => mul_self_nonneg _) ⟨⟨binAt X b (t * 1296), binAt_lt hX b _⟩, Finset.mem_univ _, ?_⟩
  have h : 0 < hits X b t (binAt X b (t * 1296)) := by
    unfold hits
    refine lt_of_lt_of_le ?_ (Nat.count_monotone _ (show 1 ≤ 1296 by omega))
    rw [Nat.count_succ, Nat.count_zero, Nat.add_zero, if_pos rfl]; exact Nat.one_pos
  have h' : (0 : ℝ) < (hits X b t (binAt X b (t * 1296)) : ℝ) := by exact_mod_cast h
  exact mul_pos h' h'

/-- Scaling by the reciprocal root is dividing by the root. -/
theorem scaled_unit {X : S16x3x129600.Idx → BitVec 32} (hX : InRange X) (b t : ℕ) (k : Fin 512) :
    tally X b t k * Ideal.rsqrt (norm2 X b t) = unit X b t k := by
  have hp := norm2_pos hX b t
  have hs := Real.sqrt_pos.2 hp
  unfold unit
  rw [norm2_eq, Ideal.rsqrt_coe, if_neg (not_lt.2 hp.le), if_neg hp.ne', Ideal.sqrt_coe, if_neg (not_lt.2 hp.le), Ideal.div_coe hs.ne', one_div]

end Cert.Proof

end
-- ==== Proof.TailValue.lean ====
/-
  The second kernel's block over the extended reals, entry by entry.
-/
module

public import proofs.«01_k».proof.Proof.TailShift
public import proofs.«01_k».proof.Proof.Spec

@[expose] public section

set_option maxRecDepth 16384

noncomputable section

namespace Cert.Proof

open Idealize.ShloMosaic Idealize.SL.Sem
open Cert.KernelIdeal Cert.KernelIdeal.Gen

/-- The histograms of a block: the four partial counts of every bin added. -/
def hist4 (H : Vec Ideal S1x100x2048 .f32) : FVec Ideal S100x512 .f32 :=
  have v1 : FVec Ideal S100x2048 .f32 := shapeCast S100x2048 H shapeCasts_S1x100x2048_S100x2048
  addf (addf (addf (extractStridedSlice S100x512 ![0, 0] v1 slices_S100x2048_o0_0_S100x512)
    (extractStridedSlice S100x512 ![0, 512] v1 slices_S100x2048_o0_512_S100x512))
    (extractStridedSlice S100x512 ![0, 1024] v1 slices_S100x2048_o0_1024_S100x512))
    (extractStridedSlice S100x512 ![0, 1536] v1 slices_S100x2048_o0_1536_S100x512)

/-- Every row's sum of squares. -/
def squares (h : FVec Ideal S100x512 .f32) : FVec Ideal S100 .f32 :=
  multiReduction .add [1] S100 (mulf h h) 0x00000000#32 reduces_S100x512_S100 (.inl rfl) rfl

/-- The rows scaled by the reciprocal root of `n`. -/
def scaled (h : FVec Ideal S100x512 .f32) (n : FVec Ideal S100 .f32) : FVec Ideal S100x512 .f32 :=
  mulf h (broadcastTo S100x512 (rsqrt (shapeCast S100x1 n shapeCasts_S100_S100x1)) broadcasts_S100x1_S100x512)

/-- The rows' products with one another. -/
def gram (u : FVec Ideal S100x512 .f32) : FVec Ideal S100x100 .f32 :=
  matmul dot_S100x512_S100x512_S100x100_1_1_0_0_n_n (some .fp32) u u (constant S100x100 .f32 0x00000000#32)

/-- The products between fifty columns of zeros and a hundred and six. -/
def padded (v : FVec Ideal S100x100 .f32) : FVec Ideal S100x256 .f32 :=
  concatenate S100x256 1 [⟨S100x50, broadcast S100x50 (Scalar.ofBits (F := Ideal) .f32 0x00000000#32)⟩, ⟨S100x100, v⟩,
    ⟨S100x106, broadcast S100x106 (Scalar.ofBits (F := Ideal) .f32 0x00000000#32)⟩] concatenates_S100x50_S100x100_S100x106_S100x256_d1

/-- The linear layer on the first 128 columns, and the rectifier. -/
def linear (x : FVec Ideal S100x256 .f32) (P : Vec Ideal S128x128 .f32) (B : Vec Ideal S1x128 .f32) : FVec Ideal S1x100x128 .f32 :=
  shapeCast S1x100x128 (maximumf (addf (matmul dot_S100x128_S128x128_S100x128_1_1_0_0_n_n (some .fp32)
      (extractStridedSlice S100x128 ![0, 0] x slices_S100x256_o0_0_S100x128) (shapeCast S128x128 P shapeCasts_S128x128_S128x128 : FVec Ideal S128x128 .f32) (constant S100x128 .f32 0x00000000#32))
    (broadcastTo S100x128 (shapeCast S1x128 B shapeCasts_S1x128_S1x128 : FVec Ideal S1x128 .f32) broadcasts_S1x128_S100x128))
    (broadcast S100x128 (Scalar.ofBits (F := Ideal) .f32 0x00000000#32))) shapeCasts_S100x128_S1x100x128

/-- The first three rotations are in the kernel's first part. -/
theorem low_eq (H : Vec Ideal S1x100x2048 .f32) :
    k1_pay1 H = shiftBy 4 (shiftBy 2 (shiftBy 1 (padded (gram (scaled (hist4 H) (squares (hist4 H))))))) := by
  show rotated 4 252 (rotated 2 254 (rotated 1 255 (padded (gram (scaled (hist4 H) (squares (hist4 H))))) slices_S100x256_o0_1_S100x255 slices_S100x256_o0_0_S100x1
    concatenates_S100x255_S100x1_S100x256_d1) slices_S100x256_o0_2_S100x254 slices_S100x256_o0_0_S100x2 concatenates_S100x254_S100x2_S100x256_d1)
    slices_S100x256_o0_4_S100x252 slices_S100x256_o0_0_S100x4 concatenates_S100x252_S100x4_S100x256_d1 = _
  rw [rotated_eq 0 1 255 rfl rfl, rotated_eq 1 2 254 rfl rfl, rotated_eq 2 4 252 rfl rfl]

/-- The other four, and the layer, are in its second. -/
theorem high_eq (x : FVec Ideal S100x256 .f32) (P : Vec Ideal S128x128 .f32) (B : Vec Ideal S1x128 .f32) :
    k1_pay4 rows x (extractStridedSlice S100x248 ![0, 8] x slices_S100x256_o0_8_S100x248) (extractStridedSlice S100x8 ![0, 0] x slices_S100x256_o0_0_S100x8) P B
      = linear (shiftBy 64 (shiftBy 32 (shiftBy 16 (shiftBy 8 x)))) P B := by
  show linear (rotated 64 192 (rotated 32 224 (rotated 16 240 (rotated 8 248 x slices_S100x256_o0_8_S100x248 slices_S100x256_o0_0_S100x8
    concatenates_S100x248_S100x8_S100x256_d1) slices_S100x256_o0_16_S100x240 slices_S100x256_o0_0_S100x16 concatenates_S100x240_S100x16_S100x256_d1)
    slices_S100x256_o0_32_S100x224 slices_S100x256_o0_0_S100x32 concatenates_S100x224_S100x32_S100x256_d1)
    slices_S100x256_o0_64_S100x192 slices_S100x256_o0_0_S100x64 concatenates_S100x192_S100x64_S100x256_d1) P B = _
  rw [rotated_eq 3 8 248 rfl rfl, rotated_eq 4 16 240 rfl rfl, rotated_eq 5 32 224 rfl rfl, rotated_eq 6 64 192 rfl rfl]

theorem tailBlk_eq (H : Vec Ideal S1x100x2048 .f32) (P : Vec Ideal S128x128 .f32) (B : Vec Ideal S1x128 .f32) :
    tailBlk H P B = linear (shiftBy 64 (shiftBy 32 (shiftBy 16 (shiftBy 8 (shiftBy 4 (shiftBy 2 (shiftBy 1
      (padded (gram (scaled (hist4 H) (squares (hist4 H)))))))))))) P B := by
  refine (high_eq (k1_pay1 H) P B).trans ?_
  rw [low_eq]

theorem hist4_at (H : Vec Ideal S1x100x2048 .f32) (t : Fin 100) (k : Fin 512) :
    hist4 H (ix2 t k : S100x512.Idx) = H (ix3 0 t ⟨k.val, by omega⟩) + H (ix3 0 t ⟨512 + k.val, by omega⟩)
      + H (ix3 0 t ⟨1024 + k.val, by omega⟩) + H (ix3 0 t ⟨1536 + k.val, by omega⟩) := by
  unfold hist4
  pointwise

theorem squares_at (h : FVec Ideal S100x512 .f32) (t : Fin 100) :
    squares h (ix1 t : S100.Idx) = ∑ k : Fin 512, h (ix2 t k) * h (ix2 t k) := by
  unfold squares
  pointwise

theorem scaled_at (h : FVec Ideal S100x512 .f32) (n : FVec Ideal S100 .f32) (t : Fin 100) (k : Fin 512) :
    scaled h n (ix2 t k : S100x512.Idx) = h (ix2 t k) * Ideal.rsqrt (n (ix1 t)) := by
  unfold scaled
  pointwise

theorem gram_at (u : FVec Ideal S100x512 .f32) (t s : Fin 100) :
    gram u (ix2 t s : S100x100.Idx) = ∑ k : Fin 512, u (ix2 t k) * u (ix2 s k) := by
  unfold gram
  pointwise

theorem padded_at (v : FVec Ideal S100x100 .f32) (t : Fin 100) (j : Fin 256) :
    padded v (ix2 t j : S100x256.Idx) = window (fun s => v (ix2 t s)) j.val := by
  unfold padded window
  pointwise
  have := j.isLt
  by_cases h1 : j.val < 50
  · rw [dif_pos h1, dif_neg (by omega)]
  · rw [dif_neg h1]
    by_cases h2 : j.val - 50 < 100
    · rw [dif_pos h2, dif_pos (by omega)]
    · rw [dif_neg h2, dif_neg (by omega)]

theorem linear_at (x : FVec Ideal S100x256 .f32) (P : Vec Ideal S128x128 .f32) (B : Vec Ideal S1x128 .f32) (t : Fin 100) (o : Fin 128) :
    linear x P B (ix3 0 t o : S1x100x128.Idx)
      = max (∑ w : Fin 128, x (ix2 t ⟨w.val, by omega⟩) * P (ix2 o w) + B (ix2 0 o)) 0 := by
  unfold linear
  pointwise

/-- The block, entry by entry: the scaled histograms' products with one another, row `t`'s read from column `t` on, in
    the linear layer. -/
theorem tailBlk_at (H : Vec Ideal S1x100x2048 .f32) (P : Vec Ideal S128x128 .f32) (B : Vec Ideal S1x128 .f32) (h : Fin 100 → Fin 512 → EReal)
    (hh : ∀ t k, hist4 H (ix2 t k : S100x512.Idx) = h t k) (t : Fin 100) (o : Fin 128) :
    tailBlk H P B (ix3 0 t o : S1x100x128.Idx)
      = max (∑ w : Fin 128, window (fun s => ∑ k : Fin 512, h t k * Ideal.rsqrt (∑ k, h t k * h t k) * (h s k * Ideal.rsqrt (∑ k, h s k * h s k))) (t.val + w.val)
          * P (ix2 o w) + B (ix2 0 o)) 0 := by
  rw [tailBlk_eq, linear_at]
  refine congrArg (fun z => max (z + B (ix2 0 o)) 0) (Finset.sum_congr rfl fun w _ => ?_)
  refine congrArg (· * P (ix2 o w)) ?_
  rw [shifts_at, padded_at]
  refine congrArg (fun f => window f (t.val + w.val)) (funext fun s => ?_)
  rw [gram_at]
  simp only [scaled_at, squares_at, hh]

end Cert.Proof

end
-- ==== Proof.TailOut.lean ====
/-
  The second kernel's result array: batch `b`'s entries are its block at point `b`, from batch `b`'s histograms and the
  whole of the weights and the bias.
-/
module

public import proofs.«01_k».proof.Proof.Tail
public import proofs.«01_k».proof.Proof.TailValue
public import Idealize.ShloMosaic.Lib.Pipeline.ValueKit

@[expose] public section

noncomputable section

namespace Cert.Proof

open Idealize.ShloMosaic Idealize.ShloMosaic.TcCoe Idealize.SL.Sem
open Cert.KernelIdeal Cert.KernelIdeal.Gen

variable (V : (c : Dev nD) → (b : Ref sig .tc) → Buf (Elt Ideal) ((c : Thread nD τ).loc b))

/-- Batch `b` of the partial histograms. -/
def batch (H : S16x100x2048.Idx → EReal) (b : Fin 16) : S1x100x2048.Idx → EReal := fun y => H (ix3 b (y 1) (y 2))

/-- The result array. -/
def outArr (H : S16x100x2048.Idx → EReal) (P : S128x128.Idx → EReal) (B : S1x128.Idx → EReal) : S16x100x128.Idx → EReal :=
  fun i => tailBlk (F := Ideal) (batch H (i 0)) P B (ix3 0 (i 1) (i 2))

theorem at0 : ∀ t : Fin grid1.N, cc1_transform_0 (grid1.coords t) = ![t.val, 0, 0] := by decide +kernel
theorem at1 : ∀ t : Fin grid1.N, cc1_transform_1 (grid1.coords t) = ![0, 0] := by decide +kernel
theorem at2 : ∀ t : Fin grid1.N, cc1_transform_2 (grid1.coords t) = ![0, 0] := by decide +kernel
theorem at3 : ∀ t : Fin grid1.N, cc1_transform_3 (grid1.coords t) = ![t.val, 0, 0] := by decide +kernel

theorem emb0 (t : Fin cfg1.N) (y : S1x100x2048.Idx) (a : Fin 3) :
    (((cfg1.win 0).blk t).view.emb y a).val = ![t.val, 0, 0] a * S1x100x2048.size a + (y a).val := by
  rw [← at0 t]
  show _ + 1 * (y a).val = _
  rw [Nat.one_mul]; rfl

theorem emb1 (t : Fin cfg1.N) (y : S128x128.Idx) (a : Fin 2) :
    (((cfg1.win 1).blk t).view.emb y a).val = ![0, 0] a * S128x128.size a + (y a).val := by
  rw [← at1 t]
  show _ + 1 * (y a).val = _
  rw [Nat.one_mul]; rfl

theorem emb2 (t : Fin cfg1.N) (y : S1x128.Idx) (a : Fin 2) :
    (((cfg1.win 2).blk t).view.emb y a).val = ![0, 0] a * S1x128.size a + (y a).val := by
  rw [← at2 t]
  show _ + 1 * (y a).val = _
  rw [Nat.one_mul]; rfl

theorem emb3 (t : Fin cfg1.N) (y : S1x100x128.Idx) (a : Fin 3) :
    (((cfg1.win 3).blk t).view.emb y a).val = ![t.val, 0, 0] a * S1x100x128.size a + (y a).val := by
  rw [← at3 t]
  show _ + 1 * (y a).val = _
  rw [Nat.one_mul]; rfl

theorem hBlk_eq (c : Dev nD) (t : Fin cfg1.N) : hBlk V c t = batch (V c main_v1) ⟨t.val, t.isLt⟩ := by
  funext y
  refine congrArg (V c main_v1) (funext fun a => Fin.ext ((emb0 t y a).trans ?_))
  have h0 : (y 0).val < 1 := (y 0).isLt
  match a with
  | ⟨0, _⟩ => show t.val * 1 + (y 0).val = t.val; omega
  | ⟨1, _⟩ => show 0 * 100 + (y 1).val = (y 1).val; omega
  | ⟨2, _⟩ => show 0 * 2048 + (y 2).val = (y 2).val; omega

theorem pBlk_eq (c : Dev nD) (t : Fin cfg1.N) : pBlk V c t = V c main_v4 := by
  funext y
  refine congrArg (V c main_v4) (funext fun a => Fin.ext ((emb1 t y a).trans ?_))
  match a with
  | ⟨0, _⟩ => show 0 * 128 + (y 0).val = (y 0).val; omega
  | ⟨1, _⟩ => show 0 * 128 + (y 1).val = (y 1).val; omega

theorem bBlk_eq (c : Dev nD) (t : Fin cfg1.N) : bBlk V c t = V c main_v5 := by
  funext y
  refine congrArg (V c main_v5) (funext fun a => Fin.ext ((emb2 t y a).trans ?_))
  match a with
  | ⟨0, _⟩ => show 0 * 1 + (y 0).val = (y 0).val; omega
  | ⟨1, _⟩ => show 0 * 128 + (y 1).val = (y 1).val; omega

theorem tailOut_arr (c : Dev nD) : tailOut V c = outArr (V c main_v1) (V c main_v4) (V c main_v5) := by
  refine (tdat (Ix := Unit) (Name := ℕ) (U := Counters) (Lvl := ℕ) ∅ V c).arrAt_eq_of_covers 3 _ (by decide +kernel) fun t hf y => ?_
  blk_simp
  have he : ((win1_3.blk t).view.emb y : S16x100x128.Idx) = ix3 ⟨t.val, t.isLt⟩ (y 1) (y 2) := by
    funext a
    refine Fin.ext ((emb3 t y a).trans ?_)
    have h0 : (y 0).val < 1 := (y 0).isLt
    match a with
    | ⟨0, _⟩ => show t.val * 1 + (y 0).val = t.val; omega
    | ⟨1, _⟩ => show 0 * 100 + (y 1).val = (y 1).val; omega
    | ⟨2, _⟩ => show 0 * 128 + (y 2).val = (y 2).val; omega
  rw [he]
  show tailBlk (hBlk V c t) (pBlk V c t) (bBlk V c t) y = tailBlk (batch (V c main_v1) ⟨t.val, t.isLt⟩) (V c main_v4) (V c main_v5) (ix3 0 (y 1) (y 2))
  rw [hBlk_eq, pBlk_eq, bBlk_eq]
  refine congrArg _ (funext fun a => ?_)
  match a with
  | ⟨0, _⟩ => exact Fin.ext (by have h0 : (y 0).val < 1 := (y 0).isLt; show (y 0).val = 0; omega)
  | ⟨1, _⟩ => rfl
  | ⟨2, _⟩ => rfl

/-- The result array from the SparseCore's counts, the weights padded with zero columns and the bias as a row. -/
theorem tailOut_at (X : S16x3x129600.Idx → BitVec 32) (hX : InRange X) (W : Fin 128 → Fin 101 → EReal) (B : Fin 128 → EReal) (c : Dev nD)
    (h1 : V c main_v1 = outVal (F := Ideal) X)
    (h4 : ∀ o w : Fin 128, V c main_v4 (ix2 o w : S128x128.Idx) = if h : w.val < 101 then W o ⟨w.val, h⟩ else (0 : EReal))
    (h5 : ∀ o : Fin 128, V c main_v5 (ix2 0 o : S1x128.Idx) = B o) (b : Fin 16) (t : Fin 100) (o : Fin 128) :
    tailOut V c (ix3 b t o : S16x100x128.Idx) = answer X W B b.val t o := by
  rw [tailOut_arr]
  have hh : ∀ (t : Fin 100) (k : Fin 512), hist4 (batch (V c main_v1) b) (ix2 t k : S100x512.Idx) = tally X b.val t.val k := fun t k => by
    rw [hist4_at, ← four_eq, h1]
    have hk := k.isLt
    have e : ∀ s : ℕ, s < 4 → ∀ hs, batch (outVal (F := Ideal) X) b (ix3 0 t ⟨512 * s + k.val, hs⟩) = cnt (F := Ideal) X b.val t.val s k.val 324 := fun s _ hs => by
      show cnt (F := Ideal) X b.val t.val ((512 * s + k.val) / 512) ((512 * s + k.val) % 512) 324 = _
      rw [show (512 * s + k.val) / 512 = s by omega, show (512 * s + k.val) % 512 = k.val by omega]
    have e0 := e 0 (by omega) (by omega)
    have e1 := e 1 (by omega) (by omega)
    have e2 := e 2 (by omega) (by omega)
    have e3 := e 3 (by omega) (by omega)
    simp only [Nat.mul_zero, Nat.zero_add, Nat.mul_one, Nat.reduceMul] at e0 e1 e2 e3
    rw [e0, e1, e2, e3]
  show tailBlk (batch (V c main_v1) b) (V c main_v4) (V c main_v5) (ix3 0 t o) = _
  rw [tailBlk_at _ _ _ (fun t k => tally X b.val t.val k) hh]
  unfold answer
  rw [h5]
  refine congrArg (fun z => max (z + B o) 0) ?_
  have hw : ∀ t : Fin 100, (fun s : Fin 100 => ∑ k : Fin 512, tally X b.val t.val k * Ideal.rsqrt (∑ k, tally X b.val t.val k * tally X b.val t.val k)
      * (tally X b.val s.val k * Ideal.rsqrt (∑ k, tally X b.val s.val k * tally X b.val s.val k))) = fun s => sim X b.val t.val s.val := fun t => by
    funext s
    exact Finset.sum_congr rfl fun k _ => congrArg₂ (· * ·) (scaled_unit hX b.val t.val k) (scaled_unit hX b.val s.val k)
  simp only [hw, h4]
  rw [Fin.sum_univ_add (a := 101) (b := 27)]
  have hz : (∑ i : Fin 27, window (fun s => sim X b.val t.val s.val) (t.val + (Fin.natAdd 101 i).val)
      * (if h : (Fin.natAdd 101 i).val < 101 then W o ⟨(Fin.natAdd 101 i).val, h⟩ else (0 : EReal))) = 0 :=
    Finset.sum_eq_zero fun i _ => by
      rw [dif_neg (by show ¬ 101 + i.val < 101; omega), mul_zero]
  rw [hz, add_zero]
  refine Finset.sum_congr rfl fun w _ => ?_
  rw [dif_pos (show (Fin.castAdd 27 w).val < 101 from w.isLt)]
  rfl

end Cert.Proof

end
-- ==== Proof.KernelValue.lean ====
/-
  The kernel program's result, entry by entry: the arrays its second call reads are the SparseCore's counts, the weights
  set into a square of zeros, and the bias as a row.
-/
module

public import proofs.«01_k».proof.Proof.TailOut
public import proofs.«01_k».proof.Proof.Main
public import Idealize.ShloMosaic.Lib.Routing.OpsSet

@[expose] public section

noncomputable section

namespace Cert.Proof

open Idealize.ShloMosaic Idealize.ShloMosaic.TcCoe Idealize.SL.Sem
open Cert.KernelIdeal Cert.KernelIdeal.Gen

/-- Where an entry of the weights is set: at its own place. -/
theorem set_lands (i : S1.Idx → BitVec 32) (hi : ∀ x, i x = 0#32) (o o' : Fin 128) (w : Fin 101) (w' : Fin 128) :
    scatter_S128x128_S1_S128x101_01_n_1_0.resultIdx? (ix2 o w : S128x101.Idx) i = some (ix2 o' w' : S128x128.Idx) ↔ o.val = o'.val ∧ w.val = w'.val := by
  rw [Routing.resultIdx?_eq_some]
  have s0 : scatter_S128x128_S1_S128x101_01_n_1_0.start (ix2 o w : S128x101.Idx) i 0 = 0 := rfl
  have s1 : scatter_S128x128_S1_S128x101_01_n_1_0.start (ix2 o w : S128x101.Idx) i 1 = 0 := by
    show (i _).toInt = 0
    rw [hi]; rfl
  have w0 : scatter_S128x128_S1_S128x101_01_n_1_0.window (ix2 o w : S128x101.Idx) 0 = o.val := rfl
  have w1 : scatter_S128x128_S1_S128x101_01_n_1_0.window (ix2 o w : S128x101.Idx) 1 = w.val := rfl
  constructor
  · intro h
    have h0 := h 0
    have h1 := h 1
    rw [s0, w0] at h0
    rw [s1, w1] at h1
    change (0 : Int) + (o.val : Int) = (o'.val : Int) at h0
    change (0 : Int) + (w.val : Int) = (w'.val : Int) at h1
    omega
  · rintro ⟨h0, h1⟩ a
    match a with
    | ⟨0, _⟩ => show scatter_S128x128_S1_S128x101_01_n_1_0.start (ix2 o w : S128x101.Idx) i 0 + (scatter_S128x128_S1_S128x101_01_n_1_0.window (ix2 o w : S128x101.Idx) 0 : Int) = (o'.val : Int)
                rw [s0, w0]; omega
    | ⟨1, _⟩ => show scatter_S128x128_S1_S128x101_01_n_1_0.start (ix2 o w : S128x101.Idx) i 1 + (scatter_S128x128_S1_S128x101_01_n_1_0.window (ix2 o w : S128x101.Idx) 1 : Int) = (w'.val : Int)
                rw [s1, w1]; omega

/-- The weights in the first 101 columns, the square's own entries after them. -/
theorem set_at (z : S128x128.Idx → EReal) (i : S1.Idx → BitVec 32) (hi : ∀ x, i x = 0#32) (W : S128x101.Idx → EReal) (o w : Fin 128) :
    Host.scatter scatter_S128x128_S1_S128x101_01_n_1_0 (fun _ b => b) z i W (ix2 o w : S128x128.Idx)
      = if h : w.val < 101 then W (ix2 o ⟨w.val, h⟩) else z (ix2 o w) := by
  split
  · next h =>
    refine Routing.scatter_set_hit _ _ _ _ _ _ (fun k hk => ?_) (ix2 o ⟨w.val, h⟩ : S128x101.Idx) ((set_lands i hi o o ⟨w.val, h⟩ w).2 ⟨rfl, rfl⟩)
    obtain ⟨o', w', rfl⟩ : ∃ (o' : Fin 128) (w' : Fin 101), k = ix2 o' w' := ⟨k 0, k 1, eq_ix2 k⟩
    have e := (set_lands i hi o' o w' w).1 hk
    rw [show o' = o from Fin.ext e.1, show w' = ⟨w.val, h⟩ from Fin.ext e.2]
  · next h =>
    refine Routing.scatter_set_miss _ _ _ _ _ fun k hk => ?_
    obtain ⟨o', w', rfl⟩ : ∃ (o' : Fin 128) (w' : Fin 101), k = ix2 o' w' := ⟨k 0, k 1, eq_ix2 k⟩
    have e := (set_lands i hi o' o w' w).1 hk
    have := w'.isLt
    omega

section Arrays

variable {F : FTy → Type} [FloatOps F] (m : (ℓ : Loc nD τ sig) → Buf (Elt F) ℓ) (d : Dev nD)

theorem valIn_v1 : valIn m d main_v1 = outVal (F := F) (frames m d) := by
  unfold valIn val8 val7 val6 val5 val4 val3
  rw [StableHlo.result_of_writes_ne (opBias (F := F)) _ main_v5 main_v1 rfl (by decide), StableHlo.result_of_writes_ne (opPad (F := F)) _ main_v4 main_v1 rfl (by decide),
    StableHlo.result_of_writes_ne (opAts (F := F)) _ main_v3 main_v1 rfl (by decide), StableHlo.result_of_writes_ne (opAt (F := F)) _ main_c main_v1 rfl (by decide),
    StableHlo.result_of_writes_ne (opZeros (F := F)) _ main_v2 main_v1 rfl (by decide), StableHlo.result_of_writes_ne (opZero (F := F)) _ main_cst main_v1 rfl (by decide)]
  exact Function.update_self ..

theorem val4_v2 : val4 m d (dv main_v2) = broadcastInDim S128x128 ![] bcast_S_S128x128 (constant (F := F) S_ .f32 0x00000000#32) := by
  unfold val4
  refine (StableHlo.unary_result ..).trans ?_
  unfold val3
  exact congrArg _ (StableHlo.nullary_result ..)

theorem val6_v3 : val6 m d (dv main_v3) = broadcastInDim S1 ![] bcast_S_S1 (constantI S_ 32 0#32) := by
  unfold val6
  refine (StableHlo.unary_result ..).trans ?_
  unfold val5
  exact congrArg _ (StableHlo.nullary_result ..)

theorem val6_v2 : val6 m d (dv main_v2) = val4 m d (dv main_v2) := by
  unfold val6 val5
  rw [StableHlo.result_of_writes_ne (opAts (F := F)) _ main_v3 main_v2 rfl (by decide), StableHlo.result_of_writes_ne (opAt (F := F)) _ main_c main_v2 rfl (by decide)]

theorem val6_arg1 : val6 m d (dv main_arg1) = m ((SparseCore.T d).loc main_arg1) := by
  unfold val6 val5 val4 val3
  rw [StableHlo.result_of_writes_ne (opAts (F := F)) _ main_v3 main_arg1 rfl (by decide), StableHlo.result_of_writes_ne (opAt (F := F)) _ main_c main_arg1 rfl (by decide),
    StableHlo.result_of_writes_ne (opZeros (F := F)) _ main_v2 main_arg1 rfl (by decide), StableHlo.result_of_writes_ne (opZero (F := F)) _ main_cst main_arg1 rfl (by decide)]
  exact (Function.update_of_ne (by decide) _ _).trans (StableHlo.result_of_writes_ne (opFrames (F := F)) _ main_v0 main_arg1 rfl (by decide))

theorem valIn_v4 : valIn m d main_v4 = Host.scatter scatter_S128x128_S1_S128x101_01_n_1_0 (fun _ b => b)
    (broadcastInDim S128x128 ![] bcast_S_S128x128 (constant (F := F) S_ .f32 0x00000000#32)) (broadcastInDim S1 ![] bcast_S_S1 (constantI S_ 32 0#32))
    (m ((SparseCore.T d).loc main_arg1)) := by
  unfold valIn val8
  rw [StableHlo.result_of_writes_ne (opBias (F := F)) _ main_v5 main_v4 rfl (by decide)]
  unfold val7
  refine (StableHlo.ternary_result ..).trans ?_
  show Host.scatter _ _ (val6 m d (dv main_v2)) (val6 m d (dv main_v3)) (val6 m d (dv main_arg1)) = _
  rw [val6_v2, val4_v2, val6_v3, val6_arg1]

theorem valIn_v5 : valIn m d main_v5 = shapeCast S1x128 (m ((SparseCore.T d).loc main_arg2)) shapeCasts_S128_S1x128 := by
  have h : val7 m d (dv main_arg2) = m ((SparseCore.T d).loc main_arg2) := by
    unfold val7 val6 val5 val4 val3
    rw [StableHlo.result_of_writes_ne (opPad (F := F)) _ main_v4 main_arg2 rfl (by decide),
      StableHlo.result_of_writes_ne (opAts (F := F)) _ main_v3 main_arg2 rfl (by decide), StableHlo.result_of_writes_ne (opAt (F := F)) _ main_c main_arg2 rfl (by decide),
      StableHlo.result_of_writes_ne (opZeros (F := F)) _ main_v2 main_arg2 rfl (by decide), StableHlo.result_of_writes_ne (opZero (F := F)) _ main_cst main_arg2 rfl (by decide)]
    exact (Function.update_of_ne (by decide) _ _).trans (StableHlo.result_of_writes_ne (opFrames (F := F)) _ main_v0 main_arg2 rfl (by decide))
  unfold valIn val8
  rw [← h]
  refine (StableHlo.reshape_result ..).trans ?_
  rfl

theorem frames_eq : frames m d = shapeCast S16x3x129600 (m ((SparseCore.T d).loc main_arg0)) shapeCasts_S16x3x100x27x48_S16x3x129600 := by
  unfold frames opFrames
  rw [StableHlo.reshape_result']
  rfl

end Arrays

/-- The kernel program's result. -/
theorem kernel_at (m : (ℓ : Loc nD τ sig) → Buf (Elt Ideal) ℓ) (d : Dev nD) (hX : InRange (frames m d)) (b : Fin 16) (t : Fin 100) (o : Fin 128) :
    tailOut (valIn m) d (ix3 b t o : S16x100x128.Idx)
      = answer (frames m d) (fun o w => m ((SparseCore.T d).loc main_arg1) (ix2 o w : S128x101.Idx)) (fun o => m ((SparseCore.T d).loc main_arg2) (ix1 o : S128.Idx)) b.val t o := by
  refine tailOut_at (valIn m) _ hX _ _ d (valIn_v1 m d) (fun o w => ?_) (fun o => ?_) b t o
  · rw [valIn_v4]
    refine (set_at _ _ (fun _ => rfl) _ o w).trans ?_
    split
    · rfl
    · exact Ideal.ofBits_zero_f32
  · rw [valIn_v5]
    generalize m ((SparseCore.T d).loc main_arg2) = B
    change S128.Idx → EReal at B
    show shapeCast S1x128 B shapeCasts_S128_S1x128 (ix2 0 o) = B (ix1 o)
    pointwise

end Cert.Proof

end
-- ==== Proof.RefBins.lean ====
/-
  The reference's histogram, entry by entry.
-/
module

public import proofs.«01_k».proof.Proof.Gen.ReferenceIdeal.Run
public import proofs.«01_k».proof.Proof.Spec
public import Idealize.ShloMosaic.Lib.Pointwise
public import Idealize.ShloMosaic.Lib.Routing.OpsSet

@[expose] public section

set_option maxRecDepth 16384

noncomputable section

namespace Cert.Proof

open Idealize.ShloMosaic Idealize.SL.Sem
open Cert.ReferenceIdeal Cert.ReferenceIdeal.Gen

variable (A : S16x3x100x27x48.Idx → BitVec 32)

/-- The frames with the colours last, a row for each frame. -/
def pixels : IVec S1600x1296x3 32 :=
  shapeCast S1600x1296x3 (transpose S16x100x27x48x3 [0, 2, 3, 4, 1] A transposes_S16x3x100x27x48_S16x100x27x48x3_0_2_3_4_1) shapeCasts_S16x100x27x48x3_S1600x1296x3

/-- The frames as the kernel reshapes them. -/
def flat : Cert.KernelIdeal.S16x3x129600.Idx → BitVec 32 := shapeCast Cert.KernelIdeal.S16x3x129600 A Cert.KernelIdeal.Gen.shapeCasts_S16x3x100x27x48_S16x3x129600

/-- One colour of every pixel. -/
def red : IVec S1600x1296 32 := shapeCast S1600x1296 (extractStridedSlice S1600x1296x1 ![0, 0, 0] (pixels A) slices_S1600x1296x3_S1600x1296x1_0_0_0) shapeCasts_S1600x1296x1_S1600x1296
def green : IVec S1600x1296 32 := shapeCast S1600x1296 (extractStridedSlice S1600x1296x1 ![0, 0, 1] (pixels A) slices_S1600x1296x3_S1600x1296x1_0_0_1) shapeCasts_S1600x1296x1_S1600x1296
def blue : IVec S1600x1296 32 := shapeCast S1600x1296 (extractStridedSlice S1600x1296x1 ![0, 0, 2] (pixels A) slices_S1600x1296x3_S1600x1296x1_0_0_2) shapeCasts_S1600x1296x1_S1600x1296

/-- A word at every pixel. -/
def everywhere (v : BitVec 32) : IVec S1600x1296 32 := broadcastInDim S1600x1296 ![] bcast_S_S1600x1296 (constantI S_ 32 v)

/-- Every pixel's bin, counted from its frame's first. -/
def segments : IVec S1600x1296 32 :=
  addi (addi (addi (Host.shli (Host.shrsi (red A) (everywhere 5#32)) (everywhere 6#32)) (Host.shli (Host.shrsi (green A) (everywhere 5#32)) (everywhere 3#32)))
      (Host.shrsi (blue A) (everywhere 5#32)))
    (broadcastInDim S1600x1296 ![0, 1] bcast_S1600x1_S1600x1296_0_1 (broadcastInDim S1600x1 ![0] bcast_S1600_S1600x1_0
      (Host.shli (iotaInDim S1600 32 0) (broadcastInDim S1600 ![] bcast_S_S1600 (constantI S_ 32 9#32)))))

/-- The same in one row. -/
def places : IVec S2073600 32 := shapeCast S2073600 (segments A) shapeCasts_S1600x1296_S2073600

/-- A negative place would count from the end. -/
def wrapped : IVec S2073600 32 :=
  select (cmpi .slt (places A) (broadcastInDim S2073600 ![] bcast_S_S2073600 (constantI S_ 32 0#32)))
    (addi (places A) (broadcastInDim S2073600 ![] bcast_S_S2073600 (constantI S_ 32 819200#32))) (places A)

/-- A one added at every pixel's place. -/
def counts : IVec S819200 32 :=
  Host.scatter scatter_S819200_S2073600x1_S2073600_n_0_0_1 IntOp.addi (broadcastInDim S819200 ![] bcast_S_S819200 (constantI S_ 32 0#32))
    (broadcastInDim S2073600x1 ![0] bcast_S2073600_S2073600x1_0 (wrapped A)) (broadcastInDim S2073600 ![] bcast_S_S2073600 (constantI S_ 32 1#32))

/-- The counts as numbers, a row of bins for each frame of each batch. -/
def histogram : FVec Ideal S16x100x512 .f32 := sitofp .f32 (shapeCast S16x100x512 (counts A) shapeCasts_S819200_S16x100x512)

/-! ## The pixels -/

theorem flat_at (b : Fin 16) (ch : Fin 3) (q : Fin 129600) :
    flat A (ix3 b ch q : Cert.KernelIdeal.S16x3x129600.Idx) = A (ix5 b ch ⟨q.val / 1296, by omega⟩ ⟨q.val / 48 % 27, Nat.mod_lt _ (by omega)⟩ ⟨q.val % 48, Nat.mod_lt _ (by omega)⟩) := by
  unfold flat
  pointwise

theorem pixels_at (f : Fin 1600) (p : Fin 1296) (ch : Fin 3) :
    pixels A (ix3 f p ch : S1600x1296x3.Idx) = xAt (flat A) (f.val / 100) ch.val (f.val % 100 * 1296 + p.val) := by
  have hp := p.isLt
  refine Eq.trans ?_ (xAt_of (flat A) (ix3 ⟨f.val / 100, by omega⟩ ch ⟨f.val % 100 * 1296 + p.val, by omega⟩) (b := f.val / 100) (ch := ch.val) (p := f.val % 100 * 1296 + p.val) rfl rfl rfl)
  rw [flat_at]
  unfold pixels
  pointwise
  have h1 : (f.val % 100 * 1296 + p.val) / 1296 = f.val % 100 := by omega
  have h2 : (f.val % 100 * 1296 + p.val) / 48 % 27 = p.val / 48 := by omega
  have h3 : (f.val % 100 * 1296 + p.val) % 48 = p.val % 48 := by omega
  simp only [h1, h2, h3]

theorem red_at (f : Fin 1600) (p : Fin 1296) : red A (ix2 f p : S1600x1296.Idx) = xAt (flat A) (f.val / 100) 0 (f.val % 100 * 1296 + p.val) := by
  refine Eq.trans ?_ (pixels_at A f p 0); unfold red; generalize pixels A = v; pointwise
theorem green_at (f : Fin 1600) (p : Fin 1296) : green A (ix2 f p : S1600x1296.Idx) = xAt (flat A) (f.val / 100) 1 (f.val % 100 * 1296 + p.val) := by
  refine Eq.trans ?_ (pixels_at A f p 1); unfold green; generalize pixels A = v; pointwise
theorem blue_at (f : Fin 1600) (p : Fin 1296) : blue A (ix2 f p : S1600x1296.Idx) = xAt (flat A) (f.val / 100) 2 (f.val % 100 * 1296 + p.val) := by
  refine Eq.trans ?_ (pixels_at A f p 2); unfold blue; generalize pixels A = v; pointwise

/-! ## The places -/

/-- The place of pixel `q` of them all. -/
def placeOf (q : ℕ) : ℕ := q / 1296 * 512 + binAt (flat A) (q / 1296 / 100) (q / 1296 % 100 * 1296 + q % 1296)

theorem host6 : ∀ n : Fin 256, (IntOp.shli .host (IntOp.shrsi .host (BitVec.ofNat 32 n.val) 5#32) 6#32).toNat = n.val / 32 * 64 := by decide +kernel
theorem host3 : ∀ n : Fin 256, (IntOp.shli .host (IntOp.shrsi .host (BitVec.ofNat 32 n.val) 5#32) 3#32).toNat = n.val / 32 * 8 := by decide +kernel
theorem host5 : ∀ n : Fin 256, (IntOp.shrsi .host (BitVec.ofNat 32 n.val) 5#32).toNat = n.val / 32 := by decide +kernel
theorem host9 : ∀ n : Fin 1600, (IntOp.shli .host (BitVec.ofNat 32 n.val) 9#32).toNat = n.val * 512 := by decide +kernel

theorem segments_at (hX : InRange (flat A)) (f : Fin 1600) (p : Fin 1296) :
    (segments A (ix2 f p : S1600x1296.Idx)).toNat = f.val * 512 + binAt (flat A) (f.val / 100) (f.val % 100 * 1296 + p.val) := by
  have e : segments A (ix2 f p : S1600x1296.Idx)
      = IntOp.shli .host (IntOp.shrsi .host (red A (ix2 f p)) 5#32) 6#32 + IntOp.shli .host (IntOp.shrsi .host (green A (ix2 f p)) 5#32) 3#32
        + IntOp.shrsi .host (blue A (ix2 f p)) 5#32 + IntOp.shli .host (BitVec.ofNat 32 f.val) 9#32 := rfl
  rw [e, red_at, green_at, blue_at]
  have hb := binAt_lt hX (f.val / 100) (f.val % 100 * 1296 + p.val)
  unfold binAt at hb ⊢
  have hr := xAt_lt hX (f.val / 100) 0 (f.val % 100 * 1296 + p.val)
  have hg := xAt_lt hX (f.val / 100) 1 (f.val % 100 * 1296 + p.val)
  have hu := xAt_lt hX (f.val / 100) 2 (f.val % 100 * 1296 + p.val)
  generalize xAt (flat A) (f.val / 100) 0 (f.val % 100 * 1296 + p.val) = r at *
  generalize xAt (flat A) (f.val / 100) 1 (f.val % 100 * 1296 + p.val) = g at *
  generalize xAt (flat A) (f.val / 100) 2 (f.val % 100 * 1296 + p.val) = u at *
  obtain ⟨nr, er, er'⟩ := byte_eq hr
  obtain ⟨ng, eg, eg'⟩ := byte_eq hg
  obtain ⟨nb, eb, eb'⟩ := byte_eq hu
  have h6 := host6 nr; have h3 := host3 ng; have h5 := host5 nb; have h9 := host9 f
  rw [← er] at h6; rw [← eg] at h3; rw [← eb] at h5
  have := f.isLt
  simp only [BitVec.toNat_add, h6, h3, h5, h9]
  omega

theorem places_at (hX : InRange (flat A)) (q : Fin 2073600) : (places A (ix1 q : S2073600.Idx)).toNat = placeOf A q.val := by
  have e : places A (ix1 q : S2073600.Idx) = segments A (ix2 ⟨q.val / 1296, by omega⟩ ⟨q.val % 1296, Nat.mod_lt _ (by omega)⟩) := by
    unfold places; generalize segments A = v; pointwise
  rw [e, segments_at A hX]
  rfl

theorem placeOf_lt (hX : InRange (flat A)) (q : Fin 2073600) : placeOf A q.val < 819200 := by
  have := binAt_lt hX (q.val / 1296 / 100) (q.val / 1296 % 100 * 1296 + q.val % 1296)
  unfold placeOf; omega

theorem toInt_small (v : BitVec 32) (h : v.toNat < 819200) : v.toInt = (v.toNat : Int) := by
  rw [BitVec.toInt_eq_toNat_cond, if_pos (by omega)]

theorem wrapped_at (hX : InRange (flat A)) (q : Fin 2073600) : (wrapped A (ix1 q : S2073600.Idx)).toInt = (placeOf A q.val : Int) := by
  have h := places_at A hX q
  have hl := placeOf_lt A hX q
  have e : wrapped A (ix1 q : S2073600.Idx)
      = Scalar.select (IntOp.cmpi .slt (places A (ix1 q)) 0#32) (IntOp.addi (places A (ix1 q)) 819200#32) (places A (ix1 q)) := rfl
  rw [e]
  generalize places A (ix1 q) = v at *
  have hv : v.toInt = (v.toNat : Int) := toInt_small v (by omega)
  have hs : IntOp.cmpi .slt v 0#32 = 0#1 := by
    have : v.slt 0#32 = false := by
      rw [BitVec.slt, decide_eq_false_iff_not, hv]; simp
    simp [IntOp.cmpi, this]
  rw [hs]
  show v.toInt = _
  rw [hv, h]

end Cert.Proof

end
-- ==== Proof.RefCounts.lean ====
/-
  The reference's histogram is the count of each frame's pixels in each bin.
-/
module

public import proofs.«01_k».proof.Proof.RefBins

@[expose] public section

set_option maxRecDepth 16384

noncomputable section

namespace Cert.Proof

open Idealize.ShloMosaic Idealize.SL.Sem
open Cert.ReferenceIdeal Cert.ReferenceIdeal.Gen

/-- Adding one for every hit counts the hits. -/
theorem fold_ones {ι : Type} (hit : ι → Prop) [DecidablePred hit] (u : ι → BitVec 32) (hu : ∀ n, u n = 1#32) (l : List ι) (z : ℕ) :
    l.foldl (fun a n => if hit n then IntOp.addi a (u n) else a) (BitVec.ofNat 32 z) = BitVec.ofNat 32 (z + l.countP fun n => decide (hit n)) := by
  induction l generalizing z with
  | nil => simp
  | cons n l ih =>
    rw [List.foldl_cons, List.countP_cons]
    by_cases h : hit n
    · rw [if_pos h, hu, show IntOp.addi (BitVec.ofNat 32 z) 1#32 = BitVec.ofNat 32 (z + 1) from (BitVec.ofNat_add ..).symm, ih]
      simp only [h, decide_true, if_true]
      congr 1; omega
    · rw [if_neg h, ih]
      simp [h]

/-- An update lands at the place its index names. -/
theorem one_lands (idx : S2073600x1.Idx → BitVec 32) (q : Fin 2073600) (x : Fin 819200) :
    scatter_S819200_S2073600x1_S2073600_n_0_0_1.resultIdx? (ix1 q : S2073600.Idx) idx = some (ix1 x : S819200.Idx) ↔ (idx (ix2 q 0)).toInt = (x.val : Int) := by
  rw [Routing.resultIdx?_eq_some]
  have s0 : scatter_S819200_S2073600x1_S2073600_n_0_0_1.start (ix1 q : S2073600.Idx) idx 0 = (idx (ix2 q 0)).toInt := by
    show (idx _).toInt = _
    refine congrArg (fun i => (idx i).toInt) (funext fun a => ?_)
    match a with
    | ⟨0, _⟩ => rfl
    | ⟨1, _⟩ => rfl
  have w0 : scatter_S819200_S2073600x1_S2073600_n_0_0_1.window (ix1 q : S2073600.Idx) 0 = 0 := rfl
  constructor
  · intro h
    have h0 := h 0
    rw [s0, w0] at h0
    change _ + (0 : Int) = (x.val : Int) at h0
    omega
  · intro h a
    match a with
    | ⟨0, _⟩ =>
      show scatter_S819200_S2073600x1_S2073600_n_0_0_1.start (ix1 q : S2073600.Idx) idx 0 + (scatter_S819200_S2073600x1_S2073600_n_0_0_1.window (ix1 q : S2073600.Idx) 0 : Int) = (x.val : Int)
      rw [s0, w0]; omega

/-- Hits all in one stretch are counted there. -/
theorem count_stretch (p : ℕ → Prop) [DecidablePred p] (a n r : ℕ) (hp : ∀ i, p i → a ≤ i ∧ i < a + n) :
    Nat.count p (a + n + r) = Nat.count (fun i => p (a + i)) n := by
  rw [Nat.count_add, Nat.count_add]
  have h1 : Nat.count p a = 0 := by
    rw [Nat.count_eq_card_filter_range, Finset.card_eq_zero, Finset.filter_eq_empty_iff]
    intro i hi h
    have := hp i h; have := Finset.mem_range.1 hi; omega
  have h2 : Nat.count (fun k => p (a + n + k)) r = 0 := by
    rw [Nat.count_eq_card_filter_range, Finset.card_eq_zero, Finset.filter_eq_empty_iff]
    intro i hi h
    have := hp _ h; omega
  rw [h1, h2]; omega

variable (A : S16x3x100x27x48.Idx → BitVec 32)

theorem counts_at (hX : InRange (flat A)) (f : Fin 1600) (k : Fin 512) :
    counts A (ix1 ⟨f.val * 512 + k.val, by omega⟩ : S819200.Idx) = BitVec.ofNat 32 (hits (flat A) (f.val / 100) (f.val % 100) k.val) := by
  have hf := f.isLt
  have hk := k.isLt
  unfold counts
  rw [Routing.scatter_at]
  have hl : ∀ n : Fin S2073600.numel, scatter_S819200_S2073600x1_S2073600_n_0_0_1.resultIdx? (S2073600.rowMajor.symm n)
      (broadcastInDim S2073600x1 ![0] bcast_S2073600_S2073600x1_0 (wrapped A)) = some (ix1 ⟨f.val * 512 + k.val, by omega⟩ : S819200.Idx)
      ↔ placeOf A n.val = f.val * 512 + k.val := fun n => by
    obtain ⟨q, hq⟩ : ∃ q : Fin 2073600, S2073600.rowMajor.symm n = ix1 q := ⟨_, eq_ix1 _⟩
    have hn : q.val = n.val := by
      have h := Shape.rowMajor_val_one (ix1 q : S2073600.Idx)
      rw [← hq, Equiv.apply_symm_apply, hq] at h
      exact h.symm
    have e : broadcastInDim S2073600x1 ![0] bcast_S2073600_S2073600x1_0 (wrapped A) (ix2 q 0 : S2073600x1.Idx) = wrapped A (ix1 q) := by
      generalize wrapped A = v
      pointwise
    rw [hq, one_lands, e, wrapped_at A hX, hn]
    exact Int.natCast_inj
  simp only [hl]
  refine (fold_ones (fun n : Fin S2073600.numel => placeOf A n.val = f.val * 512 + k.val) _ (fun _ => rfl) _ 0).trans ?_
  rw [Nat.zero_add, Routing.countP_finRange _ (fun i => placeOf A i = f.val * 512 + k.val)]
  refine congrArg (BitVec.ofNat 32) ?_
  have hN : S2073600.numel = f.val * 1296 + 1296 + (1599 - f.val) * 1296 := by
    rw [show S2073600.numel = 2073600 from Shape.numel_rank1 _]; omega
  have key : ∀ i, placeOf A i = f.val * 512 + k.val ↔ i / 1296 = f.val ∧ binAt (flat A) (f.val / 100) (f.val % 100 * 1296 + i % 1296) = k.val := fun i => by
    have hb := binAt_lt hX (i / 1296 / 100) (i / 1296 % 100 * 1296 + i % 1296)
    unfold placeOf
    constructor
    · intro h
      have h1 : i / 1296 = f.val := by omega
      rw [h1] at h hb
      exact ⟨h1, by omega⟩
    · rintro ⟨h1, h2⟩
      rw [h1, h2]
  rw [hN, count_stretch _ _ _ _ fun i h => by
    have := (key i).1 h; omega]
  unfold hits
  rw [Nat.count_eq_card_filter_range, Nat.count_eq_card_filter_range]
  refine congrArg Finset.card (Finset.filter_congr fun i hi => ?_)
  have := Finset.mem_range.1 hi
  rw [key, show (f.val * 1296 + i) / 1296 = f.val by omega, show (f.val * 1296 + i) % 1296 = i by omega]
  exact and_iff_right rfl

theorem hits_le (X : Cert.KernelIdeal.S16x3x129600.Idx → BitVec 32) (b t k : ℕ) : hits X b t k ≤ 1296 := Nat.count_le _

/-- The histogram holds the counts. -/
theorem histogram_at (hX : InRange (flat A)) (b : Fin 16) (t : Fin 100) (k : Fin 512) :
    histogram A (ix3 b t k : S16x100x512.Idx) = tally (flat A) b.val t.val k := by
  have e : shapeCast S16x100x512 (counts A) shapeCasts_S819200_S16x100x512 (ix3 b t k : S16x100x512.Idx)
      = BitVec.ofNat 32 (hits (flat A) b.val t.val k.val) := by
    have h := counts_at A hX ⟨b.val * 100 + t.val, by omega⟩ k
    have hb := b.isLt
    have ht := t.isLt
    simp only [show (b.val * 100 + t.val) / 100 = b.val by omega, show (b.val * 100 + t.val) % 100 = t.val by omega] at h
    rw [← h]
    generalize counts A = v
    pointwise
    refine congrArg (fun q : Fin 819200 => v (ix1 q)) (Fin.ext ?_)
    show b.val * 51200 + t.val * 512 + k.val = (b.val * 100 + t.val) * 512 + k.val
    omega
  show Scalar.sitofp (F := Ideal) .f32 (shapeCast S16x100x512 (counts A) shapeCasts_S819200_S16x100x512 (ix3 b t k)) = _
  have hl := hits_le (flat A) b.val t.val k.val
  have hn : (BitVec.ofNat 32 (hits (flat A) b.val t.val k.val)).toNat = hits (flat A) b.val t.val k.val := by
    rw [BitVec.toNat_ofNat, Nat.mod_eq_of_lt (by omega)]
  rw [e, Ideal.scalar_sitofp_def, toInt_small _ (by omega), hn, Int.cast_natCast]
  rfl

end Cert.Proof

end
-- ==== Proof.RefValue.lean ====
/-
  The reference's result, entry by entry: its rows of counts are divided by their lengths, multiplied with one another,
  padded with zeros, read through a window, and put through the linear layer.
-/
module

public import proofs.«01_k».proof.Proof.RefCounts

@[expose] public section

set_option maxRecDepth 16384

noncomputable section

namespace Cert.Proof

open Idealize.ShloMosaic Idealize.SL.Sem
open Cert.ReferenceIdeal Cert.ReferenceIdeal.Gen

/-- Rows divided by their lengths. -/
def unitRows (h : FVec Ideal S16x100x512 .f32) : FVec Ideal S16x100x512 .f32 :=
  Host.divf h (broadcastInDim S16x100x512 ![0, 1, 2] bcast_S16x100x1_S16x100x512_0_1_2 (Host.sqrt (broadcastInDim S16x100x1 ![0, 1] bcast_S16x100_S16x100x1_0_1 (Host.reduceAdd (mulf h h) (constant S_ .f32 0x00000000#32) reducesTo_S16x100x512_S16x100_d2 h_S_))))

/-- The products of a batch's rows. -/
def products (u : FVec Ideal S16x100x512 .f32) : FVec Ideal S16x100x100 .f32 :=
  Host.dotGeneral dot_S16x100x512_S16x100x512_S16x100x100_2_2_1_1_0_0 none u u

/-- The products between zeros. -/
def widened (g : FVec Ideal S16x100x100 .f32) : FVec Ideal S16x100x200 .f32 :=
  pad S16x100x200 ![0, 0, 50] ![0, 0, 50] ![0, 0, 0] g (sitofp .f32 (constantI S_ 32 0#32)) pads_S16x100x100_S16x100x200_000_000_50500 h_S_

/-- The row each window entry reads. -/
def windowRows : IVec S100x101x1 32 :=
  broadcastInDim S100x101x1 ![0, 1] bcast_S100x101_S100x101x1_0_1 (broadcastInDim S100x101 ![0, 1] bcast_S100x1_S100x101_0_1 (select (cmpi .slt (broadcastInDim S100x1 ![0] bcast_S100_S100x1_0 (iotaInDim S100 32 0)) (broadcastInDim S100x1 ![] bcast_S_S100x1 (constantI S_ 32 0#32))) (addi (broadcastInDim S100x1 ![0] bcast_S100_S100x1_0 (iotaInDim S100 32 0)) (broadcastInDim S100x1 ![] bcast_S_S100x1 (constantI S_ 32 100#32))) (broadcastInDim S100x1 ![0] bcast_S100_S100x1_0 (iotaInDim S100 32 0))))

/-- A row's number plus a place in the window. -/
def rowPlus : IVec S100x101 32 :=
  addi (broadcastInDim S100x101 ![0, 1] bcast_S100x1_S100x101_0_1 (broadcastInDim S100x1 ![0] bcast_S100_S100x1_0 (iotaInDim S100 32 0))) (broadcastInDim S100x101 ![0, 1] bcast_S1x101_S100x101_0_1 (broadcastInDim S1x101 ![1] bcast_S101_S1x101_1 (iotaInDim S101 32 0)))

/-- The column each window entry reads. -/
def windowCols : IVec S100x101x1 32 :=
  broadcastInDim S100x101x1 ![0, 1] bcast_S100x101_S100x101x1_0_1 (select (cmpi .slt rowPlus (broadcastInDim S100x101 ![] bcast_S_S100x101 (constantI S_ 32 0#32))) (addi rowPlus (broadcastInDim S100x101 ![] bcast_S_S100x101 (constantI S_ 32 200#32))) rowPlus)

/-- Both. -/
def windowCells : IVec S100x101x2 32 :=
  concatenate S100x101x2 2 [⟨S100x101x1, windowRows⟩, ⟨S100x101x1, windowCols⟩] concatenates_S100x101x1_S100x101x1_S100x101x2_d2

/-- The windows. -/
def windows (p : FVec Ideal S16x100x200 .f32) : FVec Ideal S16x100x101 .f32 :=
  Host.gather gather_S16x100x200_S100x101x2_S16x100x101_0_12_n_n_12_2_1611 p windowCells

/-- The linear layer. -/
def layer (p : FVec Ideal S16x100x101 .f32) (W : FVec Ideal S128x101 .f32) (B : FVec Ideal S128 .f32) : FVec Ideal S16x100x128 .f32 :=
  maximumf (addf (Host.dotGeneral dot_S16x100x101_S101x128_S16x100x128_2_0_01_1_n_n none p (transpose S101x128 [1, 0] W transposes_S128x101_S101x128_1_0)) (broadcastInDim S16x100x128 ![0, 1, 2] bcast_S1x1x128_S16x100x128_0_1_2 (broadcastInDim S1x1x128 ![2] bcast_S128_S1x1x128_2 B))) (broadcastInDim S16x100x128 ![] bcast_S_S16x100x128 (constant S_ .f32 0x00000000#32))

/-- The reference's result. -/
def refOut (A : S16x3x100x27x48.Idx → BitVec 32) (W : FVec Ideal S128x101 .f32) (B : FVec Ideal S128 .f32) : FVec Ideal S16x100x128 .f32 :=
  layer (windows (widened (products (unitRows (histogram A))))) W B

theorem unitRows_at (h : FVec Ideal S16x100x512 .f32) (b : Fin 16) (t : Fin 100) (k : Fin 512) :
    unitRows h (ix3 b t k : S16x100x512.Idx) = Ideal.div (h (ix3 b t k)) (Ideal.sqrt (∑ j : Fin 512, h (ix3 b t j) * h (ix3 b t j))) := by
  unfold unitRows
  pointwise

theorem products_at (u : FVec Ideal S16x100x512 .f32) (b : Fin 16) (t s : Fin 100) :
    products u (ix3 b t s : S16x100x100.Idx) = ∑ k : Fin 512, u (ix3 b t k) * u (ix3 b s k) := by
  unfold products
  pointwise

theorem widened_at (g : FVec Ideal S16x100x100 .f32) (b : Fin 16) (t : Fin 100) (j : Fin 200) :
    widened g (ix3 b t j : S16x100x200.Idx) = window (fun s => g (ix3 b t s)) j.val := by
  unfold widened
  pointwise
  have hj := j.isLt
  unfold window
  by_cases h : 50 ≤ j.val ∧ j.val < 150
  · rw [dif_pos (show 50 ≤ j.val ∧ j.val - 50 < 100 by omega), dif_pos h]
  · rw [dif_neg (show ¬(50 ≤ j.val ∧ j.val - 50 < 100) by omega), dif_neg h]
    show (((0#32).toInt : ℝ) : EReal) = 0
    simp

theorem layer_at (p : FVec Ideal S16x100x101 .f32) (W : FVec Ideal S128x101 .f32) (B : FVec Ideal S128 .f32) (b : Fin 16) (t : Fin 100) (o : Fin 128) :
    layer p W B (ix3 b t o : S16x100x128.Idx) = max (∑ w : Fin 101, p (ix3 b t w) * W (ix2 o w) + B (ix1 o)) 0 := by
  unfold layer
  pointwise

/-- Small numbers are not negative, so a wrap leaves them. -/
theorem unwrapped (n : ℕ) (hn : n < 1000) (u : BitVec 32) :
    Scalar.select (IntOp.cmpi CmpIPredicate.slt (BitVec.ofNat 32 n) 0#32) u (BitVec.ofNat 32 n) = BitVec.ofNat 32 n := by
  have : (BitVec.ofNat 32 n).slt 0#32 = false := by
    rw [BitVec.slt_eq_decide, show (0#32).toInt = 0 from rfl, decide_eq_false_iff_not, BitVec.toInt_eq_toNat_cond, BitVec.toNat_ofNat]
    split <;> omega
  simp [Scalar.select, IntOp.cmpi, this]

theorem windowRows_at (t : Fin 100) (w : Fin 101) : windowRows (ix3 t w 0 : S100x101x1.Idx) = BitVec.ofNat 32 t.val := by
  unfold windowRows
  pointwise
  exact unwrapped _ (by omega) _

theorem rowPlus_at (t : Fin 100) (w : Fin 101) : rowPlus (ix2 t w : S100x101.Idx) = BitVec.ofNat 32 (t.val + w.val) := by
  unfold rowPlus
  pointwise
  exact (BitVec.ofNat_add ..).symm

theorem windowCols_at (t : Fin 100) (w : Fin 101) : windowCols (ix3 t w 0 : S100x101x1.Idx) = BitVec.ofNat 32 (t.val + w.val) := by
  unfold windowCols
  generalize e : rowPlus = v
  pointwise
  rw [← e, rowPlus_at]
  exact unwrapped _ (by omega) _

theorem cell_row (t : Fin 100) (w : Fin 101) : windowCells (ix3 t w 0 : S100x101x2.Idx) = BitVec.ofNat 32 t.val := by
  rw [← windowRows_at t w]
  unfold windowCells
  generalize windowRows = r
  generalize windowCols = c
  pointwise

theorem cell_col (t : Fin 100) (w : Fin 101) : windowCells (ix3 t w 1 : S100x101x2.Idx) = BitVec.ofNat 32 (t.val + w.val) := by
  rw [← windowCols_at t w]
  unfold windowCells
  generalize windowRows = r
  generalize windowCols = c
  pointwise

theorem toInt_toNat_small (n : ℕ) (hn : n < 1000) : (BitVec.ofNat 32 n).toInt.toNat = n := by
  rw [BitVec.toInt_eq_toNat_cond, BitVec.toNat_ofNat]
  split <;> omega

/-- A window's entry is the padded product that many columns on. -/
theorem windows_at (p : FVec Ideal S16x100x200 .f32) (b : Fin 16) (t : Fin 100) (w : Fin 101) :
    windows p (ix3 b t w : S16x100x101.Idx) = p (ix3 b t (⟨t.val + w.val, by omega⟩ : Fin 200)) := by
  have s1 : gather_S16x100x200_S100x101x2_S16x100x101_0_12_n_n_12_2_1611.start (ix3 b t w : S16x100x101.Idx) windowCells 1 = t.val := by
    refine (congrArg (fun i => min (windowCells i).toInt.toNat 99) (?_ : _ = (ix3 t w 0 : S100x101x2.Idx))).trans ?_
    · funext a
      match a with
      | ⟨0, _⟩ => rfl
      | ⟨1, _⟩ => rfl
      | ⟨2, _⟩ => rfl
    show min (windowCells (ix3 t w 0 : S100x101x2.Idx)).toInt.toNat 99 = _
    rw [cell_row, toInt_toNat_small _ (by omega)]
    omega
  have s2 : gather_S16x100x200_S100x101x2_S16x100x101_0_12_n_n_12_2_1611.start (ix3 b t w : S16x100x101.Idx) windowCells 2 = t.val + w.val := by
    refine (congrArg (fun i => min (windowCells i).toInt.toNat 199) (?_ : _ = (ix3 t w 1 : S100x101x2.Idx))).trans ?_
    · funext a
      match a with
      | ⟨0, _⟩ => rfl
      | ⟨1, _⟩ => rfl
      | ⟨2, _⟩ => rfl
    show min (windowCells (ix3 t w 1 : S100x101x2.Idx)).toInt.toNat 199 = _
    rw [cell_col, toInt_toNat_small _ (by omega)]
    omega
  have b2 : gather_S16x100x200_S100x101x2_S16x100x101_0_12_n_n_12_2_1611.batchCoord (ix3 b t w : S16x100x101.Idx) 2 = 0 := rfl
  have o2 : gather_S16x100x200_S100x101x2_S16x100x101_0_12_n_n_12_2_1611.offCoord (ix3 b t w : S16x100x101.Idx) 2 = 0 := rfl
  unfold windows Host.gather
  refine congrArg p (funext fun a => Fin.ext ?_)
  match a with
  | ⟨0, _⟩ =>
    show 0 + 0 + b.val = b.val
    omega
  | ⟨1, _⟩ => exact Eq.trans (b := gather_S16x100x200_S100x101x2_S16x100x101_0_12_n_n_12_2_1611.start (ix3 b t w : S16x100x101.Idx) windowCells 1) rfl s1
  | ⟨2, _⟩ =>
    show gather_S16x100x200_S100x101x2_S16x100x101_0_12_n_n_12_2_1611.start (ix3 b t w : S16x100x101.Idx) windowCells 2
      + gather_S16x100x200_S100x101x2_S16x100x101_0_12_n_n_12_2_1611.batchCoord (ix3 b t w : S16x100x101.Idx) 2
      + gather_S16x100x200_S100x101x2_S16x100x101_0_12_n_n_12_2_1611.offCoord (ix3 b t w : S16x100x101.Idx) 2 = t.val + w.val
    rw [s2, b2, o2]
    exact Nat.add_zero _

/-- The reference's result is the mathematics. -/
theorem refOut_at (A : S16x3x100x27x48.Idx → BitVec 32) (W : FVec Ideal S128x101 .f32) (B : FVec Ideal S128 .f32) (hX : InRange (flat A)) (b : Fin 16) (t : Fin 100) (o : Fin 128) :
    refOut A W B (ix3 b t o : S16x100x128.Idx) = answer (flat A) (fun o w => W (ix2 o w)) (fun o => B (ix1 o)) b.val t o := by
  have hu : ∀ (s : Fin 100) (k : Fin 512), unitRows (histogram A) (ix3 b s k : S16x100x512.Idx) = unit (flat A) b.val s.val k := by
    intro s k
    rw [unitRows_at]
    simp only [histogram_at A hX]
    rfl
  have hs : ∀ s : Fin 100, products (unitRows (histogram A)) (ix3 b t s : S16x100x100.Idx) = sim (flat A) b.val t.val s.val := by
    intro s
    rw [products_at]
    simp only [hu]
    rfl
  unfold refOut
  rw [layer_at]
  simp only [windows_at, widened_at, hs]
  rfl

theorem res_eq (m : (ℓ : Loc nD τ sig) → Buf (Elt Ideal) ℓ) (c : Dev nD) :
    Cert.ReferenceIdeal.Value.res_main_v72 m c = refOut (m ((c.tc : Thread nD τ).loc main_arg0)) (m ((c.tc : Thread nD τ).loc main_arg1)) (m ((c.tc : Thread nD τ).loc main_arg2)) := by
  rfl

end Cert.Proof
-- ==== Proof.Algebraic.lean ====
/-
  The value claim: from frames whose colours are in range both programs end with the same result, the mathematics of
  `Spec.lean` at every entry.
-/
module

public import proofs.«01_k».proof.Proof.Frames
public import proofs.«01_k».proof.Proof.KernelValue
public import proofs.«01_k».proof.Proof.RefValue

@[expose] public section

noncomputable section

namespace Cert.Proof

open Idealize.ShloMosaic Idealize.SL.Sem
open Cert.KernelIdeal

/-- From the same arguments the reference's result is the kernel's. -/
theorem results_eq (m : (ℓ : Loc nD τ sig) → Buf (Elt Ideal) ℓ)
    (m' : (ℓ : Loc Cert.ReferenceIdeal.nD Cert.ReferenceIdeal.τ Cert.ReferenceIdeal.sig) → Buf (Elt Ideal) ℓ) (hX : ∀ d, InRange (frames m d)) (c : Dev nD)
    (h0 : m' ((c.tc : Thread Cert.ReferenceIdeal.nD Cert.ReferenceIdeal.τ).loc Cert.ReferenceIdeal.main_arg0) = m ((SparseCore.T c).loc main_arg0))
    (h1 : m' ((c.tc : Thread Cert.ReferenceIdeal.nD Cert.ReferenceIdeal.τ).loc Cert.ReferenceIdeal.main_arg1) = m ((SparseCore.T c).loc main_arg1))
    (h2 : m' ((c.tc : Thread Cert.ReferenceIdeal.nD Cert.ReferenceIdeal.τ).loc Cert.ReferenceIdeal.main_arg2) = m ((SparseCore.T c).loc main_arg2)) :
    Cert.ReferenceIdeal.Value.res_main_v72 m' c = tailOut (F := Ideal) (valIn m) c := by
  rw [res_eq, h0, h1, h2]
  have hf : flat (m ((SparseCore.T c).loc main_arg0)) = frames m c := (frames_eq m c).symm
  funext i
  obtain ⟨b, t, o, rfl⟩ : ∃ (b : Fin 16) (t : Fin 100) (o : Fin 128), i = ix3 b t o := ⟨i 0, i 1, i 2, eq_ix3 i⟩
  refine (refOut_at _ _ _ (by rw [hf]; exact hX c) b t o).trans ?_
  rw [hf]
  exact (kernel_at m c (hX c) b t o).symm

theorem algebraic : Cert.algebraic_KernelIdeal_ReferenceIdeal (hKernelIdeal := Cert.KernelIdeal.Gen.facts) (hReferenceIdeal := Cert.ReferenceIdeal.Gen.facts) (hPre_colours := colours_facts) := by
  intro m g m' g' hpre hargs
  have hX : ∀ d, InRange (frames m d) := inRange_of_pre m hpre
  refine ⟨fun c => tailOut (F := Ideal) (valIn m) c, ?_, ?_⟩
  · exact (θ_run (Cert.KernelIdeal.defs (F := Ideal)) _ _).mono (fun _ h c => ⟨(h.1 c).2.2.2, (h.1 c).1, (h.1 c).2.1, (h.1 c).2.2.1⟩) (run_main (F := Ideal) m g hX)
  · exact (θ_run (Cert.ReferenceIdeal.defs (F := Ideal)) _ _).mono
      (fun _ h c => ⟨(h c).1.trans (results_eq m m' hX c (hargs c).1 (hargs c).2.1 (hargs c).2.2), (h c).2⟩)
      (Cert.ReferenceIdeal.Value.run (F := Ideal) m' g')

end Cert.Proof
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  colours_facts, frame_kernel, frame_ideal, frame_reference,
  fun m g _ => frame_reference m g trivial, trivial, algebraic⟩

end Cert.Proof

end
